-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_scores [hPre_finite_scores : Cert.Pre_finite_scores.Facts] (m : (ℓ : Loc Cert.MixIdeal.nD Cert.MixIdeal.τ Cert.MixIdeal.sig) → Buf (Elt Ideal) ℓ) : Prop :=
  ∀ c : Dev Cert.MixIdeal.nD,
    (Cert.Pre_finite_scores.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_scores [hPre_finite_scores : Cert.Pre_finite_scores.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_scores.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixIdeal_pre_finite_scores [hMixIdeal : Cert.MixIdeal.Facts] [hPre_finite_scores : Cert.Pre_finite_scores.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_scores m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_MixReferenceIdeal_pre_finite_scores [hMixReferenceIdeal : Cert.MixReferenceIdeal.Facts] [hPre_finite_scores : Cert.Pre_finite_scores.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_scores m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def preserves_Kernel_KernelIdeal : Prop :=
  True

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)) →
    ∃ (v0 : (c : Dev Cert.MemIdeal.nD) → Buf (Elt Ideal) ((c.tc : Thread Cert.MemIdeal.nD Cert.MemIdeal.τ).loc Cert.MemIdeal.main_v6)) (v1 : (c : Dev Cert.MemIdeal.nD) → Buf (Elt Ideal) ((c.tc : Thread Cert.MemIdeal.nD Cert.MemIdeal.τ).loc Cert.MemIdeal.main_v8)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v6) = v0 c
          ∧ r.2.mem ((c.tc : Thread Cert.MemIdeal.nD Cert.MemIdeal.τ).loc Cert.MemIdeal.main_v8) = v1 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v4) = v0 c
          ∧ r.2.mem ((c.tc : Thread Cert.MemReferenceIdeal.nD Cert.MemReferenceIdeal.τ).loc Cert.MemReferenceIdeal.main_v5) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2_0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v15) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Mix_MixIdeal : Prop :=
  True

def algebraic_MixIdeal_MixReferenceIdeal_pre_finite_scores [hMixIdeal : Cert.MixIdeal.Facts] [hMixReferenceIdeal : Cert.MixReferenceIdeal.Facts] [hPre_finite_scores : Cert.Pre_finite_scores.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_finite_scores m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v314) = v0 c
          ∧ r.2.mem ((c.tc : Thread Cert.MixReferenceIdeal.nD Cert.MixReferenceIdeal.τ).loc Cert.MixReferenceIdeal.main_v315) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10))

def Claim : Prop :=
  ∃ (hKernel : Cert.Kernel.Facts) (hKernelIdeal : Cert.KernelIdeal.Facts) (hMem : Cert.Mem.Facts) (hMemIdeal : Cert.MemIdeal.Facts) (hMemReferenceIdeal : Cert.MemReferenceIdeal.Facts) (hProj : Cert.Proj.Facts) (hProjIdeal : Cert.ProjIdeal.Facts) (hProjReferenceIdeal : Cert.ProjReferenceIdeal.Facts) (hMix : Cert.Mix.Facts) (hMixIdeal : Cert.MixIdeal.Facts) (hMixReferenceIdeal : Cert.MixReferenceIdeal.Facts) (hPre_finite_scores : Cert.Pre_finite_scores.Facts),
    quiescent_Kernel (hKernel := hKernel)
    ∧ quiescent_KernelIdeal (hKernelIdeal := hKernelIdeal)
    ∧ quiescent_Mem (hMem := hMem)
    ∧ quiescent_MemIdeal (hMemIdeal := hMemIdeal)
    ∧ quiescent_MemReferenceIdeal (hMemReferenceIdeal := hMemReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Mix (hMix := hMix)
    ∧ quiescent_MixIdeal (hMixIdeal := hMixIdeal)
    ∧ quiescent_MixIdeal_pre_finite_scores (hMixIdeal := hMixIdeal) (hPre_finite_scores := hPre_finite_scores)
    ∧ quiescent_MixReferenceIdeal (hMixReferenceIdeal := hMixReferenceIdeal)
    ∧ quiescent_MixReferenceIdeal_pre_finite_scores (hMixReferenceIdeal := hMixReferenceIdeal) (hPre_finite_scores := hPre_finite_scores)
    ∧ preserves_Kernel_KernelIdeal
    ∧ preserves_Mem_MemIdeal
    ∧ algebraic_MemIdeal_MemReferenceIdeal (hMemIdeal := hMemIdeal) (hMemReferenceIdeal := hMemReferenceIdeal)
    ∧ preserves_Proj_ProjIdeal
    ∧ algebraic_ProjIdeal_ProjReferenceIdeal (hProjIdeal := hProjIdeal) (hProjReferenceIdeal := hProjReferenceIdeal)
    ∧ preserves_Mix_MixIdeal
    ∧ algebraic_MixIdeal_MixReferenceIdeal_pre_finite_scores (hMixIdeal := hMixIdeal) (hMixReferenceIdeal := hMixReferenceIdeal) (hPre_finite_scores := hPre_finite_scores)
-- ==== Pre_finite_scores.lean ====
abbrev S2x4096x2048 : Shape := ⟨3, ![2, 4096, 2048]⟩
abbrev S2x4096x6656 : Shape := ⟨3, ![2, 4096, 6656]⟩
abbrev S2x4096x1024 : Shape := ⟨3, ![2, 4096, 1024]⟩
abbrev S4x2x256x1024 : Shape := ⟨4, ![4, 2, 256, 1024]⟩
abbrev S31x512 : Shape := ⟨2, ![31, 512]⟩
abbrev S512 : Shape := ⟨1, ![512]⟩
abbrev S4x512x512 : Shape := ⟨3, ![4, 512, 512]⟩
abbrev S4x2048x2048 : Shape := ⟨3, ![4, 2048, 2048]⟩
abbrev S2048 : Shape := ⟨1, ![2048]⟩
abbrev S2x4096x512 : Shape := ⟨3, ![2, 4096, 512]⟩
abbrev S2x16x256x512 : Shape := ⟨4, ![2, 16, 256, 512]⟩
abbrev S1x2x256x512 : Shape := ⟨4, ![1, 2, 256, 512]⟩
abbrev S2x256x512 : Shape := ⟨3, ![2, 256, 512]⟩
abbrev S2x1x256x512 : Shape := ⟨4, ![2, 1, 256, 512]⟩
abbrev S_ : Shape := ⟨0, ![]⟩

class Facts : Prop where
  slices_S2x4096x6656_S2x4096x512_0_0_5632 : S2x4096x6656.Slices ![0, 0, 5632] S2x4096x512
  shapeCasts_S2x4096x512_S2x16x256x512 : S2x4096x512.ShapeCasts S2x16x256x512
  slices_S4x2x256x1024_S1x2x256x512_0_0_0_0 : S4x2x256x1024.Slices ![0, 0, 0, 0] S1x2x256x512
  shapeCasts_S1x2x256x512_S2x256x512 : S1x2x256x512.ShapeCasts S2x256x512
  bcast_S2x256x512_S2x1x256x512_0_2_3 : S2x256x512.BroadcastsInDim S2x1x256x512 (![0, 2, 3] : Fin 3 → Fin S2x1x256x512.rank)
  bcast_S_S2x16x256x512 : S_.BroadcastsInDim S2x16x256x512 (![] : Fin 0 → Fin S2x16x256x512.rank)
  bcast_S_S2x1x256x512 : S_.BroadcastsInDim S2x1x256x512 (![] : Fin 0 → Fin S2x1x256x512.rank)
  bcast_S2x1x256x512_S2x16x256x512_0_1_2_3 : S2x1x256x512.BroadcastsInDim S2x16x256x512 (![0, 1, 2, 3] : Fin 4 → Fin S2x16x256x512.rank)

variable [Facts]

def fn {F : FTy → Type} [FloatOps F] (main_arg0 : FVec F S2x4096x2048 .f32) (main_arg1 : FVec F S2x4096x6656 .f32) (main_arg2 : FVec F S2x4096x1024 .f32) (main_arg3 : FVec F S4x2x256x1024 .f32) (main_arg4 : FVec F S31x512 .f32) (main_arg5 : FVec F S512 .f32) (main_arg6 : FVec F S512 .f32) (main_arg7 : FVec F S512 .f32) (main_arg8 : FVec F S4x512x512 .bf16) (main_arg9 : FVec F S4x2048x2048 .bf16) (main_arg10 : FVec F S2048 .f32) : IVec S2x16x256x512 1 :=
  let main_v0 : FVec F S2x4096x512 .f32 := (extractStridedSlice S2x4096x512 ![0, 0, 5632] · slices_S2x4096x6656_S2x4096x512_0_0_5632) main_arg1
  let main_v1 : FVec F S2x16x256x512 .f32 := shapeCast S2x16x256x512 main_v0 shapeCasts_S2x4096x512_S2x16x256x512
  let main_v2 : FVec F S1x2x256x512 .f32 := (extractStridedSlice S1x2x256x512 ![0, 0, 0, 0] · slices_S4x2x256x1024_S1x2x256x512_0_0_0_0) main_arg3
  let main_v3 : FVec F S2x256x512 .f32 := shapeCast S2x256x512 main_v2 shapeCasts_S1x2x256x512_S2x256x512
  let main_v4 : FVec F S2x1x256x512 .f32 := broadcastInDim S2x1x256x512 ![0, 2, 3] bcast_S2x256x512_S2x1x256x512_0_2_3 main_v3
  let main_cst : FVec F S_ .f32 := constant S_ .f32 0x7F800000#32
  let main_v5 : FVec F S2x16x256x512 .f32 := broadcastInDim S2x16x256x512 ![] bcast_S_S2x16x256x512 main_cst
  let main_v6 : IVec S2x16x256x512 1 := cmpf .olt main_v1 main_v5
  let main_cst_0 : FVec F S_ .f32 := constant S_ .f32 0xFF800000#32
  let main_v7 : FVec F S2x16x256x512 .f32 := broadcastInDim S2x16x256x512 ![] bcast_S_S2x16x256x512 main_cst_0
  let main_v8 : IVec S2x16x256x512 1 := cmpf .ogt main_v1 main_v7
  let main_v9 : IVec S2x16x256x512 1 := andi main_v6 main_v8
  let main_cst_1 : FVec F S_ .f32 := constant S_ .f32 0x7F800000#32
  let main_v10 : FVec F S2x1x256x512 .f32 := broadcastInDim S2x1x256x512 ![] bcast_S_S2x1x256x512 main_cst_1
  let main_v11 : IVec S2x1x256x512 1 := cmpf .olt main_v4 main_v10
  let main_v12 : IVec S2x16x256x512 1 := broadcastInDim S2x16x256x512 ![0, 1, 2, 3] bcast_S2x1x256x512_S2x16x256x512_0_1_2_3 main_v11
  let main_v13 : IVec S2x16x256x512 1 := andi main_v9 main_v12
  let main_cst_2 : FVec F S_ .f32 := constant S_ .f32 0xFF800000#32
  let main_v14 : FVec F S2x1x256x512 .f32 := broadcastInDim S2x1x256x512 ![] bcast_S_S2x1x256x512 main_cst_2
  let main_v15 : IVec S2x1x256x512 1 := cmpf .ogt main_v4 main_v14
  let main_v16 : IVec S2x16x256x512 1 := broadcastInDim S2x16x256x512 ![0, 1, 2, 3] bcast_S2x1x256x512_S2x16x256x512_0_1_2_3 main_v15
  let main_v17 : IVec S2x16x256x512 1 := andi main_v13 main_v16
  main_v17
-- ==== Kernel.lean ====
abbrev S2x4096x6656 : Shape := ⟨3, ![2, 4096, 6656]⟩
abbrev S32x8 : Shape := ⟨2, ![32, 8]⟩
abbrev S513 : Shape := ⟨1, ![513]⟩
abbrev S129 : Shape := ⟨1, ![129]⟩
abbrev S768 : Shape := ⟨1, ![768]⟩
abbrev S384 : Shape := ⟨1, ![384]⟩
abbrev S_ : Shape := ⟨0, ![]⟩
abbrev S513x1 : Shape := ⟨2, ![513, 1]⟩
abbrev S513x8 : Shape := ⟨2, ![513, 8]⟩
abbrev S8x513 : Shape := ⟨2, ![8, 513]⟩
abbrev S1x513 : Shape := ⟨2, ![1, 513]⟩
abbrev S8x1 : Shape := ⟨2, ![8, 1]⟩
abbrev S8x514 : Shape := ⟨2, ![8, 514]⟩
abbrev S129x1 : Shape := ⟨2, ![129, 1]⟩
abbrev S129x8 : Shape := ⟨2, ![129, 8]⟩
abbrev S8x129 : Shape := ⟨2, ![8, 129]⟩
abbrev S1x129 : Shape := ⟨2, ![1, 129]⟩
abbrev S8x130 : Shape := ⟨2, ![8, 130]⟩
abbrev S768x1 : Shape := ⟨2, ![768, 1]⟩
abbrev S1 : Shape := ⟨1, ![1]⟩
abbrev S1x1 : Shape := ⟨2, ![1, 1]⟩
abbrev S8x768 : Shape := ⟨2, ![8, 768]⟩
abbrev S1x8x1x768 : Shape := ⟨4, ![1, 8, 1, 768]⟩
abbrev S1x8x128x768 : Shape := ⟨4, ![1, 8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S384x1 : Shape := ⟨2, ![384, 1]⟩
abbrev S8x384 : Shape := ⟨2, ![8, 384]⟩
abbrev S1x8x1x384 : Shape := ⟨4, ![1, 8, 1, 384]⟩
abbrev S1x8x128x384 : Shape := ⟨4, ![1, 8, 128, 384]⟩
abbrev S8x49152 : Shape := ⟨2, ![8, 49152]⟩
abbrev S8x49024 : Shape := ⟨2, ![8, 49024]⟩
abbrev S8x128x383 : Shape := ⟨3, ![8, 128, 383]⟩
abbrev S8x128x256 : Shape := ⟨3, ![8, 128, 256]⟩
abbrev S2x4096x1024 : Shape := ⟨3, ![2, 4096, 1024]⟩
abbrev S1x4096x128 : Shape := ⟨3, ![1, 4096, 128]⟩
abbrev S1x128x640 : Shape := ⟨3, ![1, 128, 640]⟩
abbrev S1x128x256 : Shape := ⟨3, ![1, 128, 256]⟩
abbrev S4096x128 : Shape := ⟨2, ![4096, 128]⟩
abbrev S4096x256 : Shape := ⟨2, ![4096, 256]⟩
abbrev S1x256x128 : Shape := ⟨3, ![1, 256, 128]⟩
abbrev S256x128 : Shape := ⟨2, ![256, 128]⟩
abbrev S1x1024x128 : Shape := ⟨3, ![1, 1024, 128]⟩
abbrev S1024x128 : Shape := ⟨2, ![1024, 128]⟩
abbrev S128x128 : Shape := ⟨2, ![128, 128]⟩
abbrev S1x128x128 : Shape := ⟨3, ![1, 128, 128]⟩
abbrev S128x256 : Shape := ⟨2, ![128, 256]⟩
abbrev S128 : Shape := ⟨1, ![128]⟩
abbrev S128x1 : Shape := ⟨2, ![128, 1]⟩
abbrev S256x256 : Shape := ⟨2, ![256, 256]⟩
abbrev S384x128 : Shape := ⟨2, ![384, 128]⟩
abbrev S128x384 : Shape := ⟨2, ![128, 384]⟩
abbrev S1x128x384 : Shape := ⟨3, ![1, 128, 384]⟩
abbrev S512x128 : Shape := ⟨2, ![512, 128]⟩
abbrev S128x512 : Shape := ⟨2, ![128, 512]⟩
abbrev S1x128x512 : Shape := ⟨3, ![1, 128, 512]⟩
abbrev S640x128 : Shape := ⟨2, ![640, 128]⟩
abbrev S128x640 : Shape := ⟨2, ![128, 640]⟩
abbrev S384x256 : Shape := ⟨2, ![384, 256]⟩
abbrev S512x256 : Shape := ⟨2, ![512, 256]⟩
abbrev S640x256 : Shape := ⟨2, ![640, 256]⟩

abbrev nBuf : Space → Nat
  | .hbm => 117
  | .vmem => 22
  | .smem => 0
  | _ => 0

abbrev bufTy : (tb : Table) → Fin (tcTables nBuf tb) → BufTy
  | .hbm, ⟨0, _⟩ => ⟨S2x4096x6656, .f32⟩
  | .hbm, ⟨1, _⟩ => ⟨S32x8, .f32⟩
  | .hbm, ⟨2, _⟩ => ⟨S513, .f32⟩
  | .hbm, ⟨3, _⟩ => ⟨S513, .i32⟩
  | .hbm, ⟨4, _⟩ => ⟨S513, .i1⟩
  | .hbm, ⟨5, _⟩ => ⟨S513, .i1⟩
  | .hbm, ⟨6, _⟩ => ⟨S129, .f32⟩
  | .hbm, ⟨7, _⟩ => ⟨S129, .i32⟩
  | .hbm, ⟨8, _⟩ => ⟨S129, .i1⟩
  | .hbm, ⟨9, _⟩ => ⟨S129, .i1⟩
  | .hbm, ⟨10, _⟩ => ⟨S768, .i32⟩
  | .hbm, ⟨11, _⟩ => ⟨S384, .i32⟩
  | .hbm, ⟨12, _⟩ => ⟨S513, .f32⟩
  | .hbm, ⟨13, _⟩ => ⟨S_, .i32⟩
  | .hbm, ⟨14, _⟩ => ⟨S513, .i32⟩
  | .hbm, ⟨15, _⟩ => ⟨S513, .i32⟩
  | .hbm, ⟨16, _⟩ => ⟨S513, .i32⟩
  | .hbm, ⟨17, _⟩ => ⟨S513x1, .i32⟩
  | .hbm, ⟨18, _⟩ => ⟨S513x8, .f32⟩
  | .hbm, ⟨19, _⟩ => ⟨S8x513, .f32⟩
  | .hbm, ⟨20, _⟩ => ⟨S1x513, .f32⟩
  | .hbm, ⟨21, _⟩ => ⟨S8x513, .f32⟩
  | .hbm, ⟨22, _⟩ => ⟨S8x513, .f32⟩
  | .hbm, ⟨23, _⟩ => ⟨S1x513, .i1⟩
  | .hbm, ⟨24, _⟩ => ⟨S_, .f32⟩
  | .hbm, ⟨25, _⟩ => ⟨S_, .f32⟩
  | .hbm, ⟨26, _⟩ => ⟨S8x513, .i1⟩
  | .hbm, ⟨27, _⟩ => ⟨S8x513, .f32⟩
  | .hbm, ⟨28, _⟩ => ⟨S8x513, .f32⟩
  | .hbm, ⟨29, _⟩ => ⟨S_, .f32⟩
  | .hbm, ⟨30, _⟩ => ⟨S8x1, .f32⟩
  | .hbm, ⟨31, _⟩ => ⟨S8x514, .f32⟩
  | .hbm, ⟨32, _⟩ => ⟨S129, .f32⟩
  | .hbm, ⟨33, _⟩ => ⟨S_, .i32⟩
  | .hbm, ⟨34, _⟩ => ⟨S129, .i32⟩
  | .hbm, ⟨35, _⟩ => ⟨S129, .i32⟩
  | .hbm, ⟨36, _⟩ => ⟨S129, .i32⟩
  | .hbm, ⟨37, _⟩ => ⟨S129x1, .i32⟩
  | .hbm, ⟨38, _⟩ => ⟨S129x8, .f32⟩
  | .hbm, ⟨39, _⟩ => ⟨S8x129, .f32⟩
  | .hbm, ⟨40, _⟩ => ⟨S1x129, .f32⟩
  | .hbm, ⟨41, _⟩ => ⟨S8x129, .f32⟩
  | .hbm, ⟨42, _⟩ => ⟨S8x129, .f32⟩
  | .hbm, ⟨43, _⟩ => ⟨S1x129, .i1⟩
  | .hbm, ⟨44, _⟩ => ⟨S_, .f32⟩
  | .hbm, ⟨45, _⟩ => ⟨S_, .f32⟩
  | .hbm, ⟨46, _⟩ => ⟨S8x129, .i1⟩
  | .hbm, ⟨47, _⟩ => ⟨S8x129, .f32⟩
  | .hbm, ⟨48, _⟩ => ⟨S8x129, .f32⟩
  | .hbm, ⟨49, _⟩ => ⟨S_, .f32⟩
  | .hbm, ⟨50, _⟩ => ⟨S8x1, .f32⟩
  | .hbm, ⟨51, _⟩ => ⟨S8x130, .f32⟩
  | .hbm, ⟨52, _⟩ => ⟨S_, .f32⟩
  | .hbm, ⟨53, _⟩ => ⟨S8x514, .f32⟩
  | .hbm, ⟨54, _⟩ => ⟨S8x514, .f32⟩
  | .hbm, ⟨55, _⟩ => ⟨S_, .i32⟩
  | .hbm, ⟨56, _⟩ => ⟨S768, .i32⟩
  | .hbm, ⟨57, _⟩ => ⟨S768, .i1⟩
  | .hbm, ⟨58, _⟩ => ⟨S_, .i32⟩
  | .hbm, ⟨59, _⟩ => ⟨S768, .i32⟩
  | .hbm, ⟨60, _⟩ => ⟨S768, .i32⟩
  | .hbm, ⟨61, _⟩ => ⟨S768, .i32⟩
  | .hbm, ⟨62, _⟩ => ⟨S768x1, .i32⟩
  | .hbm, ⟨63, _⟩ => ⟨S1, .i32⟩
  | .hbm, ⟨64, _⟩ => ⟨S_, .i32⟩
  | .hbm, ⟨65, _⟩ => ⟨S768x1, .i32⟩
  | .hbm, ⟨66, _⟩ => ⟨S768x1, .i1⟩
  | .hbm, ⟨67, _⟩ => ⟨S1x1, .i32⟩
  | .hbm, ⟨68, _⟩ => ⟨S768x1, .i32⟩
  | .hbm, ⟨69, _⟩ => ⟨S768x1, .i1⟩
  | .hbm, ⟨70, _⟩ => ⟨S768x1, .i1⟩
  | .hbm, ⟨71, _⟩ => ⟨S_, .i1⟩
  | .hbm, ⟨72, _⟩ => ⟨S768, .i1⟩
  | .hbm, ⟨73, _⟩ => ⟨S8x768, .f32⟩
  | .hbm, ⟨74, _⟩ => ⟨S8x768, .i1⟩
  | .hbm, ⟨75, _⟩ => ⟨S_, .f32⟩
  | .hbm, ⟨76, _⟩ => ⟨S8x768, .f32⟩
  | .hbm, ⟨77, _⟩ => ⟨S8x768, .f32⟩
  | .hbm, ⟨78, _⟩ => ⟨S1x8x1x768, .f32⟩
  | .hbm, ⟨79, _⟩ => ⟨S1x8x128x768, .f32⟩
  | .hbm, ⟨80, _⟩ => ⟨S8x98304, .f32⟩
  | .hbm, ⟨81, _⟩ => ⟨S8x98176, .f32⟩
  | .hbm, ⟨82, _⟩ => ⟨S8x128x767, .f32⟩
  | .hbm, ⟨83, _⟩ => ⟨S8x128x640, .f32⟩
  | .hbm, ⟨84, _⟩ => ⟨S_, .f32⟩
  | .hbm, ⟨85, _⟩ => ⟨S8x130, .f32⟩
  | .hbm, ⟨86, _⟩ => ⟨S8x130, .f32⟩
  | .hbm, ⟨87, _⟩ => ⟨S_, .i32⟩
  | .hbm, ⟨88, _⟩ => ⟨S384, .i32⟩
  | .hbm, ⟨89, _⟩ => ⟨S384, .i1⟩
  | .hbm, ⟨90, _⟩ => ⟨S_, .i32⟩
  | .hbm, ⟨91, _⟩ => ⟨S384, .i32⟩
  | .hbm, ⟨92, _⟩ => ⟨S384, .i32⟩
  | .hbm, ⟨93, _⟩ => ⟨S384, .i32⟩
  | .hbm, ⟨94, _⟩ => ⟨S384x1, .i32⟩
  | .hbm, ⟨95, _⟩ => ⟨S1, .i32⟩
  | .hbm, ⟨96, _⟩ => ⟨S_, .i32⟩
  | .hbm, ⟨97, _⟩ => ⟨S384x1, .i32⟩
  | .hbm, ⟨98, _⟩ => ⟨S384x1, .i1⟩
  | .hbm, ⟨99, _⟩ => ⟨S1x1, .i32⟩
  | .hbm, ⟨100, _⟩ => ⟨S384x1, .i32⟩
  | .hbm, ⟨101, _⟩ => ⟨S384x1, .i1⟩
  | .hbm, ⟨102, _⟩ => ⟨S384x1, .i1⟩
  | .hbm, ⟨103, _⟩ => ⟨S_, .i1⟩
  | .hbm, ⟨104, _⟩ => ⟨S384, .i1⟩
  | .hbm, ⟨105, _⟩ => ⟨S8x384, .f32⟩
  | .hbm, ⟨106, _⟩ => ⟨S8x384, .i1⟩
  | .hbm, ⟨107, _⟩ => ⟨S_, .f32⟩
  | .hbm, ⟨108, _⟩ => ⟨S8x384, .f32⟩
  | .hbm, ⟨109, _⟩ => ⟨S8x384, .f32⟩
  | .hbm, ⟨110, _⟩ => ⟨S1x8x1x384, .f32⟩
  | .hbm, ⟨111, _⟩ => ⟨S1x8x128x384, .f32⟩
  | .hbm, ⟨112, _⟩ => ⟨S8x49152, .f32⟩
  | .hbm, ⟨113, _⟩ => ⟨S8x49024, .f32⟩
  | .hbm, ⟨114, _⟩ => ⟨S8x128x383, .f32⟩
  | .hbm, ⟨115, _⟩ => ⟨S8x128x256, .f32⟩
  | .hbm, ⟨116, _⟩ => ⟨S2x4096x1024, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x128x640, .f32⟩
  | .local _ .vmem, ⟨7, _⟩ => ⟨S1x128x640, .f32⟩
  | .local _ .vmem, ⟨8, _⟩ => ⟨S1x128x256, .f32⟩
  | .local _ .vmem, ⟨9, _⟩ => ⟨S1x128x256, .f32⟩
  | .local _ .vmem, ⟨10, _⟩ => ⟨S1x4096x128, .f32⟩
  | .local _ .vmem, ⟨11, _⟩ => ⟨S1x4096x128, .f32⟩
  | .local _ .vmem, ⟨12, _⟩ => ⟨S4096x128, .bf16⟩
  | .local _ .vmem, ⟨13, _⟩ => ⟨S4096x128, .bf16⟩
  | .local _ .vmem, ⟨14, _⟩ => ⟨S4096x256, .bf16⟩
  | .local _ .vmem, ⟨15, _⟩ => ⟨S4096x128, .bf16⟩
  | .local _ .vmem, ⟨16, _⟩ => ⟨S4096x128, .bf16⟩
  | .local _ .vmem, ⟨17, _⟩ => ⟨S4096x256, .bf16⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | _, _ => ⟨S2x4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_cst_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_v0 : Ref sig .tc := ⟨.hbm, 12, rfl⟩
abbrev main_c_8 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_9 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v11 : Ref sig .tc := ⟨.hbm, 28, rfl⟩
abbrev main_cst_10 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_11 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_12 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_cst_13 : Ref sig .tc := ⟨.hbm, 49, rfl⟩
abbrev main_v26 : Ref sig .tc := ⟨.hbm, 50, rfl⟩
abbrev main_v27 : Ref sig .tc := ⟨.hbm, 51, rfl⟩
abbrev main_cst_14 : Ref sig .tc := ⟨.hbm, 52, rfl⟩
abbrev main_v28 : Ref sig .tc := ⟨.hbm, 53, rfl⟩
abbrev main_v29 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_15 : Ref sig .tc := ⟨.hbm, 84, rfl⟩
abbrev main_v37 : Ref sig .tc := ⟨.hbm, 85, rfl⟩
abbrev main_v38 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Mem.lean ====
abbrev S2x256x2048 : Shape := ⟨3, ![2, 256, 2048]⟩
abbrev S4x2048x1024 : Shape := ⟨3, ![4, 2048, 1024]⟩
abbrev S512x2048 : Shape := ⟨2, ![512, 2048]⟩
abbrev S_ : Shape := ⟨0, ![]⟩
abbrev S1x2048 : Shape := ⟨2, ![1, 2048]⟩
abbrev S4x512x1024 : Shape := ⟨3, ![4, 512, 1024]⟩
abbrev S1x2048x512 : Shape := ⟨3, ![1, 2048, 512]⟩
abbrev S1x512x512 : Shape := ⟨3, ![1, 512, 512]⟩
abbrev S2048x512 : Shape := ⟨2, ![2048, 512]⟩
abbrev S512x512 : Shape := ⟨2, ![512, 512]⟩
abbrev S4x2x256x1024 : Shape := ⟨4, ![4, 2, 256, 1024]⟩
abbrev S4x2x256x512 : Shape := ⟨4, ![4, 2, 256, 512]⟩
abbrev S4x2x256x4x128 : Shape := ⟨5, ![4, 2, 256, 4, 128]⟩

abbrev nBuf : Space → Nat
  | .hbm => 12
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S4x2048x1024, .f32⟩
  | .hbm, ⟨2, _⟩ => ⟨S4x2048x1024, .bf16⟩
  | .hbm, ⟨3, _⟩ => ⟨S512x2048, .f32⟩
  | .hbm, ⟨4, _⟩ => ⟨S_, .f32⟩
  | .hbm, ⟨5, _⟩ => ⟨S1x2048, .f32⟩
  | .hbm, ⟨6, _⟩ => ⟨S4x512x1024, .f32⟩
  | .hbm, ⟨7, _⟩ => ⟨S4x2x256x1024, .f32⟩
  | .hbm, ⟨8, _⟩ => ⟨S4x2x256x512, .f32⟩
  | .hbm, ⟨9, _⟩ => ⟨S4x2x256x4x128, .f32⟩
  | .hbm, ⟨10, _⟩ => ⟨S4x2x256x512, .f32⟩
  | .hbm, ⟨11, _⟩ => ⟨S4x2x256x4x128, .f32⟩
  | .local _ .vmem, ⟨0, _⟩ => ⟨S512x2048, .f32⟩
  | .local _ .vmem, ⟨1, _⟩ => ⟨S1x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x512x512, .f32⟩
  | .local _ .vmem, ⟨5, _⟩ => ⟨S1x512x512, .f32⟩
  | .local _ .vmem, ⟨6, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemReferenceIdeal.lean ====
abbrev S2x256x2048 : Shape := ⟨3, ![2, 256, 2048]⟩
abbrev S4x2048x1024 : Shape := ⟨3, ![4, 2048, 1024]⟩
abbrev S4x1024x2x256 : Shape := ⟨4, ![4, 1024, 2, 256]⟩
abbrev S4x2x256x1024 : Shape := ⟨4, ![4, 2, 256, 1024]⟩
abbrev S4x2x256x512 : Shape := ⟨4, ![4, 2, 256, 512]⟩
abbrev S4x2x256x4x128 : Shape := ⟨5, ![4, 2, 256, 4, 128]⟩

abbrev nBuf : Space → Nat
  | .hbm => 8
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x2048x1024, .f32⟩
  | .hbm, ⟨2, _⟩ => ⟨S4x1024x2x256, .f32⟩
  | .hbm, ⟨3, _⟩ => ⟨S4x2x256x1024, .f32⟩
  | .hbm, ⟨4, _⟩ => ⟨S4x2x256x512, .f32⟩
  | .hbm, ⟨5, _⟩ => ⟨S4x2x256x512, .f32⟩
  | .hbm, ⟨6, _⟩ => ⟨S4x2x256x4x128, .f32⟩
  | .hbm, ⟨7, _⟩ => ⟨S4x2x256x4x128, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proj.lean ====
abbrev S2x4096x2048 : Shape := ⟨3, ![2, 4096, 2048]⟩
abbrev S2048 : Shape := ⟨1, ![2048]⟩
abbrev S2048x6656 : Shape := ⟨2, ![2048, 6656]⟩
abbrev S8192x2048 : Shape := ⟨2, ![8192, 2048]⟩
abbrev S1x2048 : Shape := ⟨2, ![1, 2048]⟩
abbrev S8192x6656 : Shape := ⟨2, ![8192, 6656]⟩
abbrev S4x2x16384x128 : Shape := ⟨4, ![4, 2, 16384, 128]⟩
abbrev S1024x2048 : Shape := ⟨2, ![1024, 2048]⟩
abbrev S2048x512 : Shape := ⟨2, ![2048, 512]⟩
abbrev S1024x512 : Shape := ⟨2, ![1024, 512]⟩
abbrev S1x1x8192x128 : Shape := ⟨4, ![1, 1, 8192, 128]⟩
abbrev S1024 : Shape := ⟨1, ![1024]⟩
abbrev S1024x1 : Shape := ⟨2, ![1024, 1]⟩
abbrev S1024x128 : Shape := ⟨2, ![1024, 128]⟩
abbrev S1x1x1024x128 : Shape := ⟨4, ![1, 1, 1024, 128]⟩

abbrev nBuf : Space → Nat
  | .hbm => 8
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x6656, .bf16⟩
  | .hbm, ⟨3, _⟩ => ⟨S8192x2048, .f32⟩
  | .hbm, ⟨4, _⟩ => ⟨S1x2048, .f32⟩
  | .hbm, ⟨5, _⟩ => ⟨S8192x6656, .f32⟩
  | .hbm, ⟨6, _⟩ => ⟨S4x2x16384x128, .f32⟩
  | .hbm, ⟨7, _⟩ => ⟨S4x2x16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1x1x8192x128, .f32⟩
  | .local _ .vmem, ⟨8, _⟩ => ⟨S1x1x8192x128, .f32⟩
  | .local _ .vmem, ⟨9, _⟩ => ⟨S1x1x8192x128, .f32⟩
  | .local _ .vmem, ⟨10, _⟩ => ⟨S1x1x8192x128, .f32⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 13], ![false, false]⟩

def k0_cond2 (i : grid0.Coords) : BitVec 1 :=
  let arg0 : BitVec 32 := BitVec.ofNat 32 (i 0).val
  let c4_i32 : BitVec 32 := 4#32
  let c0_i32_6 : BitVec 32 := 0#32
  let v7 : BitVec 1 := Scalar.cmpi .eq c4_i32 c0_i32_6
  let c1_i32 : BitVec 32 := 1#32
  let v8 : BitVec 32 := Scalar.select v7 c1_i32 c4_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let c2_i32 : BitVec 32 := 2#32
  let v17 : BitVec 1 := Scalar.cmpi .sge v16 c2_i32
  let arg1 : BitVec 32 := BitVec.ofNat 32 (i 1).val
  let c2_i32_10 : BitVec 32 := 2#32
  let v18 : BitVec 1 := Scalar.cmpi .eq arg1 c2_i32_10
  let v19 : BitVec 1 := Scalar.andi v17 v18
  let v20 : BitVec 32 := Scalar.extui v19
  let c0_i32_11 : BitVec 32 := 0#32
  let v21 : BitVec 1 := Scalar.cmpi .ne v20 c0_i32_11
  v21

def k0_cond3 (i : grid0.Coords) : BitVec 1 :=
  let arg0 : BitVec 32 := BitVec.ofNat 32 (i 0).val
  let c4_i32 : BitVec 32 := 4#32
  let c0_i32_6 : BitVec 32 := 0#32
  let v7 : BitVec 1 := Scalar.cmpi .eq c4_i32 c0_i32_6
  let c1_i32 : BitVec 32 := 1#32
  let v8 : BitVec 32 := Scalar.select v7 c1_i32 c4_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let c2_i32 : BitVec 32 := 2#32
  let v17 : BitVec 1 := Scalar.cmpi .sge v16 c2_i32
  let arg1 : BitVec 32 := BitVec.ofNat 32 (i 1).val
  let c3_i32 : BitVec 32 := 3#32
  let v22 : BitVec 1 := Scalar.cmpi .eq arg1 c3_i32
  let v23 : BitVec 1 := Scalar.andi v17 v22
  let v24 : BitVec 32 := Scalar.extui v23
  let c0_i32_12 : BitVec 32 := 0#32
  let v25 : BitVec 1 := Scalar.cmpi .ne v24 c0_i32_12
  v25

def k0_cond4 (i : grid0.Coords) : BitVec 1 :=
  let arg0 : BitVec 32 := BitVec.ofNat 32 (i 0).val
  let c4_i32 : BitVec 32 := 4#32
  let c0_i32_6 : BitVec 32 := 0#32
  let v7 : BitVec 1 := Scalar.cmpi .eq c4_i32 c0_i32_6
  let c1_i32 : BitVec 32 := 1#32
  let v8 : BitVec 32 := Scalar.select v7 c1_i32 c4_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let c2_i32 : BitVec 32 := 2#32
  let v17 : BitVec 1 := Scalar.cmpi .sge v16 c2_i32
  let arg1 : BitVec 32 := BitVec.ofNat 32 (i 1).val
  let c4_i32_13 : BitVec 32 := 4#32
  let v26 : BitVec 1 := Scalar.cmpi .eq arg1 c4_i32_13
  let v27 : BitVec 1 := Scalar.andi v17 v26
  let v28 : BitVec 32 := Scalar.extui v27
  let c0_i32_14 : BitVec 32 := 0#32
  let v29 : BitVec 1 := Scalar.cmpi .ne v28 c0_i32_14
  v29

def k0_cond5 (i : grid0.Coords) : BitVec 1 :=
  let arg0 : BitVec 32 := BitVec.ofNat 32 (i 0).val
  let c4_i32 : BitVec 32 := 4#32
  let c0_i32_6 : BitVec 32 := 0#32
  let v7 : BitVec 1 := Scalar.cmpi .eq c4_i32 c0_i32_6
  let c1_i32 : BitVec 32 := 1#32
  let v8 : BitVec 32 := Scalar.select v7 c1_i32 c4_i32
  let v9 : BitVec 32 := Scalar.remsi arg0 v8
  let c0_i32_8 : BitVec 32 := 0#32
  let v11 : BitVec 1 := Scalar.cmpi .slt v9 c0_i32_8
  let c0_i32_9 : BitVec 32 := 0#32
  let v12 : BitVec 1 := Scalar.cmpi .slt v8 c0_i32_9
  let v13 : BitVec 1 := Scalar.xori v11 v12
  let c0_i32_7 : BitVec 32 := 0#32
  let v10 : BitVec 1 := Scalar.cmpi .ne v9 c0_i32_7
  let v14 : BitVec 1 := Scalar.andi v13 v10
  let v15 : BitVec 32 := Scalar.addi v9 v8
  let v16 : BitVec 32 := Scalar.select v14 v15 v9
  let c2_i32 : BitVec 32 := 2#32
  let v17 : BitVec 1 := Scalar.cmpi .sge v16 c2_i32
  let arg1 : BitVec 32 := BitVec.ofNat 32 (i 1).val
  let c5_i32 : BitVec 32 := 5#32
  let v30 : BitVec 1 := Scalar.cmpi .eq arg1 c5_i32
  let v31 : BitVec 1 := Scalar.andi v17 v30
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.subi v26 c2_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  ![c0_i32_11.toNat, v16.toNat, v28.toNat, c0_i32_12.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.subi v26 c2_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  ![c0_i32_11.toNat, v16.toNat, v28.toNat, c0_i32_12.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjReferenceIdeal.lean ====
abbrev S2x4096x2048 : Shape := ⟨3, ![2, 4096, 2048]⟩
abbrev S2048 : Shape := ⟨1, ![2048]⟩
abbrev S2048x6656 : Shape := ⟨2, ![2048, 6656]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x6656 : Shape := ⟨3, ![2, 4096, 6656]⟩
abbrev S8192x6656 : Shape := ⟨2, ![8192, 6656]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x6656, .bf16⟩
  | .hbm, ⟨3, _⟩ => ⟨S2x4096x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S2048x6656, .f32⟩
  | .hbm, ⟨20, _⟩ => ⟨S2x4096x6656, .f32⟩
  | .hbm, ⟨21, _⟩ => ⟨S8192x6656, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Mix.lean ====
abbrev S2x4096x2048 : Shape := ⟨3, ![2, 4096, 2048]⟩
abbrev S2x4096x6656 : Shape := ⟨3, ![2, 4096, 6656]⟩
abbrev S2x4096x1024 : Shape := ⟨3, ![2, 4096, 1024]⟩
abbrev S4x2x256x1024 : Shape := ⟨4, ![4, 2, 256, 1024]⟩
abbrev S31x512 : Shape := ⟨2, ![31, 512]⟩
abbrev S512 : Shape := ⟨1, ![512]⟩
abbrev S4x512x512 : Shape := ⟨3, ![4, 512, 512]⟩
abbrev S4x2048x2048 : Shape := ⟨3, ![4, 2048, 2048]⟩
abbrev S2048 : Shape := ⟨1, ![2048]⟩
abbrev S_ : Shape := ⟨0, ![]⟩
abbrev S2x32x512 : Shape := ⟨3, ![2, 32, 512]⟩
abbrev S1x512 : Shape := ⟨2, ![1, 512]⟩
abbrev S1x2048 : Shape := ⟨2, ![1, 2048]⟩
abbrev S2x30x512 : Shape := ⟨3, ![2, 30, 512]⟩
abbrev S1x512x2048 : Shape := ⟨3, ![1, 512, 2048]⟩
abbrev S1x512x1024 : Shape := ⟨3, ![1, 512, 1024]⟩
abbrev S1x512x512 : Shape := ⟨3, ![1, 512, 512]⟩
abbrev S1x32x512 : Shape := ⟨3, ![1, 32, 512]⟩
abbrev S1x1x256x512 : Shape := ⟨4, ![1, 1, 256, 512]⟩
abbrev S1x2048x2048 : Shape := ⟨3, ![1, 2048, 2048]⟩
abbrev S1x30x512 : Shape := ⟨3, ![1, 30, 512]⟩
abbrev S1x544x512 : Shape := ⟨3, ![1, 544, 512]⟩
abbrev S512x2048 : Shape := ⟨2, ![512, 2048]⟩
abbrev S512x512 : Shape := ⟨2, ![512, 512]⟩
abbrev S544x512 : Shape := ⟨2, ![544, 512]⟩
abbrev S32x512 : Shape := ⟨2, ![32, 512]⟩
abbrev S40x512 : Shape := ⟨2, ![40, 512]⟩
abbrev S30x512 : Shape := ⟨2, ![30, 512]⟩
abbrev S512x1 : Shape := ⟨2, ![512, 1]⟩
abbrev S512x1024 : Shape := ⟨2, ![512, 1024]⟩
abbrev S1x512x128 : Shape := ⟨3, ![1, 512, 128]⟩
abbrev S512x128 : Shape := ⟨2, ![512, 128]⟩
abbrev S256x512 : Shape := ⟨2, ![256, 512]⟩
abbrev S256x128 : Shape := ⟨2, ![256, 128]⟩
abbrev S512x256 : Shape := ⟨2, ![512, 256]⟩
abbrev S2048x2048 : Shape := ⟨2, ![2048, 2048]⟩

abbrev nBuf : Space → Nat
  | .hbm => 19
  | .vmem => 35
  | .smem => 0
  | _ => 0

abbrev bufTy : (tb : Table) → Fin (tcTables nBuf tb) → BufTy
  | .hbm, ⟨0, _⟩ => ⟨S2x4096x2048, .f32⟩
  | .hbm, ⟨1, _⟩ => ⟨S2x4096x6656, .f32⟩
  | .hbm, ⟨2, _⟩ => ⟨S2x4096x1024, .f32⟩
  | .hbm, ⟨3, _⟩ => ⟨S4x2x256x1024, .f32⟩
  | .hbm, ⟨4, _⟩ => ⟨S31x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S4x512x512, .bf16⟩
  | .hbm, ⟨9, _⟩ => ⟨S4x2048x2048, .bf16⟩
  | .hbm, ⟨10, _⟩ => ⟨S2048, .f32⟩
  | .hbm, ⟨11, _⟩ => ⟨S_, .f32⟩
  | .hbm, ⟨12, _⟩ => ⟨S2x32x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x2048, .f32⟩
  | .hbm, ⟨17, _⟩ => ⟨S2x4096x2048, .f32⟩
  | .hbm, ⟨18, _⟩ => ⟨S2x30x512, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x32x512, .f32⟩
  | .local _ .vmem, ⟨17, _⟩ => ⟨S1x32x512, .f32⟩
  | .local _ .vmem, ⟨18, _⟩ => ⟨S1x1x256x512, .f32⟩
  | .local _ .vmem, ⟨19, _⟩ => ⟨S1x1x256x512, .f32⟩
  | .local _ .vmem, ⟨20, _⟩ => ⟨S1x1x256x512, .f32⟩
  | .local _ .vmem, ⟨21, _⟩ => ⟨S1x1x256x512, .f32⟩
  | .local _ .vmem, ⟨22, _⟩ => ⟨S31x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512x512, .bf16⟩
  | .local _ .vmem, ⟨27, _⟩ => ⟨S1x2048x2048, .bf16⟩
  | .local _ .vmem, ⟨28, _⟩ => ⟨S1x2048, .f32⟩
  | .local _ .vmem, ⟨29, _⟩ => ⟨S1x512x2048, .f32⟩
  | .local _ .vmem, ⟨30, _⟩ => ⟨S1x512x2048, .f32⟩
  | .local _ .vmem, ⟨31, _⟩ => ⟨S1x30x512, .f32⟩
  | .local _ .vmem, ⟨32, _⟩ => ⟨S1x30x512, .f32⟩
  | .local _ .vmem, ⟨33, _⟩ => ⟨S1x544x512, .f32⟩
  | .local _ .vmem, ⟨34, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, arg0.toNat, c0_i32_0.toNat, c1_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S31x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x2048x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x30x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== MixReferenceIdeal.lean ====
abbrev S2x4096x2048 : Shape := ⟨3, ![2, 4096, 2048]⟩
abbrev S2x4096x6656 : Shape := ⟨3, ![2, 4096, 6656]⟩
abbrev S2x4096x1024 : Shape := ⟨3, ![2, 4096, 1024]⟩
abbrev S4x2x256x1024 : Shape := ⟨4, ![4, 2, 256, 1024]⟩
abbrev S31x512 : Shape := ⟨2, ![31, 512]⟩
abbrev S512 : Shape := ⟨1, ![512]⟩
abbrev S4x512x512 : Shape := ⟨3, ![4, 512, 512]⟩
abbrev S4x2048x2048 : Shape := ⟨3, ![4, 2048, 2048]⟩
abbrev S2048 : Shape := ⟨1, ![2048]⟩
abbrev S2x4096x3584 : Shape := ⟨3, ![2, 4096, 3584]⟩
abbrev S2x4096x512 : Shape := ⟨3, ![2, 4096, 512]⟩
abbrev S1x2x256x1024 : Shape := ⟨4, ![1, 2, 256, 1024]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x4096x4x128 : Shape := ⟨4, ![2, 4096, 4, 128]⟩
abbrev S_ : Shape := ⟨0, ![]⟩
abbrev S2x30x512 : Shape := ⟨3, ![2, 30, 512]⟩
abbrev S2x4126x512 : Shape := ⟨3, ![2, 4126, 512]⟩
abbrev S1x512 : Shape := ⟨2, ![1, 512]⟩
abbrev S1x1x512 : Shape := ⟨3, ![1, 1, 512]⟩
abbrev S2x4096 : Shape := ⟨2, ![2, 4096]⟩
abbrev S2x4096x1 : Shape := ⟨3, ![2, 4096, 1]⟩
abbrev S1x512x512 : Shape := ⟨3, ![1, 512, 512]⟩
abbrev S512x512 : Shape := ⟨2, ![512, 512]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S1x2048x2048 : Shape := ⟨3, ![1, 2048, 2048]⟩
abbrev S2048x2048 : Shape := ⟨2, ![2048, 2048]⟩
abbrev S1x1x2048 : Shape := ⟨3, ![1, 1, 2048]⟩

abbrev nBuf : Space → Nat
  | .hbm => 375
  | .vmem => 0
  | .smem => 0
  | _ => 0

abbrev hbmTy0_0 (i : Nat) : BufTy := match i % 128 with
  | 0 => ⟨S2x4096x2048, .f32⟩
  | 1 => ⟨S2x4096x6656, .f32⟩
  | 2 => ⟨S2x4096x1024, .f32⟩
  | 3 => ⟨S4x2x256x1024, .f32⟩
  | 4 => ⟨S31x512, .f32⟩
  | 5 => ⟨S512, .f32⟩
  | 6 => ⟨S512, .f32⟩
  | 7 => ⟨S512, .f32⟩
  | 8 => ⟨S4x512x512, .bf16⟩
  | 9 => ⟨S4x2048x2048, .bf16⟩
  | 10 => ⟨S2048, .f32⟩
  | 11 => ⟨S2x4096x3584, .f32⟩
  | 12 => ⟨S2x4096x1024, .f32⟩
  | 13 => ⟨S2x4096x512, .f32⟩
  | 14 => ⟨S2x4096x512, .f32⟩
  | 15 => ⟨S2x4096x512, .f32⟩
  | 16 => ⟨S2x4096x512, .f32⟩
  | 17 => ⟨S2x4096x512, .f32⟩
  | 18 => ⟨S1x2x256x1024, .f32⟩
  | 19 => ⟨S2x256x1024, .f32⟩
  | 20 => ⟨S2x256x512, .f32⟩
  | 21 => ⟨S2x256x512, .f32⟩
  | 22 => ⟨S2x256x4x128, .f32⟩
  | 23 => ⟨S2x256x4x128, .f32⟩
  | 24 => ⟨S2x4096x4x128, .f32⟩
  | 25 => ⟨S2x4096x512, .f32⟩
  | 26 => ⟨S2x4096x512, .f32⟩
  | 27 => ⟨S_, .f32⟩
  | 28 => ⟨S2x4096x512, .f32⟩
  | 29 => ⟨S2x4096x512, .f32⟩
  | 30 => ⟨S_, .f32⟩
  | 31 => ⟨S2x4096x512, .f32⟩
  | 32 => ⟨S2x4096x512, .f32⟩
  | 33 => ⟨S2x4096x512, .f32⟩
  | 34 => ⟨S_, .f32⟩
  | 35 => ⟨S2x30x512, .f32⟩
  | 36 => ⟨S2x4126x512, .f32⟩
  | 37 => ⟨S2x4096x512, .f32⟩
  | 38 => ⟨S1x512, .f32⟩
  | 39 => ⟨S512, .f32⟩
  | 40 => ⟨S1x1x512, .f32⟩
  | 41 => ⟨S2x4096x512, .f32⟩
  | 42 => ⟨S2x4096x512, .f32⟩
  | 43 => ⟨S_, .f32⟩
  | 44 => ⟨S2x4096x512, .f32⟩
  | 45 => ⟨S2x4096x512, .f32⟩
  | 46 => ⟨S2x4096x512, .f32⟩
  | 47 => ⟨S1x512, .f32⟩
  | 48 => ⟨S512, .f32⟩
  | 49 => ⟨S1x1x512, .f32⟩
  | 50 => ⟨S2x4096x512, .f32⟩
  | 51 => ⟨S2x4096x512, .f32⟩
  | 52 => ⟨S2x4096x512, .f32⟩
  | 53 => ⟨S2x4096x512, .f32⟩
  | 54 => ⟨S1x512, .f32⟩
  | 55 => ⟨S512, .f32⟩
  | 56 => ⟨S1x1x512, .f32⟩
  | 57 => ⟨S2x4096x512, .f32⟩
  | 58 => ⟨S2x4096x512, .f32⟩
  | 59 => ⟨S2x4096x512, .f32⟩
  | 60 => ⟨S2x4096x512, .f32⟩
  | 61 => ⟨S1x512, .f32⟩
  | 62 => ⟨S512, .f32⟩
  | 63 => ⟨S1x1x512, .f32⟩
  | 64 => ⟨S2x4096x512, .f32⟩
  | 65 => ⟨S2x4096x512, .f32⟩
  | 66 => ⟨S2x4096x512, .f32⟩
  | 67 => ⟨S2x4096x512, .f32⟩
  | 68 => ⟨S1x512, .f32⟩
  | 69 => ⟨S512, .f32⟩
  | 70 => ⟨S1x1x512, .f32⟩
  | 71 => ⟨S2x4096x512, .f32⟩
  | 72 => ⟨S2x4096x512, .f32⟩
  | 73 => ⟨S2x4096x512, .f32⟩
  | 74 => ⟨S2x4096x512, .f32⟩
  | 75 => ⟨S1x512, .f32⟩
  | 76 => ⟨S512, .f32⟩
  | 77 => ⟨S1x1x512, .f32⟩
  | 78 => ⟨S2x4096x512, .f32⟩
  | 79 => ⟨S2x4096x512, .f32⟩
  | 80 => ⟨S2x4096x512, .f32⟩
  | 81 => ⟨S2x4096x512, .f32⟩
  | 82 => ⟨S1x512, .f32⟩
  | 83 => ⟨S512, .f32⟩
  | 84 => ⟨S1x1x512, .f32⟩
  | 85 => ⟨S2x4096x512, .f32⟩
  | 86 => ⟨S2x4096x512, .f32⟩
  | 87 => ⟨S2x4096x512, .f32⟩
  | 88 => ⟨S2x4096x512, .f32⟩
  | 89 => ⟨S1x512, .f32⟩
  | 90 => ⟨S512, .f32⟩
  | 91 => ⟨S1x1x512, .f32⟩
  | 92 => ⟨S2x4096x512, .f32⟩
  | 93 => ⟨S2x4096x512, .f32⟩
  | 94 => ⟨S2x4096x512, .f32⟩
  | 95 => ⟨S2x4096x512, .f32⟩
  | 96 => ⟨S1x512, .f32⟩
  | 97 => ⟨S512, .f32⟩
  | 98 => ⟨S1x1x512, .f32⟩
  | 99 => ⟨S2x4096x512, .f32⟩
  | 100 => ⟨S2x4096x512, .f32⟩
  | 101 => ⟨S2x4096x512, .f32⟩
  | 102 => ⟨S2x4096x512, .f32⟩
  | 103 => ⟨S1x512, .f32⟩
  | 104 => ⟨S512, .f32⟩
  | 105 => ⟨S1x1x512, .f32⟩
  | 106 => ⟨S2x4096x512, .f32⟩
  | 107 => ⟨S2x4096x512, .f32⟩
  | 108 => ⟨S2x4096x512, .f32⟩
  | 109 => ⟨S2x4096x512, .f32⟩
  | 110 => ⟨S1x512, .f32⟩
  | 111 => ⟨S512, .f32⟩
  | 112 => ⟨S1x1x512, .f32⟩
  | 113 => ⟨S2x4096x512, .f32⟩
  | 114 => ⟨S2x4096x512, .f32⟩
  | 115 => ⟨S2x4096x512, .f32⟩
  | 116 => ⟨S2x4096x512, .f32⟩
  | 117 => ⟨S1x512, .f32⟩
  | 118 => ⟨S512, .f32⟩
  | 119 => ⟨S1x1x512, .f32⟩
  | 120 => ⟨S2x4096x512, .f32⟩
  | 121 => ⟨S2x4096x512, .f32⟩
  | 122 => ⟨S2x4096x512, .f32⟩
  | 123 => ⟨S2x4096x512, .f32⟩
  | 124 => ⟨S1x512, .f32⟩
  | 125 => ⟨S512, .f32⟩
  | 126 => ⟨S1x1x512, .f32⟩
  | 127 => ⟨S2x4096x512, .f32⟩
  | _ => ⟨S2x4096x2048, .f32⟩

abbrev hbmTy0_1 (i : Nat) : BufTy := match i % 128 with
  | 0 => ⟨S2x4096x512, .f32⟩
  | 1 => ⟨S2x4096x512, .f32⟩
  | 2 => ⟨S2x4096x512, .f32⟩
  | 3 => ⟨S1x512, .f32⟩
  | 4 => ⟨S512, .f32⟩
  | 5 => ⟨S1x1x512, .f32⟩
  | 6 => ⟨S2x4096x512, .f32⟩
  | 7 => ⟨S2x4096x512, .f32⟩
  | 8 => ⟨S2x4096x512, .f32⟩
  | 9 => ⟨S2x4096x512, .f32⟩
  | 10 => ⟨S1x512, .f32⟩
  | 11 => ⟨S512, .f32⟩
  | 12 => ⟨S1x1x512, .f32⟩
  | 13 => ⟨S2x4096x512, .f32⟩
  | 14 => ⟨S2x4096x512, .f32⟩
  | 15 => ⟨S2x4096x512, .f32⟩
  | 16 => ⟨S2x4096x512, .f32⟩
  | 17 => ⟨S1x512, .f32⟩
  | 18 => ⟨S512, .f32⟩
  | 19 => ⟨S1x1x512, .f32⟩
  | 20 => ⟨S2x4096x512, .f32⟩
  | 21 => ⟨S2x4096x512, .f32⟩
  | 22 => ⟨S2x4096x512, .f32⟩
  | 23 => ⟨S2x4096x512, .f32⟩
  | 24 => ⟨S1x512, .f32⟩
  | 25 => ⟨S512, .f32⟩
  | 26 => ⟨S1x1x512, .f32⟩
  | 27 => ⟨S2x4096x512, .f32⟩
  | 28 => ⟨S2x4096x512, .f32⟩
  | 29 => ⟨S2x4096x512, .f32⟩
  | 30 => ⟨S2x4096x512, .f32⟩
  | 31 => ⟨S1x512, .f32⟩
  | 32 => ⟨S512, .f32⟩
  | 33 => ⟨S1x1x512, .f32⟩
  | 34 => ⟨S2x4096x512, .f32⟩
  | 35 => ⟨S2x4096x512, .f32⟩
  | 36 => ⟨S2x4096x512, .f32⟩
  | 37 => ⟨S2x4096x512, .f32⟩
  | 38 => ⟨S1x512, .f32⟩
  | 39 => ⟨S512, .f32⟩
  | 40 => ⟨S1x1x512, .f32⟩
  | 41 => ⟨S2x4096x512, .f32⟩
  | 42 => ⟨S2x4096x512, .f32⟩
  | 43 => ⟨S2x4096x512, .f32⟩
  | 44 => ⟨S2x4096x512, .f32⟩
  | 45 => ⟨S1x512, .f32⟩
  | 46 => ⟨S512, .f32⟩
  | 47 => ⟨S1x1x512, .f32⟩
  | 48 => ⟨S2x4096x512, .f32⟩
  | 49 => ⟨S2x4096x512, .f32⟩
  | 50 => ⟨S2x4096x512, .f32⟩
  | 51 => ⟨S2x4096x512, .f32⟩
  | 52 => ⟨S1x512, .f32⟩
  | 53 => ⟨S512, .f32⟩
  | 54 => ⟨S1x1x512, .f32⟩
  | 55 => ⟨S2x4096x512, .f32⟩
  | 56 => ⟨S2x4096x512, .f32⟩
  | 57 => ⟨S2x4096x512, .f32⟩
  | 58 => ⟨S2x4096x512, .f32⟩
  | 59 => ⟨S1x512, .f32⟩
  | 60 => ⟨S512, .f32⟩
  | 61 => ⟨S1x1x512, .f32⟩
  | 62 => ⟨S2x4096x512, .f32⟩
  | 63 => ⟨S2x4096x512, .f32⟩
  | 64 => ⟨S2x4096x512, .f32⟩
  | 65 => ⟨S2x4096x512, .f32⟩
  | 66 => ⟨S1x512, .f32⟩
  | 67 => ⟨S512, .f32⟩
  | 68 => ⟨S1x1x512, .f32⟩
  | 69 => ⟨S2x4096x512, .f32⟩
  | 70 => ⟨S2x4096x512, .f32⟩
  | 71 => ⟨S2x4096x512, .f32⟩
  | 72 => ⟨S2x4096x512, .f32⟩
  | 73 => ⟨S1x512, .f32⟩
  | 74 => ⟨S512, .f32⟩
  | 75 => ⟨S1x1x512, .f32⟩
  | 76 => ⟨S2x4096x512, .f32⟩
  | 77 => ⟨S2x4096x512, .f32⟩
  | 78 => ⟨S2x4096x512, .f32⟩
  | 79 => ⟨S2x4096x512, .f32⟩
  | 80 => ⟨S1x512, .f32⟩
  | 81 => ⟨S512, .f32⟩
  | 82 => ⟨S1x1x512, .f32⟩
  | 83 => ⟨S2x4096x512, .f32⟩
  | 84 => ⟨S2x4096x512, .f32⟩
  | 85 => ⟨S2x4096x512, .f32⟩
  | 86 => ⟨S2x4096x512, .f32⟩
  | 87 => ⟨S1x512, .f32⟩
  | 88 => ⟨S512, .f32⟩
  | 89 => ⟨S1x1x512, .f32⟩
  | 90 => ⟨S2x4096x512, .f32⟩
  | 91 => ⟨S2x4096x512, .f32⟩
  | 92 => ⟨S2x4096x512, .f32⟩
  | 93 => ⟨S2x4096x512, .f32⟩
  | 94 => ⟨S1x512, .f32⟩
  | 95 => ⟨S512, .f32⟩
  | 96 => ⟨S1x1x512, .f32⟩
  | 97 => ⟨S2x4096x512, .f32⟩
  | 98 => ⟨S2x4096x512, .f32⟩
  | 99 => ⟨S2x4096x512, .f32⟩
  | 100 => ⟨S2x4096x512, .f32⟩
  | 101 => ⟨S1x512, .f32⟩
  | 102 => ⟨S512, .f32⟩
  | 103 => ⟨S1x1x512, .f32⟩
  | 104 => ⟨S2x4096x512, .f32⟩
  | 105 => ⟨S2x4096x512, .f32⟩
  | 106 => ⟨S2x4096x512, .f32⟩
  | 107 => ⟨S2x4096x512, .f32⟩
  | 108 => ⟨S1x512, .f32⟩
  | 109 => ⟨S512, .f32⟩
  | 110 => ⟨S1x1x512, .f32⟩
  | 111 => ⟨S2x4096x512, .f32⟩
  | 112 => ⟨S2x4096x512, .f32⟩
  | 113 => ⟨S2x4096x512, .f32⟩
  | 114 => ⟨S2x4096x512, .f32⟩
  | 115 => ⟨S1x512, .f32⟩
  | 116 => ⟨S512, .f32⟩
  | 117 => ⟨S1x1x512, .f32⟩
  | 118 => ⟨S2x4096x512, .f32⟩
  | 119 => ⟨S2x4096x512, .f32⟩
  | 120 => ⟨S2x4096x512, .f32⟩
  | 121 => ⟨S2x4096x512, .f32⟩
  | 122 => ⟨S1x512, .f32⟩
  | 123 => ⟨S512, .f32⟩
  | 124 => ⟨S1x1x512, .f32⟩
  | 125 => ⟨S2x4096x512, .f32⟩
  | 126 => ⟨S2x4096x512, .f32⟩
  | 127 => ⟨S2x4096x512, .f32⟩
  | _ => ⟨S2x4096x2048, .f32⟩

abbrev hbmTy0_2 (i : Nat) : BufTy := match i % 128 with
  | 0 => ⟨S1x1x512, .f32⟩
  | 1 => ⟨S2x4096x512, .f32⟩
  | 2 => ⟨S2x4096x512, .f32⟩
  | 3 => ⟨S_, .f32⟩
  | 4 => ⟨S2x4096, .f32⟩
  | 5 => ⟨S2x4096x1, .f32⟩
  | 6 => ⟨S_, .f32⟩
  | 7 => ⟨S2x4096x1, .f32⟩
  | 8 => ⟨S2x4096x1, .f32⟩
  | 9 => ⟨S2x4096x512, .f32⟩
  | 10 => ⟨S2x4096x512, .f32⟩
  | 11 => ⟨S2x4096x512, .f32⟩
  | 12 => ⟨S_, .f32⟩
  | 13 => ⟨S2x4096, .f32⟩
  | 14 => ⟨S2x4096x1, .f32⟩
  | 15 => ⟨S_, .f32⟩
  | 16 => ⟨S2x4096x1, .f32⟩
  | 17 => ⟨S2x4096x1, .f32⟩
  | 18 => ⟨S2x4096x512, .f32⟩
  | 19 => ⟨S2x4096x512, .f32⟩
  | 20 => ⟨S_, .f32⟩
  | 21 => ⟨S2x4096x1, .f32⟩
  | 22 => ⟨S2x4096x1, .f32⟩
  | 23 => ⟨S2x4096x1, .f32⟩
  | 24 => ⟨S2x4096x512, .f32⟩
  | 25 => ⟨S2x4096x512, .f32⟩
  | 26 => ⟨S1x1x512, .f32⟩
  | 27 => ⟨S2x4096x512, .f32⟩
  | 28 => ⟨S2x4096x512, .f32⟩
  | 29 => ⟨S1x1x512, .f32⟩
  | 30 => ⟨S2x4096x512, .f32⟩
  | 31 => ⟨S2x4096x512, .f32⟩
  | 32 => ⟨S2x4096x512, .f32⟩
  | 33 => ⟨S2x4096x512, .f32⟩
  | 34 => ⟨S_, .f32⟩
  | 35 => ⟨S2x4096x512, .f32⟩
  | 36 => ⟨S2x4096x512, .f32⟩
  | 37 => ⟨S_, .f32⟩
  | 38 => ⟨S2x4096x512, .f32⟩
  | 39 => ⟨S2x4096x512, .f32⟩
  | 40 => ⟨S2x4096x512, .f32⟩
  | 41 => ⟨S1x512x512, .bf16⟩
  | 42 => ⟨S512x512, .bf16⟩
  | 43 => ⟨S512x512, .f32⟩
  | 44 => ⟨S2x4096x512, .f32⟩
  | 45 => ⟨S2x4x4096x256, .f32⟩
  | 46 => ⟨S_, .f32⟩
  | 47 => ⟨S2x4x4096x256, .f32⟩
  | 48 => ⟨S2x4x4096x256, .f32⟩
  | 49 => ⟨S_, .f32⟩
  | 50 => ⟨S2x4x4096, .f32⟩
  | 51 => ⟨S_, .f32⟩
  | 52 => ⟨S2x4x4096, .f32⟩
  | 53 => ⟨S2x4x4096, .f32⟩
  | 54 => ⟨S2x4x4096x1, .f32⟩
  | 55 => ⟨S2x4x4096x256, .f32⟩
  | 56 => ⟨S2x4x4096x256, .f32⟩
  | 57 => ⟨S2x4x4096x256, .f32⟩
  | 58 => ⟨S_, .f32⟩
  | 59 => ⟨S2x4x4096, .f32⟩
  | 60 => ⟨S2x4x4096x1, .f32⟩
  | 61 => ⟨S2x4x4096x256, .f32⟩
  | 62 => ⟨S2x4x4096x256, .f32⟩
  | 63 => ⟨S2x4x128x4096, .f32⟩
  | 64 => ⟨S2x4096x4x128, .f32⟩
  | 65 => ⟨S2x4096x512, .f32⟩
  | 66 => ⟨S2x4096x1024, .f32⟩
  | 67 => ⟨S2x4096x1024, .f32⟩
  | 68 => ⟨S_, .f32⟩
  | 69 => ⟨S2x4096x1024, .f32⟩
  | 70 => ⟨S2x4096x1024, .f32⟩
  | 71 => ⟨S_, .f32⟩
  | 72 => ⟨S2x4096x1024, .f32⟩
  | 73 => ⟨S2x4096x1024, .f32⟩
  | 74 => ⟨S2x4096x1024, .f32⟩
  | 75 => ⟨S2x4096x1024, .f32⟩
  | 76 => ⟨S2x4096x512, .f32⟩
  | 77 => ⟨S2x4096x512, .f32⟩
  | 78 => ⟨S_, .f32⟩
  | 79 => ⟨S2x4096x512, .f32⟩
  | 80 => ⟨S2x4096x512, .f32⟩
  | 81 => ⟨S_, .f32⟩
  | 82 => ⟨S2x4096x512, .f32⟩
  | 83 => ⟨S2x4096x512, .f32⟩
  | 84 => ⟨S2x4096x512, .f32⟩
  | 85 => ⟨S2x4096x512, .f32⟩
  | 86 => ⟨S2x4096x512, .f32⟩
  | 87 => ⟨S2x4096x512, .f32⟩
  | 88 => ⟨S_, .f32⟩
  | 89 => ⟨S2x4096x512, .f32⟩
  | 90 => ⟨S2x4096x512, .f32⟩
  | 91 => ⟨S_, .f32⟩
  | 92 => ⟨S2x4096x512, .f32⟩
  | 93 => ⟨S2x4096x512, .f32⟩
  | 94 => ⟨S2x4096x512, .f32⟩
  | 95 => ⟨S2x4096x512, .f32⟩
  | 96 => ⟨S2x4096x2048, .f32⟩
  | 97 => ⟨S1x2048x2048, .bf16⟩
  | 98 => ⟨S2048x2048, .bf16⟩
  | 99 => ⟨S2048x2048, .f32⟩
  | 100 => ⟨S2x4096x2048, .f32⟩
  | 101 => ⟨S2x4096x2048, .f32⟩
  | 102 => ⟨S_, .f32⟩
  | 103 => ⟨S2x4096, .f32⟩
  | 104 => ⟨S2x4096x1, .f32⟩
  | 105 => ⟨S_, .f32⟩
  | 106 => ⟨S2x4096x1, .f32⟩
  | 107 => ⟨S2x4096x1, .f32⟩
  | 108 => ⟨S_, .f32⟩
  | 109 => ⟨S2x4096x1, .f32⟩
  | 110 => ⟨S2x4096x1, .f32⟩
  | 111 => ⟨S2x4096x1, .f32⟩
  | 112 => ⟨S2x4096x2048, .f32⟩
  | 113 => ⟨S2x4096x2048, .f32⟩
  | 114 => ⟨S1x1x2048, .f32⟩
  | 115 => ⟨S2x4096x2048, .f32⟩
  | 116 => ⟨S2x4096x2048, .f32⟩
  | 117 => ⟨S2x4096x2048, .f32⟩
  | 118 => ⟨S2x30x512, .f32⟩
  | _ => ⟨S2x4096x2048, .f32⟩

abbrev hbmTy (i : Nat) : BufTy := match i / 128 with
  | 0 => hbmTy0_0 i
  | 1 => hbmTy0_1 i
  | 2 => hbmTy0_2 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_cst_3 : Ref sig .tc := ⟨.hbm, 259, rfl⟩
abbrev main_v244 : Ref sig .tc := ⟨.hbm, 260, rfl⟩
abbrev main_v245 : Ref sig .tc := ⟨.hbm, 261, rfl⟩
abbrev main_cst_4 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_cst_5 : Ref sig .tc := ⟨.hbm, 268, rfl⟩
abbrev main_v251 : Ref sig .tc := ⟨.hbm, 269, rfl⟩
abbrev main_v252 : Ref sig .tc := ⟨.hbm, 270, rfl⟩
abbrev main_cst_6 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_cst_7 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_call0_v0 : Ref sig .tc := ⟨.hbm, 288, rfl⟩
abbrev main_call0_v1 : Ref sig .tc := ⟨.hbm, 289, rfl⟩
abbrev main_call0_cst : Ref sig .tc := ⟨.hbm, 290, rfl⟩
abbrev main_call0_v2 : Ref sig .tc := ⟨.hbm, 291, rfl⟩
abbrev main_call0_v3 : Ref sig .tc := ⟨.hbm, 292, rfl⟩
abbrev main_call0_cst_0 : Ref sig .tc := ⟨.hbm, 293, rfl⟩
abbrev main_call0_v4 : Ref sig .tc := ⟨.hbm, 294, rfl⟩
abbrev main_call0_v5 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_cst_8 : Ref sig .tc := ⟨.hbm, 302, rfl⟩
abbrev main_v274 : Ref sig .tc := ⟨.hbm, 303, rfl⟩
abbrev main_v275 : Ref sig .tc := ⟨.hbm, 304, rfl⟩
abbrev main_cst_9 : Ref sig .tc := ⟨.hbm, 305, rfl⟩
abbrev main_v276 : Ref sig .tc := ⟨.hbm, 306, rfl⟩
abbrev main_cst_10 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_cst_11 : Ref sig .tc := ⟨.hbm, 314, rfl⟩
abbrev main_v283 : Ref sig .tc := ⟨.hbm, 315, rfl⟩
abbrev main_v284 : Ref sig .tc := ⟨.hbm, 316, rfl⟩
abbrev main_v285 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_call1_v0 : Ref sig .tc := ⟨.hbm, 322, rfl⟩
abbrev main_call1_v1 : Ref sig .tc := ⟨.hbm, 323, rfl⟩
abbrev main_call1_cst : Ref sig .tc := ⟨.hbm, 324, rfl⟩
abbrev main_call1_v2 : Ref sig .tc := ⟨.hbm, 325, rfl⟩
abbrev main_call1_v3 : Ref sig .tc := ⟨.hbm, 326, rfl⟩
abbrev main_call1_cst_0 : Ref sig .tc := ⟨.hbm, 327, rfl⟩
abbrev main_call1_v4 : Ref sig .tc := ⟨.hbm, 328, rfl⟩
abbrev main_call1_v5 : Ref sig .tc := ⟨.hbm, 329, rfl⟩
abbrev main_v290 : Ref sig .tc := ⟨.hbm, 330, rfl⟩
abbrev main_v291 : Ref sig .tc := ⟨.hbm, 331, rfl⟩
abbrev main_call2_v0 : Ref sig .tc := ⟨.hbm, 332, rfl⟩
abbrev main_call2_v1 : Ref sig .tc := ⟨.hbm, 333, rfl⟩
abbrev main_call2_cst : Ref sig .tc := ⟨.hbm, 334, rfl⟩
abbrev main_call2_v2 : Ref sig .tc := ⟨.hbm, 335, rfl⟩
abbrev main_call2_v3 : Ref sig .tc := ⟨.hbm, 336, rfl⟩
abbrev main_call2_cst_0 : Ref sig .tc := ⟨.hbm, 337, rfl⟩
abbrev main_call2_v4 : Ref sig .tc := ⟨.hbm, 338, rfl⟩
abbrev main_call2_v5 : Ref sig .tc := ⟨.hbm, 339, rfl⟩
abbrev main_v292 : Ref sig .tc := ⟨.hbm, 340, rfl⟩
abbrev main_v293 : Ref sig .tc := ⟨.hbm, 341, rfl⟩
abbrev main_call3_v0 : Ref sig .tc := ⟨.hbm, 342, rfl⟩
abbrev main_call3_v1 : Ref sig .tc := ⟨.hbm, 343, rfl⟩
abbrev main_call3_cst : Ref sig .tc := ⟨.hbm, 344, rfl⟩
abbrev main_call3_v2 : Ref sig .tc := ⟨.hbm, 345, rfl⟩
abbrev main_call3_v3 : Ref sig .tc := ⟨.hbm, 346, rfl⟩
abbrev main_call3_cst_0 : Ref sig .tc := ⟨.hbm, 347, rfl⟩
abbrev main_call3_v4 : Ref sig .tc := ⟨.hbm, 348, rfl⟩
abbrev main_call3_v5 : Ref sig .tc := ⟨.hbm, 349, rfl⟩
abbrev main_v294 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_v300 : Ref sig .tc := ⟨.hbm, 356, rfl⟩
abbrev main_v301 : Ref sig .tc := ⟨.hbm, 357, rfl⟩
abbrev main_cst_12 : Ref sig .tc := ⟨.hbm, 358, rfl⟩
abbrev main_v302 : Ref sig .tc := ⟨.hbm, 359, rfl⟩
abbrev main_v303 : Ref sig .tc := ⟨.hbm, 360, rfl⟩
abbrev main_cst_13 : Ref sig .tc := ⟨.hbm, 361, rfl⟩
abbrev main_v304 : Ref sig .tc := ⟨.hbm, 362, rfl⟩
abbrev main_v305 : Ref sig .tc := ⟨.hbm, 363, rfl⟩
abbrev main_cst_14 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩

abbrev nD : Nat := 1
abbrev τ : Topo := Topo.v7x

variable {F : FTy → Type} [FloatOps F]
-- ==== Proof.MemBlock.lean ====
module

public import proofs.«01_k».proof.Defs
public import proofs.«01_k».proof.Proof.Gen.MemIdeal.Frame
public import Idealize.ShloMosaic.Lib.Pipeline.Value
public import Idealize.ShloMosaic.Lib.StableHlo.Run
public import Idealize.ShloMosaic.Lib.Tactic
public import Idealize.ShloMosaic.Lib.Quiescent
public import Idealize.ShloMosaic.Lib.MatmulPlain

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.MemIdeal.Value

open Cert.MemIdeal Cert.MemIdeal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a layer: the scratch takes the rows in the product's format. -/
theorem rows_A (c : Dev nD) (i : grid0.Coords) (a0 : Memref sig .tc .vmem S512x2048 .f32) (h0 : a0.IsWhole)
    (a1 : Memref sig .tc .vmem S1x2048 .f32) (h1 : a1.IsWhole) (a2 : Memref sig .tc .vmem S1x2048x512 .bf16) (h2 : a2.IsWhole)
    (a3 : Memref sig .tc .vmem S1x512x512 .f32) (h3 : a3.IsWhole) (a4 : Memref sig .tc .vmem S512x2048 .bf16) (h4 : a4.IsWhole)
    (hc : cond0_0 i) (x0 : Vec F S512x2048 .f32) (x1 : Vec F S1x2048 .f32) (x2 : Vec F S1x2048x512 .bf16) :
    sout0_A_0 c i a0 h0 a1 h1 a2 h2 a3 h3 a4 h4 hc x0 x1 x2 = k0_pay1 x0 := by
  unfold sout0_A_0
  rw [View.read_writes_eq_canon _ _ _ (scover0_A_0 c i a0 h0 a1 h1 a2 h2 a3 h3 a4 h4 hc x0 x1 x2)]
  unfold kernelRun0_A
  dsimp only
  sl_unfold_words
  rw [View.canon_unit_zero hz2]
  simp only [View.readAt_eq_ld, h0.read_unread, View.ld_unit_zero (S := S512x2048) hz2]

/-- The first point of a layer: the block is the product of the rows just stored with the weight block. -/
theorem out_A (c : Dev nD) (i : grid0.Coords) (a0 : Memref sig .tc .vmem S512x2048 .f32) (h0 : a0.IsWhole)
    (a1 : Memref sig .tc .vmem S1x2048 .f32) (h1 : a1.IsWhole) (a2 : Memref sig .tc .vmem S1x2048x512 .bf16) (h2 : a2.IsWhole)
    (a3 : Memref sig .tc .vmem S1x512x512 .f32) (h3 : a3.IsWhole) (a4 : Memref sig .tc .vmem S512x2048 .bf16) (h4 : a4.IsWhole)
    (hc : cond0_0 i) (x0 : Vec F S512x2048 .f32) (x1 : Vec F S1x2048 .f32) (x2 : Vec F S1x2048x512 .bf16) :
    out0_A_3 c i a0 h0 a1 h1 a2 h2 a3 h3 a4 h4 hc x0 x1 x2 = k0_pay2 (k0_pay1 x0) x2 := by
  unfold out0_A_3
  rw [View.read_writes_eq_canon _ _ _ (cover0_A_3 c i a0 h0 a1 h1 a2 h2 a3 h3 a4 h4 hc x0 x1 x2)]
  unfold kernelRun0_A
  dsimp only
  sl_unfold_words
  rw [View.canon_unit_zero hz3, View.readCov_unit_zero (S := S512x2048) _ hz2]
  simp only [View.readAt_eq_ld, h0.read_unread, h2.read_unread, View.ld_unit_zero (S := S512x2048) hz2, View.ld_unit_zero (S := S1x2048x512) hz3]

/-- The later point of a layer: the product of the carried rows with the weight block. -/
theorem out_B (c : Dev nD) (i : grid0.Coords) (a0 : Memref sig .tc .vmem S512x2048 .f32) (h0 : a0.IsWhole)
    (a1 : Memref sig .tc .vmem S1x2048 .f32) (h1 : a1.IsWhole) (a2 : Memref sig .tc .vmem S1x2048x512 .bf16) (h2 : a2.IsWhole)
    (a3 : Memref sig .tc .vmem S1x512x512 .f32) (h3 : a3.IsWhole) (a4 : Memref sig .tc .vmem S512x2048 .bf16) (h4 : a4.IsWhole)
    (hc : ¬cond0_0 i) (x0 : Vec F S512x2048 .f32) (x1 : Vec F S1x2048 .f32) (x2 : Vec F S1x2048x512 .bf16) (xs : Vec F S512x2048 .bf16) :
    out0_B_3 c i a0 h0 a1 h1 a2 h2 a3 h3 a4 h4 hc x0 x1 x2 xs = k0_pay2 xs x2 := by
  unfold out0_B_3
  rw [View.read_writes_eq_canon _ _ _ (cover0_B_3 c i a0 h0 a1 h1 a2 h2 a3 h3 a4 h4 hc x0 x1 x2 xs)]
  unfold kernelRun0_B
  dsimp only
  rw [View.canon_unit_zero hz3]
  simp only [View.readAt_eq_ld, h2.read_unread, h4.read_unread, View.ld_unit_zero (S := S512x2048) hz2, View.ld_unit_zero (S := S1x2048x512) hz3]

/-- Window 0 stages the whole array of rows at every point. -/
theorem iblk0_eq (c : Dev nD) (t : Fin cfg0.N) : iblk m c 0 t = V m c main_v1 := by
  funext j
  unfold iblk
  rw [View.read_apply]
  show V m c main_v1 _ = V m c main_v1 _
  congr 1
  funext a
  apply Fin.ext
  match a with
  | ⟨0, _⟩ => show 0 * 512 + 1 * (j 0).val = (j 0).val; omega
  | ⟨1, _⟩ => show 0 * 2048 + 1 * (j 1).val = (j 1).val; omega

/-- After any point: the block of that point, and the rows in the scratch. -/
theorem outsAt_eq (c : Dev nD) : ∀ (n : ℕ) (h : n < cfg0.N),
    outsAt0 m c n h = (k0_pay2 (k0_pay1 (V m c main_v1)) (iblk m c 2 ⟨n, h⟩), k0_pay1 (V m c main_v1))
  | 0, h => (outsAt0_A m c ⟨0, h⟩ rfl).trans (by rw [out_A, rows_A, iblk0_eq])
  | n + 1, h => by
    by_cases hB : (n + 1) % 2 = 0
    · exact (outsAt0_A m c ⟨n + 1, h⟩ hB).trans (by rw [out_A, rows_A, iblk0_eq])
    · refine (outsAt0_B m c ⟨n + 1, h⟩ hB).trans ?_
      rw [out_B]
      unfold sout0_B_0
      show (k0_pay2 (outsAt0 m c n _).2 _, (outsAt0 m c n _).2) = _
      rw [outsAt_eq c n]

/-- The weight block of a point: 512 columns of one layer's matrix. -/
theorem iblk2_apply (c : Dev nD) (t : Fin cfg0.N) (j : S1x2048x512.Idx) :
    iblk m c 2 t j = V m c main_v0 (ix3 (n0 := 4) (n1 := 2048) (n2 := 1024) ⟨t.val / 2, by have h : t.val < 8 := lt_of_lt_of_eq t.isLt N_0; omega⟩ (j 1)
      ⟨t.val % 2 * 512 + (j 2).val, by have h : (j 2).val < 512 := (j 2).isLt; omega⟩) := by
  unfold iblk
  rw [View.read_apply]
  show V m c main_v0 _ = V m c main_v0 _
  congr 1
  funext a
  apply Fin.ext
  have ht : t.val < 8 := Nat.lt_of_lt_of_eq t.isLt N_0
  have e0 : (grid0.coords t 0).val = t.val / 2 % 4 := Pipeline.Grid.coords_val t 0 (by decide) rfl
  have e1 : (grid0.coords t 1).val = t.val / 1 % 2 := Pipeline.Grid.coords_val t 1 (by decide) rfl
  have hj : (j 0).val < 1 := (j 0).isLt
  match a with
  | ⟨0, _⟩ => show (BitVec.ofNat 32 (grid0.coords t 0).val).toNat * 1 + 1 * (j 0).val = t.val / 2
              rw [e0, BitVec.toNat_ofNat]; omega
  | ⟨1, _⟩ => show 0 * 2048 + 1 * (j 1).val = (j 1).val; omega
  | ⟨2, _⟩ => show (BitVec.ofNat 32 (grid0.coords t 1).val).toNat * 512 + 1 * (j 2).val = t.val % 2 * 512 + (j 2).val
              rw [e1, BitVec.toNat_ofNat]; omega

end Cert.MemIdeal.Value

end
-- ==== Proof.MemArray.lean ====
module

public import proofs.«01_k».proof.Proof.MemBlock

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.MemIdeal.Value

open Cert.MemIdeal Cert.MemIdeal.Gen

variable (m : (ℓ : Loc nD τ sig) → Buf (Elt Ideal) ℓ) (ρ : Dev nD → PrngReg)

/-- At the ideal values the rows are carried over unchanged. -/
theorem pay1_eq (x : Vec Ideal S512x2048 .f32) (j : S512x2048.Idx) : k0_pay1 x j = x j := by
  unfold k0_pay1
  simp only [shapeCast_self]
  rfl

/-- One entry of a point's block: the row times the column of the weight block. -/
theorem pay2_apply (x : Vec Ideal S512x2048 .bf16) (w : Vec Ideal S1x2048x512 .bf16) (z : Fin 1) (r n : Fin 512) :
    (k0_pay2 x w (ix3 z r n) : EReal) = ∑ k : Fin 2048, (x (ix2 r k) : EReal) * (w (ix3 (n0 := 1) 0 k n) : EReal) := by
  unfold k0_pay2
  refine (shapeCast_addUnit_apply ![512, 512] _ _ _).trans ?_
  rw [show (fun a : Fin 2 => (ix3 z r n : S1x512x512.Idx) a.succ) = (ix2 r n : S512x512.Idx) from funext fun a => by fin_cases a <;> rfl]
  refine (Ideal.matmul_plain_apply (M := 512) (K := 2048) (N := 512) none x _ _ r n).trans ?_
  refine (congrArg (· + _) Ideal.ofBits_zero_f32).trans ?_
  rw [zero_add]
  refine Finset.sum_congr rfl fun k _ => ?_
  refine congrArg _ ((shapeCast_dropUnit_apply ![2048, 512] _ _ _).trans (congrArg w ?_))
  funext a; fin_cases a <;> rfl

/-- For each layer the rows times its matrix. -/
def product (X : S512x2048.Idx → EReal) (W : S4x2048x1024.Idx → EReal) (i : S4x512x1024.Idx) : EReal :=
  ∑ k : Fin 2048, X (ix2 (n0 := 512) (i 1) k) * W (ix3 (n0 := 4) (n2 := 1024) (i 0) k (i 2))

/-- What the array of all layers ends holding: for each layer the rows times its matrix. -/
def result (c : Dev nD) : Buf (Elt Ideal) ((c : Thread nD τ).loc main_v3) := product (V m c main_v1) (V m c main_v0)

/-- Each point writes back its block of that array. -/
theorem flushed_eq (c : Dev nD) (t : Fin cfg0.N) (_ : (cfg0.win 3).flush t = true) :
    (dats m 0 c).flushed 3 t = ((cfg0.win 3).blk t).view.read (Elt Ideal) (result m c) := by
  show (cfg0.win 3).cut (grid0.coords t) ((dats m 0 c).after 3 t) = _
  rw [after0_3, outsAt_eq]
  funext j
  rw [View.read_apply]
  show (k0_pay2 (F := Ideal) _ _ j : EReal) = result m c (((cfg0.win 3).blk t).view.emb j)
  have ht : t.val < 8 := Nat.lt_of_lt_of_eq t.isLt N_0
  have e0 : (grid0.coords t 0).val = t.val / 2 % 4 := Pipeline.Grid.coords_val t 0 (by decide) rfl
  have e1 : (grid0.coords t 1).val = t.val / 1 % 2 := Pipeline.Grid.coords_val t 1 (by decide) rfl
  have hj0 : (j 0).val < 1 := (j 0).isLt
  have hj2 : (j 2).val < 512 := (j 2).isLt
  have hi : ((cfg0.win 3).blk t).view.emb j = (ix3 (n0 := 4) (n1 := 512) (n2 := 1024) ⟨t.val / 2, by omega⟩ (j 1) ⟨t.val % 2 * 512 + (j 2).val, by omega⟩ : S4x512x1024.Idx) := by
    funext a
    apply Fin.ext
    match a with
    | ⟨0, _⟩ => show (BitVec.ofNat 32 (grid0.coords t 0).val).toNat * 1 + 1 * (j 0).val = t.val / 2
                rw [e0, BitVec.toNat_ofNat]; omega
    | ⟨1, _⟩ => show 0 * 512 + 1 * (j 1).val = (j 1).val; omega
    | ⟨2, _⟩ => show (BitVec.ofNat 32 (grid0.coords t 1).val).toNat * 512 + 1 * (j 2).val = t.val % 2 * 512 + (j 2).val
                rw [e1, BitVec.toNat_ofNat]; omega
  rw [hi]
  obtain ⟨z, r, n, rfl⟩ : ∃ (z : Fin 1) (r n : Fin 512), j = ix3 z r n := ⟨_, _, _, eq_ix3 j⟩
  refine (pay2_apply _ _ z r n).trans ?_
  show _ = product _ _ _
  unfold product
  refine Finset.sum_congr rfl fun k _ => ?_
  exact congrArg₂ (· * ·) (pay1_eq _ _) (iblk2_apply m c t _)

/-- The blocks of all points cover the array. -/
theorem final_o (c : Dev nD) : (dats m 0 c).arrAt 3 cfg0.N = result m c :=
  (dats m 0 c).arrAt_eq_of_cover 3 (result m c) (flushed_eq m c) fun i =>
    have h0 : (i 0 : Nat) < 4 := (i 0).isLt
    have h1 : (i 1 : Nat) < 512 := (i 1).isLt
    have h2 : (i 2 : Nat) < 1024 := (i 2).isLt
    have hN : cfg0.N = 8 := N_0
    ⟨⟨(i 0 : Nat) * 2 + (i 2 : Nat) / 512, by omega⟩, flush0_3 _, by
      generalize hT : (⟨(i 0 : Nat) * 2 + (i 2 : Nat) / 512, by omega⟩ : Fin cfg0.N) = t
      have hv : t.val = (i 0 : Nat) * 2 + (i 2 : Nat) / 512 := by rw [← hT]
      have e0 : (grid0.coords t 0).val = t.val / 2 % 4 := Pipeline.Grid.coords_val t 0 (by decide) rfl
      have e1 : (grid0.coords t 1).val = t.val / 1 % 2 := Pipeline.Grid.coords_val t 1 (by decide) rfl
      show i ∈ ((View.whole main_v3).slice (win0_3.rect t)).set
      rw [View.set_slice_whole, Rect.mem_set_unit]
      intro a
      match a with
      | ⟨0, _⟩ => show (BitVec.ofNat 32 (grid0.coords t 0).val).toNat * 1 ≤ (i 0 : Nat) ∧ (i 0 : Nat) < (BitVec.ofNat 32 (grid0.coords t 0).val).toNat * 1 + 1
                  rw [e0, BitVec.toNat_ofNat]; omega
      | ⟨1, _⟩ => show 0 * 512 ≤ (i 1 : Nat) ∧ (i 1 : Nat) < 0 * 512 + 512; omega
      | ⟨2, _⟩ => show (BitVec.ofNat 32 (grid0.coords t 1).val).toNat * 512 ≤ (i 2 : Nat) ∧ (i 2 : Nat) < (BitVec.ofNat 32 (grid0.coords t 1).val).toNat * 512 + 512
                  rw [e1, BitVec.toNat_ofNat]; omega⟩

/-- The rows the call finds: the memories of both batch entries, row after row. -/
theorem V_rows (c : Dev nD) : (V m c main_v1 : S512x2048.Idx → Elt Ideal .f32) = shapeCast S512x2048 (m ((c : Thread nD τ).loc main_arg0) : S2x256x2048.Idx → Elt Ideal .f32) shapeCasts_S2x256x2048_S512x2048 := by
  show StableHlo.after hostOps0 (fun b => m (c, b)) (Proc.devRef .tc main_v1) = _
  after_results <;> rfl
/-- The matrices the call finds: the weights themselves. -/
theorem V_weights (c : Dev nD) : (V m c main_v0 : S4x2048x1024.Idx → Elt Ideal .bf16) = (m ((c : Thread nD τ).loc main_arg1) : S4x2048x1024.Idx → Elt Ideal .f32) := by
  show StableHlo.after hostOps0 (fun b => m (c, b)) (Proc.devRef .tc main_v0) = _
  after_results <;> rfl

/-- The keys: the first half of the columns, by heads. -/
abbrev keys (c : Dev nD) : Buf (Elt Ideal) ((c : Thread nD τ).loc main_v6) :=
  shapeCast S4x2x256x4x128 (extractStridedSlice S4x2x256x512 ![0, 0, 0, 0] (shapeCast S4x2x256x1024 (result m c : S4x512x1024.Idx → Elt Ideal .f32) shapeCasts_S4x512x1024_S4x2x256x1024) slices_S4x2x256x1024_S4x2x256x512_0_0_0_0) shapeCasts_S4x2x256x512_S4x2x256x4x128
/-- The values: the second half of the columns, by heads. -/
abbrev values (c : Dev nD) : Buf (Elt Ideal) ((c : Thread nD τ).loc main_v8) :=
  shapeCast S4x2x256x4x128 (extractStridedSlice S4x2x256x512 ![0, 0, 0, 512] (shapeCast S4x2x256x1024 (result m c : S4x512x1024.Idx → Elt Ideal .f32) shapeCasts_S4x512x1024_S4x2x256x1024) slices_S4x2x256x1024_S4x2x256x512_0_0_0_512) shapeCasts_S4x2x256x512_S4x2x256x4x128

theorem tail_in (c : Dev nD) : (Pipeline.withArrays spec0 c (V0 m c) (fun w => (dats m 0 c).arrAt w cfg0.N)) (Proc.devRef .tc main_v3) = result m c :=
  (Pipeline.withArrays_arr spec0 winFacts0.arr_inj c (V0 m c) (fun w => (dats m 0 c).arrAt w cfg0.N) 3).trans (final_o m c)

/-- The host lines after the call cut and reshape the array. -/
theorem tail_keys (c : Dev nD) : Pipeline.afterTail₀ cfgs (dats m) 0 (V0 m) [hostOps1] c main_v6 = keys m c := by
  unfold Pipeline.afterTail₀ keys
  rw [← tail_in m c]
  show StableHlo.after hostOps1 _ _ = _
  generalize Pipeline.withArrays _ c _ _ = W
  after_results <;> rfl
theorem tail_values (c : Dev nD) : Pipeline.afterTail₀ cfgs (dats m) 0 (V0 m) [hostOps1] c main_v8 = values m c := by
  unfold Pipeline.afterTail₀ values
  rw [← tail_in m c]
  show StableHlo.after hostOps1 _ _ = _
  generalize Pipeline.withArrays _ c _ _ = W
  after_results <;> rfl

/-- The kernel's run: both results, and the arguments unchanged. -/
theorem run : θ_run defs (onTc (τ := τ) (main (F := Ideal))) ⟨m, fun _ => 0, ρ⟩ fun r => ∀ c : Dev nD,
      r.2.mem ((c.tc : Thread nD τ).loc main_v6) = keys m c
      ∧ r.2.mem ((c.tc : Thread nD τ).loc main_v8) = values m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_keys m c),
     ((h c).2 main_v8 (Pipeline.mem_restRefs_of main_v8 (by decide) (by decide))).trans (tail_values m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.MemIdeal.Value

end
-- ==== Proof.MemEq.lean ====
module

public import proofs.«01_k».proof.Proof.MemArray
public import proofs.«01_k».proof.Proof.Gen.MemReferenceIdeal.Run

@[expose] public section

set_option maxRecDepth 16384

noncomputable section

open Idealize.ShloMosaic Idealize.ShloMosaic.TcCoe Idealize.SL.Sem
open Idealize.ShloMosaic.ValueIdx
open scoped BigOperators

namespace Cert.MemReferenceIdeal.Value

open Cert.MemReferenceIdeal

/-- The reference's product, entry by entry. -/
theorem dot_apply (w : FVec Ideal S4x2048x1024 .f32) (x : FVec Ideal S2x256x2048 .f32) (l : Fin 4) (e : Fin 1024) (b : Fin 2) (s : Fin 256) :
    Host.dotGeneral dot_S4x2048x1024_S2x256x2048_S4x1024x2x256_1_2_02_01_n_n none w x (ix4 l e b s)
      = ∑ k : Fin 2048, w (ix3 l k e) * x (ix3 b s k) := by
  show FloatOps.dotGeneral _ none _ w x _ = _
  let D := dot_S4x2048x1024_S2x256x2048_S4x1024x2x256_1_2_02_01_n_n
  rw [Ideal.dotGeneral_apply, ← Equiv.sum_comp (contrEquiv1 D 2048 rfl rfl).symm]
  refine Finset.sum_congr rfl fun k _ => ?_
  have ck := contrEquiv1_symm_val D 2048 rfl rfl k
  have hl : D.lhsIdx (ix4 l e b s) ((contrEquiv1 D 2048 rfl rfl).symm k) = ix3 l k e := by
    funext a; apply Fin.ext
    match a with
    | ⟨0, _⟩ => rfl
    | ⟨1, _⟩ => exact ck
    | ⟨2, _⟩ => rfl
  have hr : D.rhsIdx (ix4 l e b s) ((contrEquiv1 D 2048 rfl rfl).symm k) = ix3 b s k := by
    funext a; apply Fin.ext
    match a with
    | ⟨0, _⟩ => rfl
    | ⟨1, _⟩ => rfl
    | ⟨2, _⟩ => exact ck
  rw [hl, hr]

/-- The reference's product with its axes in the order of the results: layer, batch entry, memory row, column. -/
def array (w : FVec Ideal S4x2048x1024 .f32) (x : FVec Ideal S2x256x2048 .f32) : FVec Ideal S4x2x256x1024 .f32 :=
  transpose S4x2x256x1024 [0, 2, 3, 1] (Host.dotGeneral dot_S4x2048x1024_S2x256x2048_S4x1024x2x256_1_2_02_01_n_n none w x)
    Cert.MemReferenceIdeal.Gen.transposes_S4x1024x2x256_S4x2x256x1024_0_2_3_1

theorem array_apply (w : FVec Ideal S4x2048x1024 .f32) (x : FVec Ideal S2x256x2048 .f32) (l : Fin 4) (b : Fin 2) (s : Fin 256) (e : Fin 1024) :
    (array w x (ix4 l b s e) : EReal) = ∑ k : Fin 2048, w (ix3 l k e) * x (ix3 b s k) := by
  unfold array
  refine Eq.trans ?_ (dot_apply w x l e b s)
  unfold transpose
  congr 1
  funext a; fin_cases a <;> rfl

end Cert.MemReferenceIdeal.Value

namespace Cert.MemEquation

open Cert.MemIdeal Cert.MemIdeal.Gen

/-- The kernel's array, by batch entries, is the reference's product. -/
theorem array_eq (w : FVec Ideal S4x2048x1024 .f32) (x : FVec Ideal S2x256x2048 .f32) :
    (shapeCast S4x2x256x1024 (Cert.MemIdeal.Value.product (shapeCast S512x2048 x shapeCasts_S2x256x2048_S512x2048) w : FVec Ideal S4x512x1024 .f32) shapeCasts_S4x512x1024_S4x2x256x1024 : FVec Ideal S4x2x256x1024 .f32)
      = Cert.MemReferenceIdeal.Value.array w x := by
  funext j
  obtain ⟨l, b, s, e, rfl⟩ : ∃ (l : Fin 4) (b : Fin 2) (s : Fin 256) (e : Fin 1024), j = ix4 l b s e := ⟨_, _, _, _, eq_ix4 j⟩
  have hb : b.val < 2 := b.isLt
  have hs : s.val < 256 := s.isLt
  refine (shapeCast_apply _ _ (ix4 l b s e) (ix3 (n0 := 4) (n1 := 512) (n2 := 1024) l ⟨b.val * 256 + s.val, by omega⟩ e)
    (by rw [Shape.rowMajor_val_three, Shape.rowMajor_val_four]
        show (l.val * 512 + (b.val * 256 + s.val)) * 1024 + e.val = ((l.val * 2 + b.val) * 256 + s.val) * 1024 + e.val
        ring)).trans ?_
  refine Eq.trans ?_ (Cert.MemReferenceIdeal.Value.array_apply w x l b s e).symm
  unfold Cert.MemIdeal.Value.product
  refine Finset.sum_congr rfl fun k _ => ?_
  refine (mul_comm _ _).trans (congrArg _ ?_)
  exact shapeCast_apply _ _ _ (ix3 (n0 := 2) (n1 := 256) (n2 := 2048) b s k)
    (by rw [Shape.rowMajor_val_three, Shape.rowMajor_val_two]; rfl)

theorem result_eq (m : (ℓ : Loc nD τ sig) → Buf (Elt Ideal) ℓ) (c : Dev nD) :
    Cert.MemIdeal.Value.result m c = Cert.MemIdeal.Value.product (shapeCast S512x2048 (m ((c : Thread nD τ).loc main_arg0) : FVec Ideal S2x256x2048 .f32) shapeCasts_S2x256x2048_S512x2048) (m ((c : Thread nD τ).loc main_arg1) : FVec Ideal S4x2048x1024 .f32) := by
  unfold Cert.MemIdeal.Value.result
  rw [Cert.MemIdeal.Value.V_rows, Cert.MemIdeal.Value.V_weights]

/-- From memories that agree on the arguments the kernel and the reference end with equal keys and values, and
    with their arguments unchanged. -/
theorem algebraic : Cert.algebraic_MemIdeal_MemReferenceIdeal (hMemIdeal := Cert.MemIdeal.Gen.facts) (hMemReferenceIdeal := Cert.MemReferenceIdeal.Gen.facts) := by
  intro m g m' g' _ hagree
  refine ⟨fun c => Cert.MemIdeal.Value.keys m c, fun c => Cert.MemIdeal.Value.values m c, Cert.MemIdeal.Value.run m g, ?_⟩
  refine (θ_run _ _ _).mono (fun _ h c => ?_) (Cert.MemReferenceIdeal.Value.run (F := Ideal) m' g')
  obtain ⟨h4, h5, ha0, ha1⟩ := h c
  obtain ⟨e0, e1⟩ := hagree c
  refine ⟨h4.trans ?_, h5.trans ?_, ha0, ha1⟩
  · rw [e0, e1]
    show _ = Cert.MemIdeal.Value.keys m c
    unfold Cert.MemIdeal.Value.keys
    rw [result_eq m c]
    refine Eq.trans ?_ (congrArg (fun z => shapeCast S4x2x256x4x128 (extractStridedSlice S4x2x256x512 _ z _) _) (array_eq _ _).symm)
    rfl
  · rw [e0, e1]
    show _ = Cert.MemIdeal.Value.values m c
    unfold Cert.MemIdeal.Value.values
    rw [result_eq m c]
    refine Eq.trans ?_ (congrArg (fun z => shapeCast S4x2x256x4x128 (extractStridedSlice S4x2x256x512 _ z _) _) (array_eq _ _).symm)
    rfl

/-- The reference leaves every counter at zero. -/
theorem reference_quiescent : Cert.quiescent_MemReferenceIdeal (hMemReferenceIdeal := Cert.MemReferenceIdeal.Gen.facts) := fun m g _ =>
  (θ_run _ _ _).mono (fun r h => ⟨fun c => (h c).2.2, sem_eq_zero_of_no_sems (by decide) r.2⟩) (Cert.MemReferenceIdeal.Value.run (F := Ideal) m g)

end Cert.MemEquation

end
-- ==== Proof.ProjRun.lean ====
module

public import proofs.«01_k».proof.Proof.Gen.ProjIdeal.Frame
public import proofs.«01_k».proof.Proof.Gen.ProjIdeal.Skeleton
public import proofs.«01_k».proof.Proof.Gen.ProjIdeal.Points
public import Idealize.ShloMosaic.Lib.Pipeline.Value

/-!
The body of the projection kernel, run on any staging memrefs. It normalises its rows into the scratch at the first
column block, multiplies the scratch with the weight block into the output block, and at four of the column blocks
copies the block, head by head, into one of the two cache windows.
-/

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the normalisation: the column block is the first. -/
abbrev first (i : grid0.Coords) : Prop :=
  (Scalar.cmpi .ne (Scalar.extui (Scalar.cmpi .eq (BitVec.ofNat 32 (i 1).val) 0#32)) 0#32) = 1#1

/-- It holds at the points divisible by 13. -/
theorem first_iff : ∀ t : Fin cfg0.N, first (grid0.coords t) ↔ t.val % 13 = 0 :=
  (fun t => by
    have ht : t.val < 104 := Nat.lt_of_lt_of_eq t.isLt N_0
    have e1 : (grid0.coords t 1).val = t.val / 1 % 13 := Pipeline.Grid.coords_val t 1 (by decide) rfl
    simp only [first, e1]
    word_cmp
   : ∀ t : Fin grid0.N, first (grid0.coords t) ↔ t.val % 13 = 0)

/-- A condition whose second conjunct compares a number with `k` holds only where the two are equal. -/
theorem eq_of_guard {a : BitVec 1} {n k : ℕ} (hn : n < 2 ^ 32) (hk : k < 2 ^ 32)
    (h : Scalar.cmpi .ne (Scalar.extui (Scalar.andi a (Scalar.cmpi .eq (BitVec.ofNat 32 n) (BitVec.ofNat 32 k))) : BitVec 32) 0#32 = 1#1) :
    n = k := by
  by_contra hne
  have hb : Scalar.cmpi .eq (BitVec.ofNat 32 n) (BitVec.ofNat 32 k) = 0#1 := by
    have : BitVec.ofNat 32 n ≠ BitVec.ofNat 32 k := fun h => hne (by
      have := congrArg BitVec.toNat h
      rw [BitVec.toNat_ofNat, BitVec.toNat_ofNat, Nat.mod_eq_of_lt hn, Nat.mod_eq_of_lt hk] at this; exact this)
    show BitVec.ofBool (BitVec.ofNat 32 n == BitVec.ofNat 32 k) = 0#1
    rw [beq_eq_false_iff_ne.mpr this]; rfl
  rw [hb] at h
  revert h
  revert a
  decide

theorem cond2_eq (i : grid0.Coords) (h : k0_cond2 i = 1#1) : (i 1).val = 2 := by
  unfold k0_cond2 at h; dsimp only at h; exact eq_of_guard (lt_of_lt_of_le (show (i 1).val < 13 from (i 1).isLt) (by decide)) (by decide) h
theorem cond3_eq (i : grid0.Coords) (h : k0_cond3 i = 1#1) : (i 1).val = 3 := by
  unfold k0_cond3 at h; dsimp only at h; exact eq_of_guard (lt_of_lt_of_le (show (i 1).val < 13 from (i 1).isLt) (by decide)) (by decide) h
theorem cond4_eq (i : grid0.Coords) (h : k0_cond4 i = 1#1) : (i 1).val = 4 := by
  unfold k0_cond4 at h; dsimp only at h; exact eq_of_guard (lt_of_lt_of_le (show (i 1).val < 13 from (i 1).isLt) (by decide)) (by decide) h
theorem cond5_eq (i : grid0.Coords) (h : k0_cond5 i = 1#1) : (i 1).val = 5 := by
  unfold k0_cond5 at h; dsimp only at h; exact eq_of_guard (lt_of_lt_of_le (show (i 1).val < 13 from (i 1).isLt) (by decide)) (by decide) h

/-- One store through the whole rectangle leaves its payload, whatever was there. -/
theorem read_store {sp : Space} {S : Shape} {e : EltTy} (v : View sig .tc sp S e) (f : v.ty.Contents (Elt F)) {off : Fin S.rank → ℕ}
    (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ fun y => ⟨_, List.mem_singleton_self _, View.mem_set_unit_zero hz inb y⟩]
  exact View.canon_unit_zero hz inb w

/-- The offset of a whole rectangle. -/
theorem zero2 : (![0, 0] : Fin 2 → ℕ) = fun _ => 0 := by funext a; fin_cases a <;> rfl

set_option maxHeartbeats 4000000 in
/-- At the first column block: the scratch takes the normalised rows, the output block their product. -/
theorem run_first (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1x1x8192x128 .f32) (harg6 : arg6.IsWhole) (arg7 : Memref sig .tc .vmem S1x1x8192x128 .f32) (harg7 : arg7.IsWhole) (arg8 : Memref sig .tc .vmem S1024x2048 .bf16) (harg8 : arg8.IsWhole)
    (h1 : first i) (h2 : ¬k0_cond2 i = 1#1) (h3 : ¬k0_cond3 i = 1#1) (h4 : ¬k0_cond4 i = 1#1) (h5 : ¬k0_cond5 i = 1#1)
    (x0 : Vec F S1024x2048 .f32) (x1 : Vec F S1x2048 .f32) (x2 : Vec F S2048x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay6 (k0_pay5 x0 x1) x2) ∗ (∃ d, owns (c : Thread nD τ) arg6 fullShare d) ∗ (∃ d, owns (c : Thread nD τ) arg7 fullShare d) ∗ owns (c : Thread nD τ) arg8 fullShare (k0_pay5 x0 x1)) -∗ K ⟨⟩))
      ⊢ wp frame (wpE (defs₀ (F := F)) Variants.none c none) E (cc0_proj_kv i arg2 harg2 arg3 harg3 arg4 harg4 arg5 harg5 arg6 harg6 arg7 harg7 arg8 harg8) K := by
  simp only [cc0_proj_kv_eq_skeleton]; unfold cc0_proj_kv_skel; simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  sl_exec (disch := first | sl_exact h1 | sl_exact h2 | sl_exact h3 | sl_exact h4 | sl_exact h5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    · ipureintro
      refine (read_store _ _ zero2 _ _).trans ?_
      sl_unfold_words
      simp only [View.readAt_eq_ld, harg2.read_unread, harg3.read_unread, harg4.read_unread, View.readCov_unit_zero (S := S1024x2048) _ zero2, View.ld_unit_zero (S := S1024x2048) zero2, View.ld_unit_zero (S := S1x2048) zero2, View.ld_unit_zero (S := S2048x512) zero2]
  isplitl [H6]
  · iexists _; iexists _; isplitr
    swap; · iexact H6
    ipureintro; rfl
  isplitl [H7]
  · iexists _; iexists _; isplitr
    swap; · iexact H7
    ipureintro; rfl
  · skip
    iexists _; isplitr
    swap; · iexact H8
    ipureintro
    refine (read_store _ _ zero2 _ _).trans ?_
    sl_unfold_words
    simp only [View.readAt_eq_ld, harg2.read_unread, harg3.read_unread, View.ld_unit_zero (S := S1024x2048) zero2, View.ld_unit_zero (S := S1x2048) zero2]

set_option maxHeartbeats 4000000 in
/-- At a column block that is copied nowhere: the output block takes the product of the scratch. -/
theorem run_none (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1x1x8192x128 .f32) (harg6 : arg6.IsWhole) (arg7 : Memref sig .tc .vmem S1x1x8192x128 .f32) (harg7 : arg7.IsWhole) (arg8 : Memref sig .tc .vmem S1024x2048 .bf16) (harg8 : arg8.IsWhole)
    (h1 : ¬first i) (h2 : ¬k0_cond2 i = 1#1) (h3 : ¬k0_cond3 i = 1#1) (h4 : ¬k0_cond4 i = 1#1) (h5 : ¬k0_cond5 i = 1#1)
    (x0 : Vec F S1024x2048 .f32) (x1 : Vec F S1x2048 .f32) (x2 : Vec F S2048x512 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay6 (xs) x2) ∗ (∃ d, owns (c : Thread nD τ) arg6 fullShare d) ∗ (∃ d, owns (c : Thread nD τ) arg7 fullShare d) ∗ owns (c : Thread nD τ) arg8 fullShare (xs)) -∗ K ⟨⟩))
      ⊢ wp frame (wpE (defs₀ (F := F)) Variants.none c none) E (cc0_proj_kv i arg2 harg2 arg3 harg3 arg4 harg4 arg5 harg5 arg6 harg6 arg7 harg7 arg8 harg8) K := by
  simp only [cc0_proj_kv_eq_skeleton]; unfold cc0_proj_kv_skel; simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  obtain rfl := harg2.eq_unread hf2; obtain rfl := harg3.eq_unread hf3; obtain rfl := harg4.eq_unread hf4; obtain rfl := harg8.eq_unread hf8
  sl_exec (disch := first | sl_exact h1 | sl_exact h2 | sl_exact h3 | sl_exact h4 | sl_exact h5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    · ipureintro
      refine (read_store _ _ zero2 _ _).trans ?_
      sl_unfold_words
      simp only [View.readAt_eq_ld, harg4.read_unread, harg8.read_unread, View.ld_unit_zero (S := S1024x2048) zero2, View.ld_unit_zero (S := S2048x512) zero2]
  isplitl [H6]
  · iexists _; iexists _; isplitr
    swap; · iexact H6
    ipureintro; rfl
  isplitl [H7]
  · iexists _; iexists _; isplitr
    swap; · iexact H7
    ipureintro; rfl
  · skip
    iexists _; isplitr; · ipureintro; exact harg8.read_unread _
    iexact H8

set_option maxHeartbeats 4000000 in
/-- At a column block copied into a cache window (condition 2): as elsewhere, and the window ends at some contents. -/
theorem run_tail2 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1x1x8192x128 .f32) (harg6 : arg6.IsWhole) (arg7 : Memref sig .tc .vmem S1x1x8192x128 .f32) (harg7 : arg7.IsWhole) (arg8 : Memref sig .tc .vmem S1024x2048 .bf16) (harg8 : arg8.IsWhole)
    (h1 : ¬first i) (h2 : k0_cond2 i = 1#1) (h3 : ¬k0_cond3 i = 1#1) (h4 : ¬k0_cond4 i = 1#1) (h5 : ¬k0_cond5 i = 1#1)
    (x0 : Vec F S1024x2048 .f32) (x1 : Vec F S1x2048 .f32) (x2 : Vec F S2048x512 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay6 (xs) x2) ∗ (∃ d, owns (c : Thread nD τ) arg6 fullShare d) ∗ (∃ d, owns (c : Thread nD τ) arg7 fullShare d) ∗ owns (c : Thread nD τ) arg8 fullShare (xs)) -∗ K ⟨⟩))
      ⊢ wp frame (wpE (defs₀ (F := F)) Variants.none c none) E (cc0_proj_kv i arg2 harg2 arg3 harg3 arg4 harg4 arg5 harg5 arg6 harg6 arg7 harg7 arg8 harg8) K := by
  simp only [cc0_proj_kv_eq_skeleton]; unfold cc0_proj_kv_skel; simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  obtain rfl := harg2.eq_unread hf2; obtain rfl := harg3.eq_unread hf3; obtain rfl := harg4.eq_unread hf4; obtain rfl := harg8.eq_unread hf8
  sl_exec (disch := first | sl_exact h1 | sl_exact h2 | sl_exact h3 | sl_exact h4 | sl_exact h5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    · ipureintro
      refine (read_store _ _ zero2 _ _).trans ?_
      sl_unfold_words
      simp only [View.readAt_eq_ld, harg4.read_unread, harg8.read_unread, View.ld_unit_zero (S := S1024x2048) zero2, View.ld_unit_zero (S := S2048x512) zero2]
  isplitl [H6]
  · iexists _; iexists _; isplitr
    swap; · iexact H6
    ipureintro; rfl
  isplitl [H7]
  · iexists _; iexists _; isplitr
    swap; · iexact H7
    ipureintro; rfl
  · skip
    iexists _; isplitr; · ipureintro; exact harg8.read_unread _
    iexact H8

set_option maxHeartbeats 4000000 in
/-- At a column block copied into a cache window (condition 3): as elsewhere, and the window ends at some contents. -/
theorem run_tail3 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1x1x8192x128 .f32) (harg6 : arg6.IsWhole) (arg7 : Memref sig .tc .vmem S1x1x8192x128 .f32) (harg7 : arg7.IsWhole) (arg8 : Memref sig .tc .vmem S1024x2048 .bf16) (harg8 : arg8.IsWhole)
    (h1 : ¬first i) (h2 : ¬k0_cond2 i = 1#1) (h3 : k0_cond3 i = 1#1) (h4 : ¬k0_cond4 i = 1#1) (h5 : ¬k0_cond5 i = 1#1)
    (x0 : Vec F S1024x2048 .f32) (x1 : Vec F S1x2048 .f32) (x2 : Vec F S2048x512 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay6 (xs) x2) ∗ (∃ d, owns (c : Thread nD τ) arg6 fullShare d) ∗ (∃ d, owns (c : Thread nD τ) arg7 fullShare d) ∗ owns (c : Thread nD τ) arg8 fullShare (xs)) -∗ K ⟨⟩))
      ⊢ wp frame (wpE (defs₀ (F := F)) Variants.none c none) E (cc0_proj_kv i arg2 harg2 arg3 harg3 arg4 harg4 arg5 harg5 arg6 harg6 arg7 harg7 arg8 harg8) K := by
  simp only [cc0_proj_kv_eq_skeleton]; unfold cc0_proj_kv_skel; simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  obtain rfl := harg2.eq_unread hf2; obtain rfl := harg3.eq_unread hf3; obtain rfl := harg4.eq_unread hf4; obtain rfl := harg8.eq_unread hf8
  sl_exec (disch := first | sl_exact h1 | sl_exact h2 | sl_exact h3 | sl_exact h4 | sl_exact h5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    · ipureintro
      refine (read_store _ _ zero2 _ _).trans ?_
      sl_unfold_words
      simp only [View.readAt_eq_ld, harg4.read_unread, harg8.read_unread, View.ld_unit_zero (S := S1024x2048) zero2, View.ld_unit_zero (S := S2048x512) zero2]
  isplitl [H6]
  · iexists _; iexists _; isplitr
    swap; · iexact H6
    ipureintro; rfl
  isplitl [H7]
  · iexists _; iexists _; isplitr
    swap; · iexact H7
    ipureintro; rfl
  · skip
    iexists _; isplitr; · ipureintro; exact harg8.read_unread _
    iexact H8

set_option maxHeartbeats 4000000 in
/-- At a column block copied into a cache window (condition 4): as elsewhere, and the window ends at some contents. -/
theorem run_tail4 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1x1x8192x128 .f32) (harg6 : arg6.IsWhole) (arg7 : Memref sig .tc .vmem S1x1x8192x128 .f32) (harg7 : arg7.IsWhole) (arg8 : Memref sig .tc .vmem S1024x2048 .bf16) (harg8 : arg8.IsWhole)
    (h1 : ¬first i) (h2 : ¬k0_cond2 i = 1#1) (h3 : ¬k0_cond3 i = 1#1) (h4 : k0_cond4 i = 1#1) (h5 : ¬k0_cond5 i = 1#1)
    (x0 : Vec F S1024x2048 .f32) (x1 : Vec F S1x2048 .f32) (x2 : Vec F S2048x512 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay6 (xs) x2) ∗ (∃ d, owns (c : Thread nD τ) arg6 fullShare d) ∗ (∃ d, owns (c : Thread nD τ) arg7 fullShare d) ∗ owns (c : Thread nD τ) arg8 fullShare (xs)) -∗ K ⟨⟩))
      ⊢ wp frame (wpE (defs₀ (F := F)) Variants.none c none) E (cc0_proj_kv i arg2 harg2 arg3 harg3 arg4 harg4 arg5 harg5 arg6 harg6 arg7 harg7 arg8 harg8) K := by
  simp only [cc0_proj_kv_eq_skeleton]; unfold cc0_proj_kv_skel; simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  obtain rfl := harg2.eq_unread hf2; obtain rfl := harg3.eq_unread hf3; obtain rfl := harg4.eq_unread hf4; obtain rfl := harg8.eq_unread hf8
  sl_exec (disch := first | sl_exact h1 | sl_exact h2 | sl_exact h3 | sl_exact h4 | sl_exact h5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    · ipureintro
      refine (read_store _ _ zero2 _ _).trans ?_
      sl_unfold_words
      simp only [View.readAt_eq_ld, harg4.read_unread, harg8.read_unread, View.ld_unit_zero (S := S1024x2048) zero2, View.ld_unit_zero (S := S2048x512) zero2]
  isplitl [H6]
  · iexists _; iexists _; isplitr
    swap; · iexact H6
    ipureintro; rfl
  isplitl [H7]
  · iexists _; iexists _; isplitr
    swap; · iexact H7
    ipureintro; rfl
  · skip
    iexists _; isplitr; · ipureintro; exact harg8.read_unread _
    iexact H8

set_option maxHeartbeats 4000000 in
/-- At a column block copied into a cache window (condition 5): as elsewhere, and the window ends at some contents. -/
theorem run_tail5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1x1x8192x128 .f32) (harg6 : arg6.IsWhole) (arg7 : Memref sig .tc .vmem S1x1x8192x128 .f32) (harg7 : arg7.IsWhole) (arg8 : Memref sig .tc .vmem S1024x2048 .bf16) (harg8 : arg8.IsWhole)
    (h1 : ¬first i) (h2 : ¬k0_cond2 i = 1#1) (h3 : ¬k0_cond3 i = 1#1) (h4 : ¬k0_cond4 i = 1#1) (h5 : k0_cond5 i = 1#1)
    (x0 : Vec F S1024x2048 .f32) (x1 : Vec F S1x2048 .f32) (x2 : Vec F S2048x512 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay6 (xs) x2) ∗ (∃ d, owns (c : Thread nD τ) arg6 fullShare d) ∗ (∃ d, owns (c : Thread nD τ) arg7 fullShare d) ∗ owns (c : Thread nD τ) arg8 fullShare (xs)) -∗ K ⟨⟩))
      ⊢ wp frame (wpE (defs₀ (F := F)) Variants.none c none) E (cc0_proj_kv i arg2 harg2 arg3 harg3 arg4 harg4 arg5 harg5 arg6 harg6 arg7 harg7 arg8 harg8) K := by
  simp only [cc0_proj_kv_eq_skeleton]; unfold cc0_proj_kv_skel; simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  obtain rfl := harg2.eq_unread hf2; obtain rfl := harg3.eq_unread hf3; obtain rfl := harg4.eq_unread hf4; obtain rfl := harg8.eq_unread hf8
  sl_exec (disch := first | sl_exact h1 | sl_exact h2 | sl_exact h3 | sl_exact h4 | sl_exact h5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    · ipureintro
      refine (read_store _ _ zero2 _ _).trans ?_
      sl_unfold_words
      simp only [View.readAt_eq_ld, harg4.read_unread, harg8.read_unread, View.ld_unit_zero (S := S1024x2048) zero2, View.ld_unit_zero (S := S2048x512) zero2]
  isplitl [H6]
  · iexists _; iexists _; isplitr
    swap; · iexact H6
    ipureintro; rfl
  isplitl [H7]
  · iexists _; iexists _; isplitr
    swap; · iexact H7
    ipureintro; rfl
  · skip
    iexists _; isplitr; · ipureintro; exact harg8.read_unread _
    iexact H8

end Cert.ProjIdeal.Hand

end
-- ==== Proof.ProjFrame.lean ====
module

public import proofs.«01_k».proof.Proof.ProjRun
public import Idealize.ShloMosaic.Lib.MatmulPlain

/-!
The frame of the projection kernel: every execution ends, the arguments are unchanged, and the array of the projected
rows ends at what the points write into it. The two cache windows are forgotten: nothing is said of them.
-/

@[expose] public section

set_option maxRecDepth 16384

noncomputable section

namespace Cert.ProjIdeal.Hand

open Idealize.ShloMosaic.ValueIdx
open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The scratch the kernel carries between points: the normalised rows. -/
abbrev scratch : Memref sig .tc .vmem S1024x2048 .bf16 := Memref.whole cc0_scratch0

/-- The windows of which nothing is claimed: the two caches. -/
def forgotten : Fin cfg0.W → Bool
  | ⟨4, _⟩ => true
  | ⟨5, _⟩ => true
  | _ => false

/-- The normalised rows of a point's row block. -/
def rows (c : Dev nD) (t : Fin cfg0.N) : Vec F S1024x2048 .bf16 := k0_pay5 (iblk m c 0 t) (iblk m c 1 t)

/-- A point's block of the result. -/
def block (c : Dev nD) (t : Fin cfg0.N) : Vec F S1024x512 .f32 := k0_pay6 (rows m c t) (iblk m c 2 t)

/-- The row block of a point: 1024 rows. -/
theorem iblk0_apply (c : Dev nD) (t : Fin cfg0.N) (j : S1024x2048.Idx) :
    iblk m c 0 t j = V m c main_v0 (ix2 (n0 := 8192) (n1 := 2048) ⟨t.val / 13 * 1024 + (j 0).val, by
      have h : t.val < 104 := lt_of_lt_of_eq t.isLt N_0
      have hj : (j 0).val < 1024 := (j 0).isLt
      omega⟩ (j 1)) := by
  unfold iblk
  rw [View.read_apply]
  show V m c main_v0 _ = V m c main_v0 _
  congr 1
  funext a
  apply Fin.ext
  have ht : t.val < 104 := Nat.lt_of_lt_of_eq t.isLt N_0
  have e0 : (grid0.coords t 0).val = t.val / 13 % 8 := Pipeline.Grid.coords_val t 0 (by decide) rfl
  match a with
  | ⟨0, _⟩ => show (BitVec.ofNat 32 (grid0.coords t 0).val).toNat * 1024 + 1 * (j 0).val = t.val / 13 * 1024 + (j 0).val
              rw [e0, BitVec.toNat_ofNat]; omega
  | ⟨1, _⟩ => show 0 * 2048 + 1 * (j 1).val = (j 1).val; omega

/-- Every point stages the whole row of scales. -/
theorem iblk1_eq (c : Dev nD) (t : Fin cfg0.N) : iblk m c 1 t = V m c main_v1 := by
  funext j
  unfold iblk
  rw [View.read_apply]
  show V m c main_v1 _ = V m c main_v1 _
  congr 1
  funext a
  apply Fin.ext
  match a with
  | ⟨0, _⟩ => show 0 * 1 + 1 * (j 0).val = (j 0).val; omega
  | ⟨1, _⟩ => show 0 * 2048 + 1 * (j 1).val = (j 1).val; omega

/-- The weight block of a point: 512 columns. -/
theorem iblk2_apply (c : Dev nD) (t : Fin cfg0.N) (j : S2048x512.Idx) :
    iblk m c 2 t j = V m c main_arg2 (ix2 (n0 := 2048) (n1 := 6656) (j 0) ⟨t.val % 13 * 512 + (j 1).val, by
      have hj : (j 1).val < 512 := (j 1).isLt
      omega⟩) := by
  unfold iblk
  rw [View.read_apply]
  show V m c main_arg2 _ = V m c main_arg2 _
  congr 1
  funext a
  apply Fin.ext
  have e1 : (grid0.coords t 1).val = t.val / 1 % 13 := Pipeline.Grid.coords_val t 1 (by decide) rfl
  match a with
  | ⟨0, _⟩ => show 0 * 2048 + 1 * (j 0).val = (j 0).val; omega
  | ⟨1, _⟩ => show (BitVec.ofNat 32 (grid0.coords t 1).val).toNat * 512 + 1 * (j 1).val = t.val % 13 * 512 + (j 1).val
              rw [e1, BitVec.toNat_ofNat]; omega

/-- The normalised rows are the same at all points of one row block. -/
theorem rows_eq (c : Dev nD) (s t : Fin cfg0.N) (h : s.val / 13 = t.val / 13) : rows m c s = rows m c t := by
  have e : iblk m c 0 s = iblk m c 0 t := by
    funext j
    refine (iblk0_apply m c s j).trans (Eq.trans ?_ (iblk0_apply m c t j).symm)
    congr 2
    apply Fin.ext
    show s.val / 13 * 1024 + _ = t.val / 13 * 1024 + _
    rw [h]
  have e1 : iblk m c 1 s = iblk m c 1 t := (iblk1_eq m c s).trans (iblk1_eq m c t).symm
  unfold rows
  rw [e, e1]

theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- What the core holds before point `n`: before the first the scratch at anything, later at the last point's rows. -/
def PhiS (c : Dev nD) : (n : ℕ) → n ≤ cfg0.N → sProp 𝕄
  | 0, _ => Pipeline.ΦA spec0 c
  | n + 1, hn => iprop(iprop(owns (c : Thread nD τ) scratch fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scratch fullShare (rows m c ⟨n, hn⟩)) ∗ (∃ r, prngReg c r)) := rfl
theorem PhiS_pos (c : Dev nD) (n : ℕ) (h : n ≤ cfg0.N) (hz : n ≠ 0) :
    PhiS m c n h = iprop(iprop(owns (c : Thread nD τ) scratch fullShare (rows m c ⟨n - 1, by omega⟩)) ∗ (∃ r, prngReg c r)) := by
  cases n with
  | zero => exact absurd rfl hz
  | succ n => rfl

/-- The proof data: each input at its block, the result at the point's block, the caches unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block m c t
    | ⟨4, _⟩ => Dat.unnamed 4 t
    | ⟨5, _⟩ => Dat.unnamed 5 t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = block m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

/-- The body at a point that is not the first of its row block, whichever of the four copies it makes. -/
theorem run_later (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1x1x8192x128 .f32) (harg6 : arg6.IsWhole) (arg7 : Memref sig .tc .vmem S1x1x8192x128 .f32) (harg7 : arg7.IsWhole) (arg8 : Memref sig .tc .vmem S1024x2048 .bf16) (harg8 : arg8.IsWhole)
    (h1 : ¬first i) (x0 : Vec F S1024x2048 .f32) (x1 : Vec F S1x2048 .f32) (x2 : Vec F S2048x512 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay6 (xs) x2) ∗ (∃ d, owns (c : Thread nD τ) arg6 fullShare d) ∗ (∃ d, owns (c : Thread nD τ) arg7 fullShare d) ∗ owns (c : Thread nD τ) arg8 fullShare (xs)) -∗ K ⟨⟩))
      ⊢ wp frame (wpE (defs₀ (F := F)) Variants.none c none) E (cc0_proj_kv i arg2 harg2 arg3 harg3 arg4 harg4 arg5 harg5 arg6 harg6 arg7 harg7 arg8 harg8) K := by
  by_cases h2 : k0_cond2 i = 1#1
  · have e := cond2_eq i h2
    exact run_tail2 c i _ _ _ _ _ _ _ _ _ _ _ _ _ _ h1 h2 (fun h => by have := cond3_eq i h; omega) (fun h => by have := cond4_eq i h; omega) (fun h => by have := cond5_eq i h; omega) x0 x1 x2 xs E K
  by_cases h3 : k0_cond3 i = 1#1
  · have e := cond3_eq i h3
    exact run_tail3 c i _ _ _ _ _ _ _ _ _ _ _ _ _ _ h1 h2 h3 (fun h => by have := cond4_eq i h; omega) (fun h => by have := cond5_eq i h; omega) x0 x1 x2 xs E K
  by_cases h4 : k0_cond4 i = 1#1
  · have e := cond4_eq i h4
    exact run_tail4 c i _ _ _ _ _ _ _ _ _ _ _ _ _ _ h1 h2 h3 h4 (fun h => by have := cond5_eq i h; omega) x0 x1 x2 xs E K
  by_cases h5 : k0_cond5 i = 1#1
  · exact run_tail5 c i _ _ _ _ _ _ _ _ _ _ _ _ _ _ h1 h2 h3 h4 h5 x0 x1 x2 xs E K
  exact run_none c i _ _ _ _ _ _ _ _ _ _ _ _ _ _ h1 h2 h3 h4 h5 x0 x1 x2 xs E K

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    after_0, after_1, after_2, after_3]
  rw [show (dats m 0 c).Φ t.succ = PhiS m c (t.val + 1) t.isLt from rfl, PhiS_succ]
  have hN : t.val < 104 := lt_of_lt_of_eq t.isLt (show cfg0.N = 104 from N_0)
  have e1 : (grid0.coords t 1).val = t.val / 1 % 13 := Pipeline.Grid.coords_val t 1 (by decide) rfl
  by_cases h0 : t.val % 13 = 0
  · have k2 : ¬k0_cond2 (grid0.coords t) = 1#1 := fun h => by have := cond2_eq _ h; omega
    have k3 : ¬k0_cond3 (grid0.coords t) = 1#1 := fun h => by have := cond3_eq _ h; omega
    have k4 : ¬k0_cond4 (grid0.coords t) = 1#1 := fun h => by have := cond4_eq _ h; omega
    have k5 : ¬k0_cond5 (grid0.coords t) = 1#1 := fun h => by have := cond5_eq _ h; omega
    have hΦ : (dats m 0 c).Φ t.castSucc ⊢ iprop(iprop((∃ d, owns (c : Thread nD τ) scratch fullShare d)) ∗ (∃ r, prngReg c r)) := by
      by_cases hz : t.val = 0
      · rw [PhiS_castSucc m c t, PhiS_zero m c _ _ hz, PhiA_eq]
      · rw [PhiS_castSucc m c t, PhiS_pos m c _ _ hz]
        iintro ⟨HS0, Hg⟩
        isplitl [HS0]
        · iexists _; iexact HS0
        iexact Hg
    refine (sep_mono_left hΦ).trans ?_
    iintro ⟨⟨HS0, Hg⟩, Ho, ⟨%d0, H0⟩, ⟨%d1, H1⟩, ⟨%d2, H2⟩, ⟨%d3, H3⟩, H4, H5⟩
    iapply (run_first c (grid0.coords t) _ _ _ _ _ _ _ _ _ _ _ _ _ _ ((first_iff t).mpr h0) k2 k3 k4 k5 (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    rw [PhiS_castSucc m c t, PhiS_pos m c _ _ hz, rows_eq m c ⟨t.val - 1, by omega⟩ t (show (t.val - 1) / 13 = t.val / 13 by omega)]
    iintro ⟨⟨HS0, Hg⟩, Ho, ⟨%d0, H0⟩, ⟨%d1, H1⟩, ⟨%d2, H2⟩, ⟨%d3, H3⟩, H4, H5⟩
    iapply (run_later c (grid0.coords t) _ _ _ _ _ _ _ _ _ _ _ _ _ _ (fun h => h0 ((first_iff t).mp h)) (iblk m c 0 t) (iblk m c 1 t) (iblk m c 2 t) (rows m c t) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

/-- The pipeline's body obligation, the caches forgotten. -/
theorem body_obligation (c : Dev nD) : BodyObligation (dats (F := F) m 0 c) (defs₀ (F := F)) Variants.none () Set.univ forgotten := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 104 := N_0
  rw [show (dats m 0 c).Φ (Fin.last cfg0.N) = PhiS m c cfg0.N (le_refl _) from rfl, PhiS_pos m c _ _ (by omega), PhiA_eq]
  iintro ⟨HS0, Hg⟩
  isplitl [HS0]
  · iexists _; iexact HS0
  iexact Hg

set_option backward.isDefEq.respectTransparency.types false in
set_option maxHeartbeats 800000 in
/-- The launch: the arrays end as the proof data says, the other buffers as the call found them, every counter at zero. -/
theorem run_main_quiescent : θ_run defs (onTc (τ := τ) (main (F := F))) (s₀ m ρ)
    (fun r => (Pipeline.RDat.FramePost cfg0 (fun c => (dats m 0 c).toRForget forgotten) (V m)) r ∧ r.2.sem = fun _ => 0) :=
  Pipeline.θ_run_frame_track_forget (Q' := _) cfgs (dats m) (0 : Fin 1) launch0 defs₀ Variants.none forgotten m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged, and the array of the projected rows at what the points wrote. -/
theorem run_rows : θ_run defs (onTc (τ := τ) (main (F := F))) ⟨m, fun _ => 0, ρ⟩ (fun r => (∀ c : Dev nD,
      r.2.mem ((c.tc : Thread nD τ).loc main_v2_0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((dats m 0 c).toRForget_arrAt_iff (fgt := forgotten) (w := 3) rfl cfg0.N _).mp ((h.1 c).1 3),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 2 rfl).trans ((A_eq m c 2).trans (V_main_arg2 m c))⟩, h.2⟩) (run_main_quiescent m ρ)

/-- The frame. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_rows m ρ)

end Cert.ProjIdeal.Hand

end
-- ==== Proof.ProjEq.lean ====
module

public import proofs.«01_k».proof.Defs
public import proofs.«01_k».proof.Proof.ProjFrame
public import proofs.«01_k».proof.Proof.Gen.ProjReferenceIdeal.Run
public import Idealize.ShloMosaic.Lib.Pipeline.Value
public import Idealize.ShloMosaic.Lib.StableHlo.Run
public import Idealize.ShloMosaic.Lib.Tactic
public import Idealize.ShloMosaic.Lib.Quiescent
public import Idealize.ShloMosaic.Lib.Pointwise

/-!
What the projection kernel computes at the ideal values, and that it is what the reference computes.
-/

@[expose] public section

set_option maxRecDepth 16384

noncomputable section

open Idealize.ShloMosaic Idealize.ShloMosaic.TcCoe Idealize.SL.Sem
open Idealize.ShloMosaic.Pipeline (Dat)
open scoped BigOperators

namespace Cert.ProjIdeal.Hand

open Cert.ProjIdeal Cert.ProjIdeal.Gen

/-- A number of a row divided by the root of the row's mean square (plus the small constant), times the column's scale. -/
def scaled {n : ℕ} (X : (⟨2, ![n, 2048]⟩ : Shape).Idx → EReal) (G : S1x2048.Idx → EReal) (r : Fin n) (k : Fin 2048) : EReal :=
  X (ix2 r k) * Ideal.rsqrt (Ideal.div (∑ l : Fin 2048, X (ix2 r l) * X (ix2 r l)) (Ideal.ofBits FTy.f32 0x45000000#32) + Ideal.ofBits FTy.f32 0x358637BD#32) * G (ix2 0 k)

/-- The scratch holds the scaled rows. -/
theorem pay5_apply (x : Vec Ideal S1024x2048 .f32) (g : Vec Ideal S1x2048 .f32) (r : Fin 1024) (k : Fin 2048) :
    (k0_pay5 x g (ix2 r k) : EReal) = scaled x g r k := by
  pointwise [k0_pay5]
  rfl

/-- A block is the product of the scratch with the weight block. -/
theorem pay6_apply (x : Vec Ideal S1024x2048 .bf16) (w : Vec Ideal S2048x512 .bf16) (r : Fin 1024) (n : Fin 512) :
    (k0_pay6 x w (ix2 r n) : EReal) = ∑ k : Fin 2048, (x (ix2 r k) : EReal) * (w (ix2 k n) : EReal) := by
  pointwise [k0_pay6]

/-- The scaled rows times the weights. -/
def product (X : S8192x2048.Idx → EReal) (G : S1x2048.Idx → EReal) (W : S2048x6656.Idx → EReal) (i : S8192x6656.Idx) : EReal :=
  ∑ k : Fin 2048, scaled X G (i 0) k * W (ix2 k (i 1))

variable (m : (ℓ : Loc nD τ sig) → Buf (Elt Ideal) ℓ) (ρ : Dev nD → PrngReg)

/-- What the array ends holding. -/
def result (c : Dev nD) : Buf (Elt Ideal) ((c : Thread nD τ).loc main_v2_0) := product (V m c main_v0) (V m c main_v1) (V m c main_arg2)

/-- The scaled rows of a row block are the scaled rows of the array. -/
theorem scaled_block (x : Vec Ideal S1024x2048 .f32) (X : S8192x2048.Idx → EReal) (G : S1x2048.Idx → EReal) (o : ℕ) (ho : o + 1024 ≤ 8192)
    (h : ∀ (r : Fin 1024) (k : Fin 2048), x (ix2 r k) = X (ix2 (⟨o + r.val, by omega⟩ : Fin 8192) k)) (r : Fin 1024) (k : Fin 2048) :
    scaled x G r k = scaled X G (⟨o + r.val, by omega⟩ : Fin 8192) k := by
  unfold scaled
  simp only [h]

/-- Each point writes back its block of that array. -/
theorem flushed_eq (c : Dev nD) (t : Fin cfg0.N) (_ : (cfg0.win 3).flush t = true) :
    (dats m 0 c).flushed 3 t = ((cfg0.win 3).blk t).view.read (Elt Ideal) (result m c) := by
  show (cfg0.win 3).cut (grid0.coords t) ((dats m 0 c).after 3 t) = _
  rw [after_3]
  funext j
  rw [View.read_apply]
  show (k0_pay6 (F := Ideal) _ _ j : EReal) = result m c (((cfg0.win 3).blk t).view.emb j)
  have ht : t.val < 104 := Nat.lt_of_lt_of_eq t.isLt N_0
  have e0 : (grid0.coords t 0).val = t.val / 13 % 8 := Pipeline.Grid.coords_val t 0 (by decide) rfl
  have e1 : (grid0.coords t 1).val = t.val / 1 % 13 := Pipeline.Grid.coords_val t 1 (by decide) rfl
  have hj0 : (j 0).val < 1024 := (j 0).isLt
  have hj1 : (j 1).val < 512 := (j 1).isLt
  have hi : ((cfg0.win 3).blk t).view.emb j = (ix2 (⟨t.val / 13 * 1024 + (j 0).val, by omega⟩ : Fin 8192) (⟨t.val % 13 * 512 + (j 1).val, by omega⟩ : Fin 6656) : S8192x6656.Idx) := by
    funext a
    apply Fin.ext
    match a with
    | ⟨0, _⟩ => show (BitVec.ofNat 32 (grid0.coords t 0).val).toNat * 1024 + 1 * (j 0).val = t.val / 13 * 1024 + (j 0).val
                rw [e0, BitVec.toNat_ofNat]; omega
    | ⟨1, _⟩ => show (BitVec.ofNat 32 (grid0.coords t 1).val).toNat * 512 + 1 * (j 1).val = t.val % 13 * 512 + (j 1).val
                rw [e1, BitVec.toNat_ofNat]; omega
  rw [hi]
  obtain ⟨r, n, rfl⟩ : ∃ (r : Fin 1024) (n : Fin 512), j = ix2 r n := ⟨j 0, j 1, by funext a; fin_cases a <;> rfl⟩
  refine (pay6_apply _ _ r n).trans ?_
  show _ = product _ _ _ _
  unfold product
  refine Finset.sum_congr rfl fun k _ => ?_
  refine congrArg₂ (· * ·) ?_ (iblk2_apply m c t _)
  refine (pay5_apply _ _ r k).trans ?_
  rw [iblk1_eq]
  exact scaled_block _ (V m c main_v0) (V m c main_v1) (t.val / 13 * 1024) (by omega) (fun r k => iblk0_apply m c t (ix2 r k)) r k

/-- The blocks of all points cover the array. -/
theorem final_z (c : Dev nD) : (dats m 0 c).arrAt 3 cfg0.N = result m c :=
  (dats m 0 c).arrAt_eq_of_cover 3 (result m c) (flushed_eq m c) fun i =>
    have h0 : (i 0 : Nat) < 8192 := (i 0).isLt
    have h1 : (i 1 : Nat) < 6656 := (i 1).isLt
    have hN : cfg0.N = 104 := N_0
    ⟨⟨(i 0 : Nat) / 1024 * 13 + (i 1 : Nat) / 512, by omega⟩, flush0_3 _, by
      generalize hT : (⟨(i 0 : Nat) / 1024 * 13 + (i 1 : Nat) / 512, by omega⟩ : Fin cfg0.N) = t
      have hv : t.val = (i 0 : Nat) / 1024 * 13 + (i 1 : Nat) / 512 := by rw [← hT]
      have e0 : (grid0.coords t 0).val = t.val / 13 % 8 := Pipeline.Grid.coords_val t 0 (by decide) rfl
      have e1 : (grid0.coords t 1).val = t.val / 1 % 13 := Pipeline.Grid.coords_val t 1 (by decide) rfl
      show i ∈ ((View.whole main_v2_0).slice (win0_3.rect t)).set
      rw [View.set_slice_whole, Rect.mem_set_unit]
      intro a
      match a with
      | ⟨0, _⟩ => show (BitVec.ofNat 32 (grid0.coords t 0).val).toNat * 1024 ≤ (i 0 : Nat) ∧ (i 0 : Nat) < (BitVec.ofNat 32 (grid0.coords t 0).val).toNat * 1024 + 1024
                  rw [e0, BitVec.toNat_ofNat]; omega
      | ⟨1, _⟩ => show (BitVec.ofNat 32 (grid0.coords t 1).val).toNat * 512 ≤ (i 1 : Nat) ∧ (i 1 : Nat) < (BitVec.ofNat 32 (grid0.coords t 1).val).toNat * 512 + 512
                  rw [e1, BitVec.toNat_ofNat]; omega⟩

/-- The rows the call finds: both batch entries, row after row. -/
theorem V_rows (c : Dev nD) : (V m c main_v0 : S8192x2048.Idx → Elt Ideal .f32) = shapeCast S8192x2048 (m ((c : Thread nD τ).loc main_arg0) : S2x4096x2048.Idx → Elt Ideal .f32) shapeCasts_S2x4096x2048_S8192x2048 := by
  show StableHlo.after hostOps0 (fun b => m (c, b)) (Proc.devRef .tc main_v0) = _
  after_results <;> rfl
/-- The scales the call finds: as a row. -/
theorem V_scales (c : Dev nD) : (V m c main_v1 : S1x2048.Idx → Elt Ideal .f32) = shapeCast S1x2048 (m ((c : Thread nD τ).loc main_arg1) : S2048.Idx → Elt Ideal .f32) shapeCasts_S2048_S1x2048 := by
  show StableHlo.after hostOps0 (fun b => m (c, b)) (Proc.devRef .tc main_v1) = _
  after_results <;> rfl

end Cert.ProjIdeal.Hand

namespace Cert.ProjReferenceIdeal.Value

open Cert.ProjReferenceIdeal Cert.ProjReferenceIdeal.Gen

/-- The reference's function of its arguments. -/
def result (x : FVec Ideal S2x4096x2048 .f32) (g : FVec Ideal S2048 .f32) (w : FVec Ideal S2048x6656 .bf16) : FVec Ideal S8192x6656 .f32 :=
  shapeCast _ (Host.dotGeneral dot_S2x4096x2048_S2048x6656_S2x4096x6656_2_0_01_1_n_n none (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) (extf .f32 w bitsLt_bf16_f32)) shapeCasts_S2x4096x6656_S8192x6656

/-- Entry by entry it is the product of the scaled rows with the weights. -/
theorem result_eq (x : FVec Ideal S2x4096x2048 .f32) (g : FVec Ideal S2048 .f32) (w : FVec Ideal S2048x6656 .bf16) :
    result x g w = Cert.ProjIdeal.Hand.product (shapeCast Cert.ProjIdeal.S8192x2048 x Cert.ProjIdeal.Gen.shapeCasts_S2x4096x2048_S8192x2048) (shapeCast Cert.ProjIdeal.S1x2048 g Cert.ProjIdeal.Gen.shapeCasts_S2048_S1x2048) w := by
  funext j
  obtain ⟨r, n, rfl⟩ : ∃ (r : Fin 8192) (n : Fin 6656), j = ix2 r n := ⟨j 0, j 1, by funext a; fin_cases a <;> rfl⟩
  pointwise [result, Cert.ProjIdeal.Hand.product, Cert.ProjIdeal.Hand.scaled]

end Cert.ProjReferenceIdeal.Value

namespace Cert.ProjEquation

open Cert.ProjIdeal Cert.ProjIdeal.Gen

/-- From memories that agree on the arguments the kernel and the reference end with equal projected rows, and with
    their arguments unchanged. -/
theorem algebraic : Cert.algebraic_ProjIdeal_ProjReferenceIdeal (hProjIdeal := Cert.ProjIdeal.Gen.facts) (hProjReferenceIdeal := Cert.ProjReferenceIdeal.Gen.facts) := by
  intro m g m' g' _ hagree
  refine ⟨fun c => Cert.ProjIdeal.Hand.result m c, ?_, ?_⟩
  · exact (θ_run _ _ _).mono (fun _ h c => ⟨(h.1 c).1.trans (Cert.ProjIdeal.Hand.final_z m c), (h.1 c).2⟩) (Cert.ProjIdeal.Hand.run_rows (F := Ideal) m g)
  refine (θ_run _ _ _).mono (fun _ h c => ?_) (Cert.ProjReferenceIdeal.Value.run (F := Ideal) m' g')
  obtain ⟨hz, ha⟩ := h c
  obtain ⟨e0, e1, e2⟩ := hagree c
  refine ⟨hz.trans ?_, ha⟩
  rw [e0, e1, e2]
  refine (Cert.ProjReferenceIdeal.Value.result_eq (m ((c : Thread nD τ).loc main_arg0)) (m ((c : Thread nD τ).loc main_arg1)) (m ((c : Thread nD τ).loc main_arg2))).trans ?_
  show _ = Cert.ProjIdeal.Hand.product _ _ _
  rw [Cert.ProjIdeal.Hand.V_rows, Cert.ProjIdeal.Hand.V_scales, V_main_arg2]

/-- The reference leaves every counter at zero. -/
theorem reference_quiescent : Cert.quiescent_ProjReferenceIdeal (hProjReferenceIdeal := Cert.ProjReferenceIdeal.Gen.facts) := fun m g _ =>
  (θ_run _ _ _).mono (fun r h => ⟨fun c => (h c).2, sem_eq_zero_of_no_sems (by decide) r.2⟩) (Cert.ProjReferenceIdeal.Value.run (F := Ideal) m g)

end Cert.ProjEquation

end
-- ==== Proof.MixBitsLater.lean ====
module

public import proofs.«01_k».proof.Proof.Gen.Mix.Frame
public import proofs.«01_k».proof.Proof.Gen.Mix.Skeleton
public import proofs.«01_k».proof.Proof.Gen.Mix.Points
public import Idealize.ShloMosaic.Lib.Pipeline.Value

/-!
What a run of the body needs and gives back, nothing said of what it writes.
-/

@[expose] public section

set_option maxRecDepth 65536

noncomputable section

namespace Cert.Mix.Hand

open Cert.Mix Cert.Mix.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first row block: the halo is loaded. -/
abbrev first (i : grid0.Coords) : Prop :=
  (Scalar.cmpi .ne (Scalar.extui (Scalar.cmpi .eq (BitVec.ofNat 32 (i 1).val) 0#32)) 0#32) = 1#1

set_option maxHeartbeats 40000000 in
/-- The body at a later row block. -/
theorem run_later (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : ¬first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ s : Vec F S1x544x512 .f32, ((Memref.whole cc0_scratch0 : Memref sig .tc .vmem S1x544x512 .f32).view.loc (c : Thread nD τ) ↦{fullShare} s)) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ s : Vec F S1x544x512 .f32, ((Memref.whole cc0_scratch0 : Memref sig .tc .vmem S1x544x512 .f32).view.loc (c : Thread nD τ) ↦{fullShare} s)) ∗ (∃ d, owns (c : Thread nD τ) arg23 fullShare d)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole cc0_scratch0) (Memref.isWhole_whole cc0_scratch0) arg23 harg23) K := by
  rw [cc0_mix_eq_skeleton]; unfold cc0_mix_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%xs, H22⟩, ⟨%d23, %f23, -, H23⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  sl_exec (disch := first | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; iexists _; isplitr
    swap; · iexact H20
    ipureintro; rfl
  isplitl [H21]
  · iexists _; iexists _; isplitr
    swap; · iexact H21
    ipureintro; rfl
  isplitl [H22]
  · iexists _; iexact H22
  · iexists _; iexists _; isplitr
    swap; · iexact H23
    ipureintro; rfl

end Cert.Mix.Hand

end
-- ==== Proof.MixBitsFirst.lean ====
module

public import proofs.«01_k».proof.Proof.Gen.Mix.Frame
public import proofs.«01_k».proof.Proof.Gen.Mix.Skeleton
public import proofs.«01_k».proof.Proof.Gen.Mix.Points
public import Idealize.ShloMosaic.Lib.Pipeline.Value
public import proofs.«01_k».proof.Proof.MixBitsLater

/-!
What a run of the body needs and gives back, nothing said of what it writes.
-/

@[expose] public section

set_option maxRecDepth 65536

noncomputable section

namespace Cert.Mix.Hand

open Cert.Mix Cert.Mix.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The body at the first row block of a sequence. -/
theorem run_first (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ s : Vec F S1x544x512 .f32, ((Memref.whole cc0_scratch0 : Memref sig .tc .vmem S1x544x512 .f32).view.loc (c : Thread nD τ) ↦{fullShare} s)) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ (∃ s : Vec F S1x544x512 .f32, ((Memref.whole cc0_scratch0 : Memref sig .tc .vmem S1x544x512 .f32).view.loc (c : Thread nD τ) ↦{fullShare} s)) ∗ (∃ d, owns (c : Thread nD τ) arg23 fullShare d)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole cc0_scratch0) (Memref.isWhole_whole cc0_scratch0) arg23 harg23) K := by
  rw [cc0_mix_eq_skeleton]; unfold cc0_mix_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%xs, H22⟩, ⟨%d23, %f23, -, H23⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  sl_exec (disch := first | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; iexists _; isplitr
    swap; · iexact H20
    ipureintro; rfl
  isplitl [H21]
  · iexists _; iexists _; isplitr
    swap; · iexact H21
    ipureintro; rfl
  isplitl [H22]
  · iexists _; iexact H22
  · iexists _; iexists _; isplitr
    swap; · iexact H23
    ipureintro; rfl

end Cert.Mix.Hand

end
-- ==== Proof.MixBitsFrame.lean ====
module

public import proofs.«01_k».proof.Proof.Gen.Mix.Frame
public import proofs.«01_k».proof.Proof.Gen.Mix.Skeleton
public import proofs.«01_k».proof.Proof.Gen.Mix.Points
public import Idealize.ShloMosaic.Lib.Pipeline.Value
public import proofs.«01_k».proof.Proof.MixBitsFirst
public import Idealize.ShloMosaic.Lib.MatmulPlain

/-!
The frame of the mixing kernel: every execution ends and the arguments are unchanged.
-/

@[expose] public section

set_option maxRecDepth 65536

noncomputable section

namespace Cert.Mix.Hand

open Cert.Mix Cert.Mix.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is claimed: the two results. -/
def forgotten : Fin cfg0.W → Bool
  | ⟨18, _⟩ => true
  | ⟨19, _⟩ => true
  | _ => false

theorem PhiA_eq (c : Dev nD) :
    (Pipeline.ΦA spec0 c : sProp 𝕄)
      = iprop(iprop((∃ s : Vec F S1x544x512 .f32, ((Memref.whole cc0_scratch0 : Memref sig .tc .vmem S1x544x512 .f32).view.loc (c : Thread nD τ) ↦{fullShare} s)) ∗ (∃ d, owns (c : Thread nD τ) (Memref.whole cc0_scratch1 : Memref sig .tc .vmem S512x2048 .bf16) fullShare d)) ∗ (∃ r, prngReg c r)) := by
  unfold Pipeline.ΦA; rw [scopedRest0_eq]; simp only [owns_whole]; try rfl

/-- The proof data: each input at its block, the two results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => Dat.unnamed 18 t
    | ⟨19, _⟩ => Dat.unnamed 19 t
    | ⟨_ + 20, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare d)
    ∗ (∃ d, owns (c : Thread nD τ) (st0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ (∃ d, owns (c : Thread nD τ) (st0_18 t) fullShare d)
    ∗ (∃ d, owns (c : Thread nD τ) (st0_19 t) fullShare d))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17]
  rw [show (dats m 0 c).owesAt () t.succ = (dats m 0 c).owesAt () t.castSucc from rfl,
    after_0, after_1, after_2, after_3, after_4, after_5, after_6, after_7, after_8, after_9, after_10, after_11, after_12, after_13, after_14, after_15, after_16, after_17]
  rw [show (dats m 0 c).Φ t.succ = Pipeline.ΦA spec0 c from rfl, show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, H18, H19⟩
  by_cases h0 : first (grid0.coords t)
  · skip
    iapply (run_first c (grid0.coords t) _ _ _ _ _ _ _ _ _ _ _ _ _ _ _ _ _ _ _ _ _ _ _ _ _ _ _ _ _ _ _ _ _ _ _ _ _ _ _ _ _ _ h0 (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    iintro ⟨H0, H1, H2, H3, H4, H5, H6, H7, H8, H9, H10, H11, H12, H13, H14, H15, H16, H17, H18, H19, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · skip
    iapply (run_later c (grid0.coords t) _ _ _ _ _ _ _ _ _ _ _ _ _ _ _ _ _ _ _ _ _ _ _ _ _ _ _ _ _ _ _ _ _ _ _ _ _ _ _ _ _ _ h0 (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    iintro ⟨H0, H1, H2, H3, H4, H5, H6, H7, H8, H9, H10, H11, H12, H13, H14, H15, H16, H17, H18, H19, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The pipeline's body obligation, the state forgotten. -/
theorem body_obligation (c : Dev nD) : BodyObligation (dats (F := F) m 0 c) (defs₀ (F := F)) Variants.none () Set.univ forgotten := fun t => by
  rw [bigSep_W0, bigSep_W0, defs₀_row]
  exact triple_restated (sound_body m c t) rfl .rfl fun _ => .rfl

set_option backward.isDefEq.respectTransparency.types false in
set_option maxHeartbeats 3200000 in
/-- The launch: the arrays end as the proof data says, the other buffers as the call found them, every counter at zero. -/
theorem run_main_quiescent : θ_run defs (onTc (τ := τ) (main (F := F))) (s₀ m ρ)
    (fun r => (Pipeline.RDat.FramePost cfg0 (fun c => (dats m 0 c).toRForget forgotten) (V m)) r ∧ r.2.sem = fun _ => 0) :=
  Pipeline.θ_run_frame_track_forget_shared (Q' := _) cfgs (dats m) (0 : Fin 1) launch₀0 defs₀ Variants.none forgotten m ρ main
    (hbody := fun c => (body_obligation m c).loose) (hq := fun _ _ _ => rfl)
    (howed := fun _ _ => rfl) (V := V m) (hmain := hmain m Variants.none) (hA := A_eq m) (hin := fun _ => Idealize.SL.BI.Entails.refl _) (hout := fun _ => Idealize.SL.BI.Entails.refl _)

/-- The frame. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
    ⟨(Pipeline.RDat.FramePost.arr_in h.1 c 0 rfl).trans ((A_eq m c 0).trans (V_main_arg0 m c)),
      (Pipeline.RDat.FramePost.arr_in h.1 c 7 rfl).trans ((A_eq m c 7).trans (V_main_arg1 m c)),
      (Pipeline.RDat.FramePost.arr_in h.1 c 1 rfl).trans ((A_eq m c 1).trans (V_main_arg2 m c)),
      (Pipeline.RDat.FramePost.arr_in h.1 c 10 rfl).trans ((A_eq m c 10).trans (V_main_arg3 m c)),
      (Pipeline.RDat.FramePost.arr_in h.1 c 11 rfl).trans ((A_eq m c 11).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (Pipeline.RDat.FramePost.arr_in h.1 c 15 rfl).trans ((A_eq m c 15).trans (V_main_arg8 m c)),
      (Pipeline.RDat.FramePost.arr_in h.1 c 16 rfl).trans ((A_eq m c 16).trans (V_main_arg9 m c)),
      ((h.1 c).2 main_arg10 (Pipeline.mem_restRefs_of main_arg10 (by decide) (by decide))).trans (V_main_arg10 m c)⟩, h.2⟩) (run_main_quiescent m ρ)

end Cert.Mix.Hand

end
-- ==== Proof.MixSpec.lean ====
module

public import Idealize.ShloMosaic.Lib.IdealHost
public import Idealize.ShloMosaic.Lib.Pointwise

/-!
The mixer of a layer in plain words, over functions: the gated attention, the causal convolution with its norm and
product, the attention over the memory, and the gated output product with its root-mean-square norm.
-/

@[expose] public section

noncomputable section

namespace Cert.MixSpec

open Idealize.ShloMosaic
open scoped BigOperators

/-- A number times its logistic. -/
def sg (v : EReal) : EReal := v * Ideal.logistic v

/-- The mean of 512 numbers. -/
def mean (x : Fin 512 → EReal) : EReal := Ideal.div (∑ l, x l) (Ideal.ofBits FTy.f32 1140850688#32)

/-- Layer norm of a row of 512. -/
def normed (x lg lb : Fin 512 → EReal) (k : Fin 512) : EReal :=
  (x k - mean x) * Ideal.rsqrt (Ideal.div (∑ l, (x l - mean x) * (x l - mean x)) (Ideal.ofBits FTy.f32 1140850688#32) + Ideal.ofBits FTy.f32 897988541#32) * lg k + lb k

/-- The convolution's part of a row: normalised, activated, multiplied, gated. -/
def gatedConv (x lg lb P : Fin 512 → EReal) (g : EReal) : EReal := (∑ k, sg (normed x lg lb k) * P k) * sg g

/-- A score: the scaled product of a query and a key. -/
def score (q k : Fin 128 → EReal) : EReal := ∑ d, q d * Ideal.ofBits FTy.f32 1035273459#32 * k d

/-- The greatest of 256 scores. -/
def top (S : Fin 256 → EReal) : EReal := Finset.univ.fold max (Ideal.ofBits FTy.f32 4286578688#32) S

/-- The values weighted by the exponentials of the scores. -/
def attend (S v : Fin 256 → EReal) : EReal :=
  Ideal.div (∑ x, Ideal.exp (S x - top S) * v x) (∑ x, Ideal.exp (S x - top S))

/-- A row of the output product. -/
def prod (m : Fin 2048 → EReal) (W : Fin 2048 → Fin 2048 → EReal) (e : Fin 2048) : EReal := ∑ l, m l * W l e

/-- An entry of the layer's output. -/
def outRow (x : EReal) (m : Fin 2048 → EReal) (W : Fin 2048 → Fin 2048 → EReal) (gp : EReal) (e : Fin 2048) : EReal :=
  x + prod m W e * Ideal.rsqrt (Ideal.div (∑ j, prod m W j * prod m W j) (Ideal.ofBits FTy.f32 1157627904#32) + Ideal.ofBits FTy.f32 897988541#32) * gp

/-- One gated attention entry of a row, from the row's queries and gates and the memory's keys and values. -/
def headRow (q g : Fin 512 → EReal) (k v : Fin 256 → Fin 512 → EReal) (i : Fin 512) : EReal :=
  attend (fun x => score (fun d => q ⟨128 * (i.val / 128) + d.val, by omega⟩) (fun d => k x ⟨128 * (i.val / 128) + d.val, by omega⟩)) (fun x => v x i) * sg (g i)

/-- A row of the three parts side by side. -/
def mixRow (a ga : Fin 1024 → EReal) (cx lg lb : Fin 512 → EReal) (P : Fin 512 → Fin 512 → EReal) (gc q gm : Fin 512 → EReal)
    (k v : Fin 256 → Fin 512 → EReal) (j : Fin 2048) : EReal :=
  if h : j.val < 1024 then a ⟨j.val, h⟩ * sg (ga ⟨j.val, h⟩)
  else if h' : j.val < 1536 then gatedConv cx lg lb (fun l => P l ⟨j.val - 1024, by omega⟩) (gc ⟨j.val - 1024, by omega⟩)
  else headRow q gm k v ⟨j.val - 1536, by omega⟩

/-- The arguments of the mixer. -/
structure Args where
  x : Fin 2 → Fin 4096 → Fin 2048 → EReal
  z : Fin 2 → Fin 4096 → Fin 6656 → EReal
  a : Fin 2 → Fin 4096 → Fin 1024 → EReal
  mkv : Fin 2 → Fin 256 → Fin 1024 → EReal
  wd : Fin 31 → Fin 512 → EReal
  bd : Fin 512 → EReal
  lg : Fin 512 → EReal
  lb : Fin 512 → EReal
  pw : Fin 512 → Fin 512 → EReal
  wo : Fin 2048 → Fin 2048 → EReal
  gp : Fin 2048 → EReal

/-- Row `n` of the convolution's input: thirty rows of zeros, then the gated rows. -/
def gate (A : Args) (b : Fin 2) (k : Fin 512) (n : ℕ) : EReal :=
  if h : 30 ≤ n ∧ n < 4126 then A.z b ⟨n - 30, by omega⟩ ⟨4096 + k.val, by omega⟩ * Ideal.logistic (A.z b ⟨n - 30, by omega⟩ ⟨4608 + k.val, by omega⟩) else 0

/-- Tap `t` of a channel. -/
def tap (A : Args) (k : Fin 512) (t : ℕ) : EReal := if h : t < 31 then A.wd ⟨t, h⟩ k else 0

/-- The convolution. -/
def conv (A : Args) (b : Fin 2) (s : Fin 4096) (k : Fin 512) : EReal :=
  (∑ t ∈ Finset.range 31, gate A b k (t + s.val) * tap A k t) + A.bd k

/-- The row of the three parts. -/
def row (A : Args) (b : Fin 2) (s : Fin 4096) : Fin 2048 → EReal :=
  mixRow (A.a b s) (fun j => A.z b s ⟨3072 + j.val, by omega⟩) (conv A b s) A.lg A.lb A.pw (fun j => A.z b s ⟨5120 + j.val, by omega⟩)
    (fun j => A.z b s ⟨5632 + j.val, by omega⟩) (fun j => A.z b s ⟨6144 + j.val, by omega⟩)
    (fun n j => A.mkv b n ⟨j.val, by omega⟩) (fun n j => A.mkv b n ⟨512 + j.val, by omega⟩)

/-- The mixer's result. -/
def out (A : Args) (b : Fin 2) (s : Fin 4096) (e : Fin 2048) : EReal := outRow (A.x b s e) (row A b s) A.wo (A.gp e) e

/-! Sums and quotients of extended reals. -/

theorem sum_mul (n : ℕ) (f : Fin n → EReal) (x : EReal) (h0 : 0 ≤ x) (ht : x ≠ ⊤) : (∑ i, f i) * x = ∑ i, f i * x := by
  classical
  have key : ∀ s : Finset (Fin n), (∑ i ∈ s, f i) * x = ∑ i ∈ s, f i * x := fun s => by
    induction s using Finset.induction_on with
    | empty => simp
    | insert a s ha ih => rw [Finset.sum_insert ha, Finset.sum_insert ha, EReal.right_distrib_of_nonneg_of_ne_top h0 ht, ih]
  exact key _

theorem ninf : Ideal.ofBits FTy.f32 4286578688#32 = ⊥ := by simp [Ideal.ofBits, Ideal.ieee]
theorem pinf : Ideal.ofBits FTy.f32 2139095040#32 = ⊤ := by simp [Ideal.ofBits, Ideal.ieee]

/-- The scale of the scores is a nonnegative number. -/
theorem scale_real : ∃ r : ℝ, Ideal.ofBits FTy.f32 1035273459#32 = (r : EReal) ∧ 0 ≤ r := by
  refine ⟨_, by simp [Ideal.ofBits, Ideal.ieee, -EReal.coe_mul]; rfl, ?_⟩
  positivity

theorem scale_nonneg : 0 ≤ Ideal.ofBits FTy.f32 1035273459#32 := by
  obtain ⟨r, e, h⟩ := scale_real; rw [e]; exact_mod_cast h
theorem scale_ne_top : Ideal.ofBits FTy.f32 1035273459#32 ≠ ⊤ := by
  obtain ⟨r, e, h⟩ := scale_real; rw [e]; exact EReal.coe_ne_top r

/-- The scale may be applied to the products' sum. -/
theorem score_eq (q k : Fin 128 → EReal) : (∑ d, q d * k d) * Ideal.ofBits FTy.f32 1035273459#32 = score q k := by
  rw [sum_mul _ _ _ scale_nonneg scale_ne_top]
  exact Finset.sum_congr rfl fun d _ => mul_right_comm _ _ _

/-- Scores of finite queries and keys are finite. -/
theorem score_real (q k : Fin 128 → EReal) (hq : ∀ d, ∃ r : ℝ, q d = r) (hk : ∀ d, ∃ r : ℝ, k d = r) : ∃ r : ℝ, score q k = r := by
  classical
  obtain ⟨c, hc, _⟩ := scale_real
  choose a ha using hq
  choose b hb using hk
  have key : ∀ s : Finset (Fin 128), ∃ r : ℝ, (∑ d ∈ s, q d * Ideal.ofBits FTy.f32 1035273459#32 * k d) = r := fun s => by
    induction s using Finset.induction_on with
    | empty => exact ⟨0, by simp⟩
    | insert d s hd ih =>
      obtain ⟨r, hr⟩ := ih
      refine ⟨a d * c * b d + r, ?_⟩
      rw [Finset.sum_insert hd, hr, ha, hb, hc]
      push_cast
      rfl
  exact key _

theorem exp_nonneg (x : EReal) : 0 ≤ Ideal.exp x := by
  induction x using EReal.rec with
  | bot => exact le_refl _
  | top => exact le_top
  | coe r => show (0 : EReal) ≤ ((Real.exp r : ℝ) : EReal); exact_mod_cast (Real.exp_pos r).le

/-- With finite scores the weights may be divided first. -/
theorem attend_eq (S v : Fin 256 → EReal) (hS : ∀ x, ∃ r : ℝ, S x = r) :
    (∑ x, Ideal.div (Ideal.exp (S x - top S)) (∑ y, Ideal.exp (S y - top S)) * v x) = attend S v := by
  unfold attend
  have hz : 0 < ∑ y, Ideal.exp (S y - top S) := by
    obtain ⟨i, _, hi⟩ := Finset.exists_mem_eq_sup (Finset.univ : Finset (Fin 256)) ⟨0, Finset.mem_univ _⟩ S
    have ht : top S = S i := by
      unfold top; rw [ninf]; exact hi
    obtain ⟨r, hr⟩ := hS i
    have h1 : Ideal.exp (S i - top S) = 1 := by
      rw [ht, hr, ← EReal.coe_sub, sub_self]
      show ((Real.exp 0 : ℝ) : EReal) = 1
      rw [Real.exp_zero]; rfl
    refine lt_of_lt_of_le (zero_lt_one (α := EReal)) ?_
    rw [← h1]
    exact Finset.single_le_sum (f := fun y => Ideal.exp (S y - top S)) (fun y _ => exp_nonneg _) (Finset.mem_univ i)
  generalize hZ : (∑ y, Ideal.exp (S y - top S)) = Z at hz
  have hd : ∀ w, Ideal.div w Z = w * Z⁻¹ := fun w => by unfold Ideal.div; rw [if_neg hz.ne']
  simp only [hd]
  rw [sum_mul _ _ _ (EReal.inv_nonneg_of_nonneg hz.le) (EReal.inv_lt_top _).ne]
  exact Finset.sum_congr rfl fun x _ => mul_right_comm _ _ _

end Cert.MixSpec

end
-- ==== Proof.MixModel.lean ====
module

public import proofs.«01_k».proof.Proof.Gen.MixIdeal.Skeleton
public import Idealize.ShloMosaic.Lib.Pipeline.Value

/-!
What the mixer's body computes, as functions of its blocks: sixteen pieces of 32 rows of the convolution, the four
attention heads, the gated row that goes into the output matrix, and the output block.
-/

@[expose] public section

set_option maxRecDepth 16384

noncomputable section

namespace Cert.MixIdeal.Hand

open Cert.MixIdeal Cert.MixIdeal.Gen
open Idealize.ShloMosaic Idealize.ShloMosaic.TcCoe
open Idealize.SL.Sem

variable {F : FTy → Type} [FloatOps F]

/-- Rows 0 to 31 of the convolution of a block. -/
def blk0 (u : Vec F S544x512 .f32) (w : Vec F S31x512 .f32) (b : Vec F S1x512 .f32) : FVec F S32x512 .f32 :=
  (k0_pay19 (k0_pay17 (k0_pay14 (k0_pay12 (k0_pay10 (k0_pay8 (k0_pay6 (k0_pay4 b) (k0_pay5 (View.ld u (Rect.unit (s := S544x512) ![8, 0] S32x512.size inb_S544x512_S32x512_8_0)) (View.ld w (Rect.unit (s := S31x512) ![6, 0] S1x512.size inb_S31x512_S1x512_6_0))) (View.ld u (Rect.unit (s := S544x512) ![16, 0] S32x512.size inb_S544x512_S32x512_16_0)) (View.ld w (Rect.unit (s := S31x512) ![14, 0] S1x512.size inb_S31x512_S1x512_14_0)) (View.ld u (Rect.unit (s := S544x512) ![24, 0] S32x512.size inb_S544x512_S32x512_24_0)) (View.ld w (Rect.unit (s := S31x512) ![22, 0] S1x512.size inb_S31x512_S1x512_22_0)) (View.ld u (Rect.unit (s := S544x512) ![32, 0] S32x512.size inb_S544x512_S32x512_32_0)) (View.ld w (Rect.unit (s := S31x512) ![30, 0] S1x512.size inb_S31x512_S1x512_30_0))) (k0_pay7 (View.ld u (Rect.unit (s := S544x512) ![8, 0] S40x512.size inb_S544x512_S40x512_8_0)) (View.ld w (Rect.unit (s := S31x512) ![7, 0] S1x512.size inb_S31x512_S1x512_7_0)) (View.ld u (Rect.unit (s := S544x512) ![16, 0] S40x512.size inb_S544x512_S40x512_16_0)) (View.ld w (Rect.unit (s := S31x512) ![15, 0] S1x512.size inb_S31x512_S1x512_15_0))) (View.ld u (Rect.unit (s := S544x512) ![24, 0] S40x512.size inb_S544x512_S40x512_24_0)) (View.ld w (Rect.unit (s := S31x512) ![23, 0] S1x512.size inb_S31x512_S1x512_23_0))) (k0_pay9 (View.ld u (Rect.unit (s := S544x512) ![0, 0] S40x512.size inb_S544x512_S40x512_0_0)) (View.ld w (Rect.unit (s := S31x512) ![0, 0] S1x512.size inb_S31x512_S1x512_0_0)) (View.ld u (Rect.unit (s := S544x512) ![8, 0] S40x512.size inb_S544x512_S40x512_8_0)) (View.ld w (Rect.unit (s := S31x512) ![8, 0] S1x512.size inb_S31x512_S1x512_8_0)) (View.ld u (Rect.unit (s := S544x512) ![16, 0] S40x512.size inb_S544x512_S40x512_16_0)) (View.ld w (Rect.unit (s := S31x512) ![16, 0] S1x512.size inb_S31x512_S1x512_16_0))) (View.ld u (Rect.unit (s := S544x512) ![24, 0] S40x512.size inb_S544x512_S40x512_24_0)) (View.ld w (Rect.unit (s := S31x512) ![24, 0] S1x512.size inb_S31x512_S1x512_24_0))) (k0_pay11 (View.ld u (Rect.unit (s := S544x512) ![0, 0] S40x512.size inb_S544x512_S40x512_0_0)) (View.ld w (Rect.unit (s := S31x512) ![1, 0] S1x512.size inb_S31x512_S1x512_1_0)) (View.ld u (Rect.unit (s := S544x512) ![8, 0] S40x512.size inb_S544x512_S40x512_8_0)) (View.ld w (Rect.unit (s := S31x512) ![9, 0] S1x512.size inb_S31x512_S1x512_9_0)) (View.ld u (Rect.unit (s := S544x512) ![16, 0] S40x512.size inb_S544x512_S40x512_16_0)) (View.ld w (Rect.unit (s := S31x512) ![17, 0] S1x512.size inb_S31x512_S1x512_17_0))) (View.ld u (Rect.unit (s := S544x512) ![24, 0] S40x512.size inb_S544x512_S40x512_24_0)) (View.ld w (Rect.unit (s := S31x512) ![25, 0] S1x512.size inb_S31x512_S1x512_25_0))) (k0_pay13 (View.ld u (Rect.unit (s := S544x512) ![0, 0] S40x512.size inb_S544x512_S40x512_0_0)) (View.ld w (Rect.unit (s := S31x512) ![2, 0] S1x512.size inb_S31x512_S1x512_2_0)) (View.ld u (Rect.unit (s := S544x512) ![8, 0] S40x512.size inb_S544x512_S40x512_8_0)) (View.ld w (Rect.unit (s := S31x512) ![10, 0] S1x512.size inb_S31x512_S1x512_10_0)) (View.ld u (Rect.unit (s := S544x512) ![16, 0] S40x512.size inb_S544x512_S40x512_16_0)) (View.ld w (Rect.unit (s := S31x512) ![18, 0] S1x512.size inb_S31x512_S1x512_18_0))) (View.ld u (Rect.unit (s := S544x512) ![24, 0] S40x512.size inb_S544x512_S40x512_24_0)) (View.ld w (Rect.unit (s := S31x512) ![26, 0] S1x512.size inb_S31x512_S1x512_26_0))) (k0_pay15 (View.ld u (Rect.unit (s := S544x512) ![0, 0] S40x512.size inb_S544x512_S40x512_0_0)) (View.ld w (Rect.unit (s := S31x512) ![3, 0] S1x512.size inb_S31x512_S1x512_3_0)) (View.ld u (Rect.unit (s := S544x512) ![8, 0] S40x512.size inb_S544x512_S40x512_8_0)) (View.ld w (Rect.unit (s := S31x512) ![11, 0] S1x512.size inb_S31x512_S1x512_11_0)) (View.ld u (Rect.unit (s := S544x512) ![16, 0] S40x512.size inb_S544x512_S40x512_16_0)) (View.ld w (Rect.unit (s := S31x512) ![19, 0] S1x512.size inb_S31x512_S1x512_19_0))) (View.ld u (Rect.unit (s := S544x512) ![24, 0] S40x512.size inb_S544x512_S40x512_24_0)) (k0_pay16 (View.ld w (Rect.unit (s := S31x512) ![27, 0] S1x512.size inb_S31x512_S1x512_27_0)))) (k0_pay18 (View.ld u (Rect.unit (s := S544x512) ![0, 0] S40x512.size inb_S544x512_S40x512_0_0)) (View.ld w (Rect.unit (s := S31x512) ![4, 0] S1x512.size inb_S31x512_S1x512_4_0)) (View.ld u (Rect.unit (s := S544x512) ![8, 0] S40x512.size inb_S544x512_S40x512_8_0)) (View.ld w (Rect.unit (s := S31x512) ![12, 0] S1x512.size inb_S31x512_S1x512_12_0)) (View.ld u (Rect.unit (s := S544x512) ![16, 0] S40x512.size inb_S544x512_S40x512_16_0)) (View.ld w (Rect.unit (s := S31x512) ![20, 0] S1x512.size inb_S31x512_S1x512_20_0)) (View.ld u (Rect.unit (s := S544x512) ![24, 0] S40x512.size inb_S544x512_S40x512_24_0)) (View.ld w (Rect.unit (s := S31x512) ![28, 0] S1x512.size inb_S31x512_S1x512_28_0))) (View.ld u (Rect.unit (s := S544x512) ![0, 0] S40x512.size inb_S544x512_S40x512_0_0)) (View.ld w (Rect.unit (s := S31x512) ![5, 0] S1x512.size inb_S31x512_S1x512_5_0)) (View.ld u (Rect.unit (s := S544x512) ![8, 0] S40x512.size inb_S544x512_S40x512_8_0)) (View.ld w (Rect.unit (s := S31x512) ![13, 0] S1x512.size inb_S31x512_S1x512_13_0)) (View.ld u (Rect.unit (s := S544x512) ![16, 0] S40x512.size inb_S544x512_S40x512_16_0)) (View.ld w (Rect.unit (s := S31x512) ![21, 0] S1x512.size inb_S31x512_S1x512_21_0)) (View.ld u (Rect.unit (s := S544x512) ![24, 0] S40x512.size inb_S544x512_S40x512_24_0)) (View.ld w (Rect.unit (s := S31x512) ![29, 0] S1x512.size inb_S31x512_S1x512_29_0)))

/-- Rows 32 to 63 of the convolution of a block. -/
def blk1 (u : Vec F S544x512 .f32) (w : Vec F S31x512 .f32) (b : Vec F S1x512 .f32) : FVec F S32x512 .f32 :=
  (k0_pay34 (k0_pay32 (k0_pay30 (k0_pay27 (k0_pay25 (k0_pay23 (k0_pay21 (k0_pay20 b (View.ld u (Rect.unit (s := S544x512) ![40, 0] S32x512.size inb_S544x512_S32x512_40_0)) (View.ld w (Rect.unit (s := S31x512) ![6, 0] S1x512.size inb_S31x512_S1x512_6_0)) (View.ld u (Rect.unit (s := S544x512) ![48, 0] S32x512.size inb_S544x512_S32x512_48_0)) (View.ld w (Rect.unit (s := S31x512) ![14, 0] S1x512.size inb_S31x512_S1x512_14_0)) (View.ld u (Rect.unit (s := S544x512) ![56, 0] S32x512.size inb_S544x512_S32x512_56_0)) (View.ld w (Rect.unit (s := S31x512) ![22, 0] S1x512.size inb_S31x512_S1x512_22_0)) (View.ld u (Rect.unit (s := S544x512) ![64, 0] S32x512.size inb_S544x512_S32x512_64_0)) (View.ld w (Rect.unit (s := S31x512) ![30, 0] S1x512.size inb_S31x512_S1x512_30_0))) (View.ld u (Rect.unit (s := S544x512) ![40, 0] S40x512.size inb_S544x512_S40x512_40_0)) (View.ld w (Rect.unit (s := S31x512) ![7, 0] S1x512.size inb_S31x512_S1x512_7_0)) (View.ld u (Rect.unit (s := S544x512) ![48, 0] S40x512.size inb_S544x512_S40x512_48_0)) (View.ld w (Rect.unit (s := S31x512) ![15, 0] S1x512.size inb_S31x512_S1x512_15_0)) (View.ld u (Rect.unit (s := S544x512) ![56, 0] S40x512.size inb_S544x512_S40x512_56_0)) (View.ld w (Rect.unit (s := S31x512) ![23, 0] S1x512.size inb_S31x512_S1x512_23_0))) (k0_pay22 (View.ld u (Rect.unit (s := S544x512) ![32, 0] S40x512.size inb_S544x512_S40x512_32_0)) (View.ld w (Rect.unit (s := S31x512) ![0, 0] S1x512.size inb_S31x512_S1x512_0_0))) (View.ld u (Rect.unit (s := S544x512) ![40, 0] S40x512.size inb_S544x512_S40x512_40_0)) (View.ld w (Rect.unit (s := S31x512) ![8, 0] S1x512.size inb_S31x512_S1x512_8_0)) (View.ld u (Rect.unit (s := S544x512) ![48, 0] S40x512.size inb_S544x512_S40x512_48_0)) (View.ld w (Rect.unit (s := S31x512) ![16, 0] S1x512.size inb_S31x512_S1x512_16_0)) (View.ld u (Rect.unit (s := S544x512) ![56, 0] S40x512.size inb_S544x512_S40x512_56_0)) (View.ld w (Rect.unit (s := S31x512) ![24, 0] S1x512.size inb_S31x512_S1x512_24_0))) (k0_pay24 (View.ld u (Rect.unit (s := S544x512) ![32, 0] S40x512.size inb_S544x512_S40x512_32_0)) (View.ld w (Rect.unit (s := S31x512) ![1, 0] S1x512.size inb_S31x512_S1x512_1_0))) (View.ld u (Rect.unit (s := S544x512) ![40, 0] S40x512.size inb_S544x512_S40x512_40_0)) (View.ld w (Rect.unit (s := S31x512) ![9, 0] S1x512.size inb_S31x512_S1x512_9_0)) (View.ld u (Rect.unit (s := S544x512) ![48, 0] S40x512.size inb_S544x512_S40x512_48_0)) (View.ld w (Rect.unit (s := S31x512) ![17, 0] S1x512.size inb_S31x512_S1x512_17_0)) (View.ld u (Rect.unit (s := S544x512) ![56, 0] S40x512.size inb_S544x512_S40x512_56_0)) (View.ld w (Rect.unit (s := S31x512) ![25, 0] S1x512.size inb_S31x512_S1x512_25_0))) (k0_pay26 (View.ld u (Rect.unit (s := S544x512) ![32, 0] S40x512.size inb_S544x512_S40x512_32_0)) (View.ld w (Rect.unit (s := S31x512) ![2, 0] S1x512.size inb_S31x512_S1x512_2_0))) (View.ld u (Rect.unit (s := S544x512) ![40, 0] S40x512.size inb_S544x512_S40x512_40_0)) (View.ld w (Rect.unit (s := S31x512) ![10, 0] S1x512.size inb_S31x512_S1x512_10_0)) (View.ld u (Rect.unit (s := S544x512) ![48, 0] S40x512.size inb_S544x512_S40x512_48_0)) (View.ld w (Rect.unit (s := S31x512) ![18, 0] S1x512.size inb_S31x512_S1x512_18_0)) (View.ld u (Rect.unit (s := S544x512) ![56, 0] S40x512.size inb_S544x512_S40x512_56_0)) (View.ld w (Rect.unit (s := S31x512) ![26, 0] S1x512.size inb_S31x512_S1x512_26_0))) (k0_pay28 (View.ld u (Rect.unit (s := S544x512) ![32, 0] S40x512.size inb_S544x512_S40x512_32_0)) (View.ld w (Rect.unit (s := S31x512) ![3, 0] S1x512.size inb_S31x512_S1x512_3_0))) (k0_pay29 (View.ld u (Rect.unit (s := S544x512) ![40, 0] S40x512.size inb_S544x512_S40x512_40_0)) (View.ld w (Rect.unit (s := S31x512) ![11, 0] S1x512.size inb_S31x512_S1x512_11_0))) (View.ld u (Rect.unit (s := S544x512) ![48, 0] S40x512.size inb_S544x512_S40x512_48_0)) (View.ld w (Rect.unit (s := S31x512) ![19, 0] S1x512.size inb_S31x512_S1x512_19_0)) (View.ld u (Rect.unit (s := S544x512) ![56, 0] S40x512.size inb_S544x512_S40x512_56_0)) (View.ld w (Rect.unit (s := S31x512) ![27, 0] S1x512.size inb_S31x512_S1x512_27_0))) (k0_pay31 (View.ld u (Rect.unit (s := S544x512) ![32, 0] S40x512.size inb_S544x512_S40x512_32_0)) (View.ld w (Rect.unit (s := S31x512) ![4, 0] S1x512.size inb_S31x512_S1x512_4_0)) (View.ld u (Rect.unit (s := S544x512) ![40, 0] S40x512.size inb_S544x512_S40x512_40_0)) (View.ld w (Rect.unit (s := S31x512) ![12, 0] S1x512.size inb_S31x512_S1x512_12_0))) (View.ld u (Rect.unit (s := S544x512) ![48, 0] S40x512.size inb_S544x512_S40x512_48_0)) (View.ld w (Rect.unit (s := S31x512) ![20, 0] S1x512.size inb_S31x512_S1x512_20_0)) (View.ld u (Rect.unit (s := S544x512) ![56, 0] S40x512.size inb_S544x512_S40x512_56_0)) (View.ld w (Rect.unit (s := S31x512) ![28, 0] S1x512.size inb_S31x512_S1x512_28_0))) (k0_pay33 (View.ld u (Rect.unit (s := S544x512) ![32, 0] S40x512.size inb_S544x512_S40x512_32_0)) (View.ld w (Rect.unit (s := S31x512) ![5, 0] S1x512.size inb_S31x512_S1x512_5_0)) (View.ld u (Rect.unit (s := S544x512) ![40, 0] S40x512.size inb_S544x512_S40x512_40_0)) (View.ld w (Rect.unit (s := S31x512) ![13, 0] S1x512.size inb_S31x512_S1x512_13_0))) (View.ld u (Rect.unit (s := S544x512) ![48, 0] S40x512.size inb_S544x512_S40x512_48_0)) (View.ld w (Rect.unit (s := S31x512) ![21, 0] S1x512.size inb_S31x512_S1x512_21_0)) (View.ld u (Rect.unit (s := S544x512) ![56, 0] S40x512.size inb_S544x512_S40x512_56_0)) (View.ld w (Rect.unit (s := S31x512) ![29, 0] S1x512.size inb_S31x512_S1x512_29_0)))

/-- Rows 64 to 95 of the convolution of a block. -/
def blk2 (u : Vec F S544x512 .f32) (w : Vec F S31x512 .f32) (b : Vec F S1x512 .f32) : FVec F S32x512 .f32 :=
  (k0_pay48 (k0_pay47 (k0_pay46 (k0_pay44 (k0_pay41 (k0_pay39 (k0_pay37 (k0_pay35 b) (k0_pay36 (View.ld u (Rect.unit (s := S544x512) ![72, 0] S32x512.size inb_S544x512_S32x512_72_0)) (View.ld w (Rect.unit (s := S31x512) ![6, 0] S1x512.size inb_S31x512_S1x512_6_0)) (View.ld u (Rect.unit (s := S544x512) ![80, 0] S32x512.size inb_S544x512_S32x512_80_0)) (View.ld w (Rect.unit (s := S31x512) ![14, 0] S1x512.size inb_S31x512_S1x512_14_0))) (View.ld u (Rect.unit (s := S544x512) ![88, 0] S32x512.size inb_S544x512_S32x512_88_0)) (View.ld w (Rect.unit (s := S31x512) ![22, 0] S1x512.size inb_S31x512_S1x512_22_0)) (View.ld u (Rect.unit (s := S544x512) ![96, 0] S32x512.size inb_S544x512_S32x512_96_0)) (View.ld w (Rect.unit (s := S31x512) ![30, 0] S1x512.size inb_S31x512_S1x512_30_0))) (k0_pay38 (View.ld u (Rect.unit (s := S544x512) ![72, 0] S40x512.size inb_S544x512_S40x512_72_0)) (View.ld w (Rect.unit (s := S31x512) ![7, 0] S1x512.size inb_S31x512_S1x512_7_0)) (View.ld u (Rect.unit (s := S544x512) ![80, 0] S40x512.size inb_S544x512_S40x512_80_0)) (View.ld w (Rect.unit (s := S31x512) ![15, 0] S1x512.size inb_S31x512_S1x512_15_0))) (View.ld u (Rect.unit (s := S544x512) ![88, 0] S40x512.size inb_S544x512_S40x512_88_0)) (View.ld w (Rect.unit (s := S31x512) ![23, 0] S1x512.size inb_S31x512_S1x512_23_0))) (k0_pay40 (View.ld u (Rect.unit (s := S544x512) ![64, 0] S40x512.size inb_S544x512_S40x512_64_0)) (View.ld w (Rect.unit (s := S31x512) ![0, 0] S1x512.size inb_S31x512_S1x512_0_0)) (View.ld u (Rect.unit (s := S544x512) ![72, 0] S40x512.size inb_S544x512_S40x512_72_0)) (View.ld w (Rect.unit (s := S31x512) ![8, 0] S1x512.size inb_S31x512_S1x512_8_0)) (View.ld u (Rect.unit (s := S544x512) ![80, 0] S40x512.size inb_S544x512_S40x512_80_0)) (View.ld w (Rect.unit (s := S31x512) ![16, 0] S1x512.size inb_S31x512_S1x512_16_0))) (View.ld u (Rect.unit (s := S544x512) ![88, 0] S40x512.size inb_S544x512_S40x512_88_0)) (View.ld w (Rect.unit (s := S31x512) ![24, 0] S1x512.size inb_S31x512_S1x512_24_0))) (k0_pay42 (View.ld u (Rect.unit (s := S544x512) ![64, 0] S40x512.size inb_S544x512_S40x512_64_0)) (View.ld w (Rect.unit (s := S31x512) ![1, 0] S1x512.size inb_S31x512_S1x512_1_0)) (View.ld u (Rect.unit (s := S544x512) ![72, 0] S40x512.size inb_S544x512_S40x512_72_0)) (View.ld w (Rect.unit (s := S31x512) ![9, 0] S1x512.size inb_S31x512_S1x512_9_0)) (View.ld u (Rect.unit (s := S544x512) ![80, 0] S40x512.size inb_S544x512_S40x512_80_0)) (View.ld w (Rect.unit (s := S31x512) ![17, 0] S1x512.size inb_S31x512_S1x512_17_0))) (View.ld u (Rect.unit (s := S544x512) ![88, 0] S40x512.size inb_S544x512_S40x512_88_0)) (k0_pay43 (View.ld w (Rect.unit (s := S31x512) ![25, 0] S1x512.size inb_S31x512_S1x512_25_0)))) (k0_pay45 (View.ld u (Rect.unit (s := S544x512) ![64, 0] S40x512.size inb_S544x512_S40x512_64_0)) (View.ld w (Rect.unit (s := S31x512) ![2, 0] S1x512.size inb_S31x512_S1x512_2_0)) (View.ld u (Rect.unit (s := S544x512) ![72, 0] S40x512.size inb_S544x512_S40x512_72_0)) (View.ld w (Rect.unit (s := S31x512) ![10, 0] S1x512.size inb_S31x512_S1x512_10_0)) (View.ld u (Rect.unit (s := S544x512) ![80, 0] S40x512.size inb_S544x512_S40x512_80_0)) (View.ld w (Rect.unit (s := S31x512) ![18, 0] S1x512.size inb_S31x512_S1x512_18_0)) (View.ld u (Rect.unit (s := S544x512) ![88, 0] S40x512.size inb_S544x512_S40x512_88_0)) (View.ld w (Rect.unit (s := S31x512) ![26, 0] S1x512.size inb_S31x512_S1x512_26_0))) (View.ld u (Rect.unit (s := S544x512) ![64, 0] S40x512.size inb_S544x512_S40x512_64_0)) (View.ld w (Rect.unit (s := S31x512) ![3, 0] S1x512.size inb_S31x512_S1x512_3_0)) (View.ld u (Rect.unit (s := S544x512) ![72, 0] S40x512.size inb_S544x512_S40x512_72_0)) (View.ld w (Rect.unit (s := S31x512) ![11, 0] S1x512.size inb_S31x512_S1x512_11_0)) (View.ld u (Rect.unit (s := S544x512) ![80, 0] S40x512.size inb_S544x512_S40x512_80_0)) (View.ld w (Rect.unit (s := S31x512) ![19, 0] S1x512.size inb_S31x512_S1x512_19_0)) (View.ld u (Rect.unit (s := S544x512) ![88, 0] S40x512.size inb_S544x512_S40x512_88_0)) (View.ld w (Rect.unit (s := S31x512) ![27, 0] S1x512.size inb_S31x512_S1x512_27_0))) (View.ld u (Rect.unit (s := S544x512) ![64, 0] S40x512.size inb_S544x512_S40x512_64_0)) (View.ld w (Rect.unit (s := S31x512) ![4, 0] S1x512.size inb_S31x512_S1x512_4_0)) (View.ld u (Rect.unit (s := S544x512) ![72, 0] S40x512.size inb_S544x512_S40x512_72_0)) (View.ld w (Rect.unit (s := S31x512) ![12, 0] S1x512.size inb_S31x512_S1x512_12_0)) (View.ld u (Rect.unit (s := S544x512) ![80, 0] S40x512.size inb_S544x512_S40x512_80_0)) (View.ld w (Rect.unit (s := S31x512) ![20, 0] S1x512.size inb_S31x512_S1x512_20_0)) (View.ld u (Rect.unit (s := S544x512) ![88, 0] S40x512.size inb_S544x512_S40x512_88_0)) (View.ld w (Rect.unit (s := S31x512) ![28, 0] S1x512.size inb_S31x512_S1x512_28_0))) (View.ld u (Rect.unit (s := S544x512) ![64, 0] S40x512.size inb_S544x512_S40x512_64_0)) (View.ld w (Rect.unit (s := S31x512) ![5, 0] S1x512.size inb_S31x512_S1x512_5_0)) (View.ld u (Rect.unit (s := S544x512) ![72, 0] S40x512.size inb_S544x512_S40x512_72_0)) (View.ld w (Rect.unit (s := S31x512) ![13, 0] S1x512.size inb_S31x512_S1x512_13_0)) (View.ld u (Rect.unit (s := S544x512) ![80, 0] S40x512.size inb_S544x512_S40x512_80_0)) (View.ld w (Rect.unit (s := S31x512) ![21, 0] S1x512.size inb_S31x512_S1x512_21_0)) (View.ld u (Rect.unit (s := S544x512) ![88, 0] S40x512.size inb_S544x512_S40x512_88_0)) (View.ld w (Rect.unit (s := S31x512) ![29, 0] S1x512.size inb_S31x512_S1x512_29_0)))

/-- Rows 96 to 127 of the convolution of a block. -/
def blk3 (u : Vec F S544x512 .f32) (w : Vec F S31x512 .f32) (b : Vec F S1x512 .f32) : FVec F S32x512 .f32 :=
  (k0_pay64 (k0_pay62 (k0_pay60 (k0_pay58 (k0_pay56 (k0_pay53 (k0_pay51 (k0_pay50 (k0_pay49 b) (View.ld u (Rect.unit (s := S544x512) ![104, 0] S32x512.size inb_S544x512_S32x512_104_0)) (View.ld w (Rect.unit (s := S31x512) ![6, 0] S1x512.size inb_S31x512_S1x512_6_0)) (View.ld u (Rect.unit (s := S544x512) ![112, 0] S32x512.size inb_S544x512_S32x512_112_0)) (View.ld w (Rect.unit (s := S31x512) ![14, 0] S1x512.size inb_S31x512_S1x512_14_0)) (View.ld u (Rect.unit (s := S544x512) ![120, 0] S32x512.size inb_S544x512_S32x512_120_0)) (View.ld w (Rect.unit (s := S31x512) ![22, 0] S1x512.size inb_S31x512_S1x512_22_0)) (View.ld u (Rect.unit (s := S544x512) ![128, 0] S32x512.size inb_S544x512_S32x512_128_0)) (View.ld w (Rect.unit (s := S31x512) ![30, 0] S1x512.size inb_S31x512_S1x512_30_0))) (View.ld u (Rect.unit (s := S544x512) ![104, 0] S40x512.size inb_S544x512_S40x512_104_0)) (View.ld w (Rect.unit (s := S31x512) ![7, 0] S1x512.size inb_S31x512_S1x512_7_0)) (View.ld u (Rect.unit (s := S544x512) ![112, 0] S40x512.size inb_S544x512_S40x512_112_0)) (View.ld w (Rect.unit (s := S31x512) ![15, 0] S1x512.size inb_S31x512_S1x512_15_0)) (View.ld u (Rect.unit (s := S544x512) ![120, 0] S40x512.size inb_S544x512_S40x512_120_0)) (View.ld w (Rect.unit (s := S31x512) ![23, 0] S1x512.size inb_S31x512_S1x512_23_0))) (k0_pay52 (View.ld u (Rect.unit (s := S544x512) ![96, 0] S40x512.size inb_S544x512_S40x512_96_0)) (View.ld w (Rect.unit (s := S31x512) ![0, 0] S1x512.size inb_S31x512_S1x512_0_0))) (View.ld u (Rect.unit (s := S544x512) ![104, 0] S40x512.size inb_S544x512_S40x512_104_0)) (View.ld w (Rect.unit (s := S31x512) ![8, 0] S1x512.size inb_S31x512_S1x512_8_0)) (View.ld u (Rect.unit (s := S544x512) ![112, 0] S40x512.size inb_S544x512_S40x512_112_0)) (View.ld w (Rect.unit (s := S31x512) ![16, 0] S1x512.size inb_S31x512_S1x512_16_0)) (View.ld u (Rect.unit (s := S544x512) ![120, 0] S40x512.size inb_S544x512_S40x512_120_0)) (View.ld w (Rect.unit (s := S31x512) ![24, 0] S1x512.size inb_S31x512_S1x512_24_0))) (k0_pay54 (View.ld u (Rect.unit (s := S544x512) ![96, 0] S40x512.size inb_S544x512_S40x512_96_0)) (View.ld w (Rect.unit (s := S31x512) ![1, 0] S1x512.size inb_S31x512_S1x512_1_0))) (k0_pay55 (View.ld u (Rect.unit (s := S544x512) ![104, 0] S40x512.size inb_S544x512_S40x512_104_0)) (View.ld w (Rect.unit (s := S31x512) ![9, 0] S1x512.size inb_S31x512_S1x512_9_0))) (View.ld u (Rect.unit (s := S544x512) ![112, 0] S40x512.size inb_S544x512_S40x512_112_0)) (View.ld w (Rect.unit (s := S31x512) ![17, 0] S1x512.size inb_S31x512_S1x512_17_0)) (View.ld u (Rect.unit (s := S544x512) ![120, 0] S40x512.size inb_S544x512_S40x512_120_0)) (View.ld w (Rect.unit (s := S31x512) ![25, 0] S1x512.size inb_S31x512_S1x512_25_0))) (k0_pay57 (View.ld u (Rect.unit (s := S544x512) ![96, 0] S40x512.size inb_S544x512_S40x512_96_0)) (View.ld w (Rect.unit (s := S31x512) ![2, 0] S1x512.size inb_S31x512_S1x512_2_0)) (View.ld u (Rect.unit (s := S544x512) ![104, 0] S40x512.size inb_S544x512_S40x512_104_0)) (View.ld w (Rect.unit (s := S31x512) ![10, 0] S1x512.size inb_S31x512_S1x512_10_0))) (View.ld u (Rect.unit (s := S544x512) ![112, 0] S40x512.size inb_S544x512_S40x512_112_0)) (View.ld w (Rect.unit (s := S31x512) ![18, 0] S1x512.size inb_S31x512_S1x512_18_0)) (View.ld u (Rect.unit (s := S544x512) ![120, 0] S40x512.size inb_S544x512_S40x512_120_0)) (View.ld w (Rect.unit (s := S31x512) ![26, 0] S1x512.size inb_S31x512_S1x512_26_0))) (k0_pay59 (View.ld u (Rect.unit (s := S544x512) ![96, 0] S40x512.size inb_S544x512_S40x512_96_0)) (View.ld w (Rect.unit (s := S31x512) ![3, 0] S1x512.size inb_S31x512_S1x512_3_0)) (View.ld u (Rect.unit (s := S544x512) ![104, 0] S40x512.size inb_S544x512_S40x512_104_0)) (View.ld w (Rect.unit (s := S31x512) ![11, 0] S1x512.size inb_S31x512_S1x512_11_0))) (View.ld u (Rect.unit (s := S544x512) ![112, 0] S40x512.size inb_S544x512_S40x512_112_0)) (View.ld w (Rect.unit (s := S31x512) ![19, 0] S1x512.size inb_S31x512_S1x512_19_0)) (View.ld u (Rect.unit (s := S544x512) ![120, 0] S40x512.size inb_S544x512_S40x512_120_0)) (View.ld w (Rect.unit (s := S31x512) ![27, 0] S1x512.size inb_S31x512_S1x512_27_0))) (k0_pay61 (View.ld u (Rect.unit (s := S544x512) ![96, 0] S40x512.size inb_S544x512_S40x512_96_0)) (View.ld w (Rect.unit (s := S31x512) ![4, 0] S1x512.size inb_S31x512_S1x512_4_0)) (View.ld u (Rect.unit (s := S544x512) ![104, 0] S40x512.size inb_S544x512_S40x512_104_0)) (View.ld w (Rect.unit (s := S31x512) ![12, 0] S1x512.size inb_S31x512_S1x512_12_0))) (View.ld u (Rect.unit (s := S544x512) ![112, 0] S40x512.size inb_S544x512_S40x512_112_0)) (View.ld w (Rect.unit (s := S31x512) ![20, 0] S1x512.size inb_S31x512_S1x512_20_0)) (View.ld u (Rect.unit (s := S544x512) ![120, 0] S40x512.size inb_S544x512_S40x512_120_0)) (View.ld w (Rect.unit (s := S31x512) ![28, 0] S1x512.size inb_S31x512_S1x512_28_0))) (k0_pay63 (View.ld u (Rect.unit (s := S544x512) ![96, 0] S40x512.size inb_S544x512_S40x512_96_0)) (View.ld w (Rect.unit (s := S31x512) ![5, 0] S1x512.size inb_S31x512_S1x512_5_0)) (View.ld u (Rect.unit (s := S544x512) ![104, 0] S40x512.size inb_S544x512_S40x512_104_0)) (View.ld w (Rect.unit (s := S31x512) ![13, 0] S1x512.size inb_S31x512_S1x512_13_0))) (View.ld u (Rect.unit (s := S544x512) ![112, 0] S40x512.size inb_S544x512_S40x512_112_0)) (View.ld w (Rect.unit (s := S31x512) ![21, 0] S1x512.size inb_S31x512_S1x512_21_0)) (View.ld u (Rect.unit (s := S544x512) ![120, 0] S40x512.size inb_S544x512_S40x512_120_0)) (View.ld w (Rect.unit (s := S31x512) ![29, 0] S1x512.size inb_S31x512_S1x512_29_0)))

/-- Rows 128 to 159 of the convolution of a block. -/
def blk4 (u : Vec F S544x512 .f32) (w : Vec F S31x512 .f32) (b : Vec F S1x512 .f32) : FVec F S32x512 .f32 :=
  (k0_pay76 (k0_pay75 (k0_pay74 (k0_pay73 (k0_pay72 (k0_pay70 (k0_pay67 (k0_pay65 b) (k0_pay66 (View.ld u (Rect.unit (s := S544x512) ![136, 0] S32x512.size inb_S544x512_S32x512_136_0)) (View.ld w (Rect.unit (s := S31x512) ![6, 0] S1x512.size inb_S31x512_S1x512_6_0)) (View.ld u (Rect.unit (s := S544x512) ![144, 0] S32x512.size inb_S544x512_S32x512_144_0)) (View.ld w (Rect.unit (s := S31x512) ![14, 0] S1x512.size inb_S31x512_S1x512_14_0))) (View.ld u (Rect.unit (s := S544x512) ![152, 0] S32x512.size inb_S544x512_S32x512_152_0)) (View.ld w (Rect.unit (s := S31x512) ![22, 0] S1x512.size inb_S31x512_S1x512_22_0)) (View.ld u (Rect.unit (s := S544x512) ![160, 0] S32x512.size inb_S544x512_S32x512_160_0)) (View.ld w (Rect.unit (s := S31x512) ![30, 0] S1x512.size inb_S31x512_S1x512_30_0))) (k0_pay68 (View.ld u (Rect.unit (s := S544x512) ![136, 0] S40x512.size inb_S544x512_S40x512_136_0)) (View.ld w (Rect.unit (s := S31x512) ![7, 0] S1x512.size inb_S31x512_S1x512_7_0)) (View.ld u (Rect.unit (s := S544x512) ![144, 0] S40x512.size inb_S544x512_S40x512_144_0)) (View.ld w (Rect.unit (s := S31x512) ![15, 0] S1x512.size inb_S31x512_S1x512_15_0))) (View.ld u (Rect.unit (s := S544x512) ![152, 0] S40x512.size inb_S544x512_S40x512_152_0)) (k0_pay69 (View.ld w (Rect.unit (s := S31x512) ![23, 0] S1x512.size inb_S31x512_S1x512_23_0)))) (k0_pay71 (View.ld u (Rect.unit (s := S544x512) ![128, 0] S40x512.size inb_S544x512_S40x512_128_0)) (View.ld w (Rect.unit (s := S31x512) ![0, 0] S1x512.size inb_S31x512_S1x512_0_0)) (View.ld u (Rect.unit (s := S544x512) ![136, 0] S40x512.size inb_S544x512_S40x512_136_0)) (View.ld w (Rect.unit (s := S31x512) ![8, 0] S1x512.size inb_S31x512_S1x512_8_0)) (View.ld u (Rect.unit (s := S544x512) ![144, 0] S40x512.size inb_S544x512_S40x512_144_0)) (View.ld w (Rect.unit (s := S31x512) ![16, 0] S1x512.size inb_S31x512_S1x512_16_0)) (View.ld u (Rect.unit (s := S544x512) ![152, 0] S40x512.size inb_S544x512_S40x512_152_0)) (View.ld w (Rect.unit (s := S31x512) ![24, 0] S1x512.size inb_S31x512_S1x512_24_0))) (View.ld u (Rect.unit (s := S544x512) ![128, 0] S40x512.size inb_S544x512_S40x512_128_0)) (View.ld w (Rect.unit (s := S31x512) ![1, 0] S1x512.size inb_S31x512_S1x512_1_0)) (View.ld u (Rect.unit (s := S544x512) ![136, 0] S40x512.size inb_S544x512_S40x512_136_0)) (View.ld w (Rect.unit (s := S31x512) ![9, 0] S1x512.size inb_S31x512_S1x512_9_0)) (View.ld u (Rect.unit (s := S544x512) ![144, 0] S40x512.size inb_S544x512_S40x512_144_0)) (View.ld w (Rect.unit (s := S31x512) ![17, 0] S1x512.size inb_S31x512_S1x512_17_0)) (View.ld u (Rect.unit (s := S544x512) ![152, 0] S40x512.size inb_S544x512_S40x512_152_0)) (View.ld w (Rect.unit (s := S31x512) ![25, 0] S1x512.size inb_S31x512_S1x512_25_0))) (View.ld u (Rect.unit (s := S544x512) ![128, 0] S40x512.size inb_S544x512_S40x512_128_0)) (View.ld w (Rect.unit (s := S31x512) ![2, 0] S1x512.size inb_S31x512_S1x512_2_0)) (View.ld u (Rect.unit (s := S544x512) ![136, 0] S40x512.size inb_S544x512_S40x512_136_0)) (View.ld w (Rect.unit (s := S31x512) ![10, 0] S1x512.size inb_S31x512_S1x512_10_0)) (View.ld u (Rect.unit (s := S544x512) ![144, 0] S40x512.size inb_S544x512_S40x512_144_0)) (View.ld w (Rect.unit (s := S31x512) ![18, 0] S1x512.size inb_S31x512_S1x512_18_0)) (View.ld u (Rect.unit (s := S544x512) ![152, 0] S40x512.size inb_S544x512_S40x512_152_0)) (View.ld w (Rect.unit (s := S31x512) ![26, 0] S1x512.size inb_S31x512_S1x512_26_0))) (View.ld u (Rect.unit (s := S544x512) ![128, 0] S40x512.size inb_S544x512_S40x512_128_0)) (View.ld w (Rect.unit (s := S31x512) ![3, 0] S1x512.size inb_S31x512_S1x512_3_0)) (View.ld u (Rect.unit (s := S544x512) ![136, 0] S40x512.size inb_S544x512_S40x512_136_0)) (View.ld w (Rect.unit (s := S31x512) ![11, 0] S1x512.size inb_S31x512_S1x512_11_0)) (View.ld u (Rect.unit (s := S544x512) ![144, 0] S40x512.size inb_S544x512_S40x512_144_0)) (View.ld w (Rect.unit (s := S31x512) ![19, 0] S1x512.size inb_S31x512_S1x512_19_0)) (View.ld u (Rect.unit (s := S544x512) ![152, 0] S40x512.size inb_S544x512_S40x512_152_0)) (View.ld w (Rect.unit (s := S31x512) ![27, 0] S1x512.size inb_S31x512_S1x512_27_0))) (View.ld u (Rect.unit (s := S544x512) ![128, 0] S40x512.size inb_S544x512_S40x512_128_0)) (View.ld w (Rect.unit (s := S31x512) ![4, 0] S1x512.size inb_S31x512_S1x512_4_0)) (View.ld u (Rect.unit (s := S544x512) ![136, 0] S40x512.size inb_S544x512_S40x512_136_0)) (View.ld w (Rect.unit (s := S31x512) ![12, 0] S1x512.size inb_S31x512_S1x512_12_0)) (View.ld u (Rect.unit (s := S544x512) ![144, 0] S40x512.size inb_S544x512_S40x512_144_0)) (View.ld w (Rect.unit (s := S31x512) ![20, 0] S1x512.size inb_S31x512_S1x512_20_0)) (View.ld u (Rect.unit (s := S544x512) ![152, 0] S40x512.size inb_S544x512_S40x512_152_0)) (View.ld w (Rect.unit (s := S31x512) ![28, 0] S1x512.size inb_S31x512_S1x512_28_0))) (View.ld u (Rect.unit (s := S544x512) ![128, 0] S40x512.size inb_S544x512_S40x512_128_0)) (View.ld w (Rect.unit (s := S31x512) ![5, 0] S1x512.size inb_S31x512_S1x512_5_0)) (View.ld u (Rect.unit (s := S544x512) ![136, 0] S40x512.size inb_S544x512_S40x512_136_0)) (View.ld w (Rect.unit (s := S31x512) ![13, 0] S1x512.size inb_S31x512_S1x512_13_0)) (View.ld u (Rect.unit (s := S544x512) ![144, 0] S40x512.size inb_S544x512_S40x512_144_0)) (View.ld w (Rect.unit (s := S31x512) ![21, 0] S1x512.size inb_S31x512_S1x512_21_0)) (View.ld u (Rect.unit (s := S544x512) ![152, 0] S40x512.size inb_S544x512_S40x512_152_0)) (View.ld w (Rect.unit (s := S31x512) ![29, 0] S1x512.size inb_S31x512_S1x512_29_0)))

/-- Rows 160 to 191 of the convolution of a block. -/
def blk5 (u : Vec F S544x512 .f32) (w : Vec F S31x512 .f32) (b : Vec F S1x512 .f32) : FVec F S32x512 .f32 :=
  (k0_pay92 (k0_pay90 (k0_pay88 (k0_pay86 (k0_pay84 (k0_pay82 (k0_pay80 (k0_pay78 (k0_pay77 b) (View.ld u (Rect.unit (s := S544x512) ![168, 0] S32x512.size inb_S544x512_S32x512_168_0)) (View.ld w (Rect.unit (s := S31x512) ![6, 0] S1x512.size inb_S31x512_S1x512_6_0)) (View.ld u (Rect.unit (s := S544x512) ![176, 0] S32x512.size inb_S544x512_S32x512_176_0)) (View.ld w (Rect.unit (s := S31x512) ![14, 0] S1x512.size inb_S31x512_S1x512_14_0)) (View.ld u (Rect.unit (s := S544x512) ![184, 0] S32x512.size inb_S544x512_S32x512_184_0)) (View.ld w (Rect.unit (s := S31x512) ![22, 0] S1x512.size inb_S31x512_S1x512_22_0)) (View.ld u (Rect.unit (s := S544x512) ![192, 0] S32x512.size inb_S544x512_S32x512_192_0)) (View.ld w (Rect.unit (s := S31x512) ![30, 0] S1x512.size inb_S31x512_S1x512_30_0))) (View.ld u (Rect.unit (s := S544x512) ![168, 0] S40x512.size inb_S544x512_S40x512_168_0)) (k0_pay79 (View.ld w (Rect.unit (s := S31x512) ![7, 0] S1x512.size inb_S31x512_S1x512_7_0))) (View.ld u (Rect.unit (s := S544x512) ![176, 0] S40x512.size inb_S544x512_S40x512_176_0)) (View.ld w (Rect.unit (s := S31x512) ![15, 0] S1x512.size inb_S31x512_S1x512_15_0)) (View.ld u (Rect.unit (s := S544x512) ![184, 0] S40x512.size inb_S544x512_S40x512_184_0)) (View.ld w (Rect.unit (s := S31x512) ![23, 0] S1x512.size inb_S31x512_S1x512_23_0))) (k0_pay81 (View.ld u (Rect.unit (s := S544x512) ![160, 0] S40x512.size inb_S544x512_S40x512_160_0)) (View.ld w (Rect.unit (s := S31x512) ![0, 0] S1x512.size inb_S31x512_S1x512_0_0)) (View.ld u (Rect.unit (s := S544x512) ![168, 0] S40x512.size inb_S544x512_S40x512_168_0)) (View.ld w (Rect.unit (s := S31x512) ![8, 0] S1x512.size inb_S31x512_S1x512_8_0))) (View.ld u (Rect.unit (s := S544x512) ![176, 0] S40x512.size inb_S544x512_S40x512_176_0)) (View.ld w (Rect.unit (s := S31x512) ![16, 0] S1x512.size inb_S31x512_S1x512_16_0)) (View.ld u (Rect.unit (s := S544x512) ![184, 0] S40x512.size inb_S544x512_S40x512_184_0)) (View.ld w (Rect.unit (s := S31x512) ![24, 0] S1x512.size inb_S31x512_S1x512_24_0))) (k0_pay83 (View.ld u (Rect.unit (s := S544x512) ![160, 0] S40x512.size inb_S544x512_S40x512_160_0)) (View.ld w (Rect.unit (s := S31x512) ![1, 0] S1x512.size inb_S31x512_S1x512_1_0)) (View.ld u (Rect.unit (s := S544x512) ![168, 0] S40x512.size inb_S544x512_S40x512_168_0)) (View.ld w (Rect.unit (s := S31x512) ![9, 0] S1x512.size inb_S31x512_S1x512_9_0))) (View.ld u (Rect.unit (s := S544x512) ![176, 0] S40x512.size inb_S544x512_S40x512_176_0)) (View.ld w (Rect.unit (s := S31x512) ![17, 0] S1x512.size inb_S31x512_S1x512_17_0)) (View.ld u (Rect.unit (s := S544x512) ![184, 0] S40x512.size inb_S544x512_S40x512_184_0)) (View.ld w (Rect.unit (s := S31x512) ![25, 0] S1x512.size inb_S31x512_S1x512_25_0))) (k0_pay85 (View.ld u (Rect.unit (s := S544x512) ![160, 0] S40x512.size inb_S544x512_S40x512_160_0)) (View.ld w (Rect.unit (s := S31x512) ![2, 0] S1x512.size inb_S31x512_S1x512_2_0)) (View.ld u (Rect.unit (s := S544x512) ![168, 0] S40x512.size inb_S544x512_S40x512_168_0)) (View.ld w (Rect.unit (s := S31x512) ![10, 0] S1x512.size inb_S31x512_S1x512_10_0))) (View.ld u (Rect.unit (s := S544x512) ![176, 0] S40x512.size inb_S544x512_S40x512_176_0)) (View.ld w (Rect.unit (s := S31x512) ![18, 0] S1x512.size inb_S31x512_S1x512_18_0)) (View.ld u (Rect.unit (s := S544x512) ![184, 0] S40x512.size inb_S544x512_S40x512_184_0)) (View.ld w (Rect.unit (s := S31x512) ![26, 0] S1x512.size inb_S31x512_S1x512_26_0))) (k0_pay87 (View.ld u (Rect.unit (s := S544x512) ![160, 0] S40x512.size inb_S544x512_S40x512_160_0)) (View.ld w (Rect.unit (s := S31x512) ![3, 0] S1x512.size inb_S31x512_S1x512_3_0)) (View.ld u (Rect.unit (s := S544x512) ![168, 0] S40x512.size inb_S544x512_S40x512_168_0)) (View.ld w (Rect.unit (s := S31x512) ![11, 0] S1x512.size inb_S31x512_S1x512_11_0))) (View.ld u (Rect.unit (s := S544x512) ![176, 0] S40x512.size inb_S544x512_S40x512_176_0)) (View.ld w (Rect.unit (s := S31x512) ![19, 0] S1x512.size inb_S31x512_S1x512_19_0)) (View.ld u (Rect.unit (s := S544x512) ![184, 0] S40x512.size inb_S544x512_S40x512_184_0)) (View.ld w (Rect.unit (s := S31x512) ![27, 0] S1x512.size inb_S31x512_S1x512_27_0))) (k0_pay89 (View.ld u (Rect.unit (s := S544x512) ![160, 0] S40x512.size inb_S544x512_S40x512_160_0)) (View.ld w (Rect.unit (s := S31x512) ![4, 0] S1x512.size inb_S31x512_S1x512_4_0)) (View.ld u (Rect.unit (s := S544x512) ![168, 0] S40x512.size inb_S544x512_S40x512_168_0)) (View.ld w (Rect.unit (s := S31x512) ![12, 0] S1x512.size inb_S31x512_S1x512_12_0)) (View.ld u (Rect.unit (s := S544x512) ![176, 0] S40x512.size inb_S544x512_S40x512_176_0)) (View.ld w (Rect.unit (s := S31x512) ![20, 0] S1x512.size inb_S31x512_S1x512_20_0))) (View.ld u (Rect.unit (s := S544x512) ![184, 0] S40x512.size inb_S544x512_S40x512_184_0)) (View.ld w (Rect.unit (s := S31x512) ![28, 0] S1x512.size inb_S31x512_S1x512_28_0))) (k0_pay91 (View.ld u (Rect.unit (s := S544x512) ![160, 0] S40x512.size inb_S544x512_S40x512_160_0)) (View.ld w (Rect.unit (s := S31x512) ![5, 0] S1x512.size inb_S31x512_S1x512_5_0)) (View.ld u (Rect.unit (s := S544x512) ![168, 0] S40x512.size inb_S544x512_S40x512_168_0)) (View.ld w (Rect.unit (s := S31x512) ![13, 0] S1x512.size inb_S31x512_S1x512_13_0)) (View.ld u (Rect.unit (s := S544x512) ![176, 0] S40x512.size inb_S544x512_S40x512_176_0)) (View.ld w (Rect.unit (s := S31x512) ![21, 0] S1x512.size inb_S31x512_S1x512_21_0))) (View.ld u (Rect.unit (s := S544x512) ![184, 0] S40x512.size inb_S544x512_S40x512_184_0)) (View.ld w (Rect.unit (s := S31x512) ![29, 0] S1x512.size inb_S31x512_S1x512_29_0)))

/-- Rows 192 to 223 of the convolution of a block. -/
def blk6 (u : Vec F S544x512 .f32) (w : Vec F S31x512 .f32) (b : Vec F S1x512 .f32) : FVec F S32x512 .f32 :=
  (k0_pay103 (k0_pay101 (k0_pay99 (k0_pay98 (k0_pay97 (k0_pay96 (k0_pay95 (k0_pay93 b) (k0_pay94 (View.ld u (Rect.unit (s := S544x512) ![200, 0] S32x512.size inb_S544x512_S32x512_200_0)) (View.ld w (Rect.unit (s := S31x512) ![6, 0] S1x512.size inb_S31x512_S1x512_6_0)) (View.ld u (Rect.unit (s := S544x512) ![208, 0] S32x512.size inb_S544x512_S32x512_208_0)) (View.ld w (Rect.unit (s := S31x512) ![14, 0] S1x512.size inb_S31x512_S1x512_14_0)) (View.ld u (Rect.unit (s := S544x512) ![216, 0] S32x512.size inb_S544x512_S32x512_216_0)) (View.ld w (Rect.unit (s := S31x512) ![22, 0] S1x512.size inb_S31x512_S1x512_22_0))) (View.ld u (Rect.unit (s := S544x512) ![224, 0] S32x512.size inb_S544x512_S32x512_224_0)) (View.ld w (Rect.unit (s := S31x512) ![30, 0] S1x512.size inb_S31x512_S1x512_30_0)) (View.ld u (Rect.unit (s := S544x512) ![200, 0] S40x512.size inb_S544x512_S40x512_200_0)) (View.ld w (Rect.unit (s := S31x512) ![7, 0] S1x512.size inb_S31x512_S1x512_7_0)) (View.ld u (Rect.unit (s := S544x512) ![208, 0] S40x512.size inb_S544x512_S40x512_208_0)) (View.ld w (Rect.unit (s := S31x512) ![15, 0] S1x512.size inb_S31x512_S1x512_15_0)) (View.ld u (Rect.unit (s := S544x512) ![216, 0] S40x512.size inb_S544x512_S40x512_216_0)) (View.ld w (Rect.unit (s := S31x512) ![23, 0] S1x512.size inb_S31x512_S1x512_23_0))) (View.ld u (Rect.unit (s := S544x512) ![192, 0] S40x512.size inb_S544x512_S40x512_192_0)) (View.ld w (Rect.unit (s := S31x512) ![0, 0] S1x512.size inb_S31x512_S1x512_0_0)) (View.ld u (Rect.unit (s := S544x512) ![200, 0] S40x512.size inb_S544x512_S40x512_200_0)) (View.ld w (Rect.unit (s := S31x512) ![8, 0] S1x512.size inb_S31x512_S1x512_8_0)) (View.ld u (Rect.unit (s := S544x512) ![208, 0] S40x512.size inb_S544x512_S40x512_208_0)) (View.ld w (Rect.unit (s := S31x512) ![16, 0] S1x512.size inb_S31x512_S1x512_16_0)) (View.ld u (Rect.unit (s := S544x512) ![216, 0] S40x512.size inb_S544x512_S40x512_216_0)) (View.ld w (Rect.unit (s := S31x512) ![24, 0] S1x512.size inb_S31x512_S1x512_24_0))) (View.ld u (Rect.unit (s := S544x512) ![192, 0] S40x512.size inb_S544x512_S40x512_192_0)) (View.ld w (Rect.unit (s := S31x512) ![1, 0] S1x512.size inb_S31x512_S1x512_1_0)) (View.ld u (Rect.unit (s := S544x512) ![200, 0] S40x512.size inb_S544x512_S40x512_200_0)) (View.ld w (Rect.unit (s := S31x512) ![9, 0] S1x512.size inb_S31x512_S1x512_9_0)) (View.ld u (Rect.unit (s := S544x512) ![208, 0] S40x512.size inb_S544x512_S40x512_208_0)) (View.ld w (Rect.unit (s := S31x512) ![17, 0] S1x512.size inb_S31x512_S1x512_17_0)) (View.ld u (Rect.unit (s := S544x512) ![216, 0] S40x512.size inb_S544x512_S40x512_216_0)) (View.ld w (Rect.unit (s := S31x512) ![25, 0] S1x512.size inb_S31x512_S1x512_25_0))) (View.ld u (Rect.unit (s := S544x512) ![192, 0] S40x512.size inb_S544x512_S40x512_192_0)) (View.ld w (Rect.unit (s := S31x512) ![2, 0] S1x512.size inb_S31x512_S1x512_2_0)) (View.ld u (Rect.unit (s := S544x512) ![200, 0] S40x512.size inb_S544x512_S40x512_200_0)) (View.ld w (Rect.unit (s := S31x512) ![10, 0] S1x512.size inb_S31x512_S1x512_10_0)) (View.ld u (Rect.unit (s := S544x512) ![208, 0] S40x512.size inb_S544x512_S40x512_208_0)) (View.ld w (Rect.unit (s := S31x512) ![18, 0] S1x512.size inb_S31x512_S1x512_18_0)) (View.ld u (Rect.unit (s := S544x512) ![216, 0] S40x512.size inb_S544x512_S40x512_216_0)) (View.ld w (Rect.unit (s := S31x512) ![26, 0] S1x512.size inb_S31x512_S1x512_26_0))) (View.ld u (Rect.unit (s := S544x512) ![192, 0] S40x512.size inb_S544x512_S40x512_192_0)) (View.ld w (Rect.unit (s := S31x512) ![3, 0] S1x512.size inb_S31x512_S1x512_3_0)) (View.ld u (Rect.unit (s := S544x512) ![200, 0] S40x512.size inb_S544x512_S40x512_200_0)) (View.ld w (Rect.unit (s := S31x512) ![11, 0] S1x512.size inb_S31x512_S1x512_11_0)) (View.ld u (Rect.unit (s := S544x512) ![208, 0] S40x512.size inb_S544x512_S40x512_208_0)) (View.ld w (Rect.unit (s := S31x512) ![19, 0] S1x512.size inb_S31x512_S1x512_19_0)) (View.ld u (Rect.unit (s := S544x512) ![216, 0] S40x512.size inb_S544x512_S40x512_216_0)) (View.ld w (Rect.unit (s := S31x512) ![27, 0] S1x512.size inb_S31x512_S1x512_27_0))) (k0_pay100 (View.ld u (Rect.unit (s := S544x512) ![192, 0] S40x512.size inb_S544x512_S40x512_192_0)) (View.ld w (Rect.unit (s := S31x512) ![4, 0] S1x512.size inb_S31x512_S1x512_4_0))) (View.ld u (Rect.unit (s := S544x512) ![200, 0] S40x512.size inb_S544x512_S40x512_200_0)) (View.ld w (Rect.unit (s := S31x512) ![12, 0] S1x512.size inb_S31x512_S1x512_12_0)) (View.ld u (Rect.unit (s := S544x512) ![208, 0] S40x512.size inb_S544x512_S40x512_208_0)) (View.ld w (Rect.unit (s := S31x512) ![20, 0] S1x512.size inb_S31x512_S1x512_20_0)) (View.ld u (Rect.unit (s := S544x512) ![216, 0] S40x512.size inb_S544x512_S40x512_216_0)) (View.ld w (Rect.unit (s := S31x512) ![28, 0] S1x512.size inb_S31x512_S1x512_28_0))) (k0_pay102 (View.ld u (Rect.unit (s := S544x512) ![192, 0] S40x512.size inb_S544x512_S40x512_192_0)) (View.ld w (Rect.unit (s := S31x512) ![5, 0] S1x512.size inb_S31x512_S1x512_5_0))) (View.ld u (Rect.unit (s := S544x512) ![200, 0] S40x512.size inb_S544x512_S40x512_200_0)) (View.ld w (Rect.unit (s := S31x512) ![13, 0] S1x512.size inb_S31x512_S1x512_13_0)) (View.ld u (Rect.unit (s := S544x512) ![208, 0] S40x512.size inb_S544x512_S40x512_208_0)) (View.ld w (Rect.unit (s := S31x512) ![21, 0] S1x512.size inb_S31x512_S1x512_21_0)) (View.ld u (Rect.unit (s := S544x512) ![216, 0] S40x512.size inb_S544x512_S40x512_216_0)) (View.ld w (Rect.unit (s := S31x512) ![29, 0] S1x512.size inb_S31x512_S1x512_29_0)))

/-- Rows 224 to 255 of the convolution of a block. -/
def blk7 (u : Vec F S544x512 .f32) (w : Vec F S31x512 .f32) (b : Vec F S1x512 .f32) : FVec F S32x512 .f32 :=
  (k0_pay120 (k0_pay118 (k0_pay116 (k0_pay114 (k0_pay112 (k0_pay110 (k0_pay108 (k0_pay106 (k0_pay104 b) (k0_pay105 (View.ld u (Rect.unit (s := S544x512) ![232, 0] S32x512.size inb_S544x512_S32x512_232_0)) (View.ld w (Rect.unit (s := S31x512) ![6, 0] S1x512.size inb_S31x512_S1x512_6_0))) (View.ld u (Rect.unit (s := S544x512) ![240, 0] S32x512.size inb_S544x512_S32x512_240_0)) (View.ld w (Rect.unit (s := S31x512) ![14, 0] S1x512.size inb_S31x512_S1x512_14_0)) (View.ld u (Rect.unit (s := S544x512) ![248, 0] S32x512.size inb_S544x512_S32x512_248_0)) (View.ld w (Rect.unit (s := S31x512) ![22, 0] S1x512.size inb_S31x512_S1x512_22_0)) (View.ld u (Rect.unit (s := S544x512) ![256, 0] S32x512.size inb_S544x512_S32x512_256_0)) (View.ld w (Rect.unit (s := S31x512) ![30, 0] S1x512.size inb_S31x512_S1x512_30_0))) (k0_pay107 (View.ld u (Rect.unit (s := S544x512) ![232, 0] S40x512.size inb_S544x512_S40x512_232_0)) (View.ld w (Rect.unit (s := S31x512) ![7, 0] S1x512.size inb_S31x512_S1x512_7_0))) (View.ld u (Rect.unit (s := S544x512) ![240, 0] S40x512.size inb_S544x512_S40x512_240_0)) (View.ld w (Rect.unit (s := S31x512) ![15, 0] S1x512.size inb_S31x512_S1x512_15_0)) (View.ld u (Rect.unit (s := S544x512) ![248, 0] S40x512.size inb_S544x512_S40x512_248_0)) (View.ld w (Rect.unit (s := S31x512) ![23, 0] S1x512.size inb_S31x512_S1x512_23_0))) (k0_pay109 (View.ld u (Rect.unit (s := S544x512) ![224, 0] S40x512.size inb_S544x512_S40x512_224_0)) (View.ld w (Rect.unit (s := S31x512) ![0, 0] S1x512.size inb_S31x512_S1x512_0_0)) (View.ld u (Rect.unit (s := S544x512) ![232, 0] S40x512.size inb_S544x512_S40x512_232_0)) (View.ld w (Rect.unit (s := S31x512) ![8, 0] S1x512.size inb_S31x512_S1x512_8_0))) (View.ld u (Rect.unit (s := S544x512) ![240, 0] S40x512.size inb_S544x512_S40x512_240_0)) (View.ld w (Rect.unit (s := S31x512) ![16, 0] S1x512.size inb_S31x512_S1x512_16_0)) (View.ld u (Rect.unit (s := S544x512) ![248, 0] S40x512.size inb_S544x512_S40x512_248_0)) (View.ld w (Rect.unit (s := S31x512) ![24, 0] S1x512.size inb_S31x512_S1x512_24_0))) (k0_pay111 (View.ld u (Rect.unit (s := S544x512) ![224, 0] S40x512.size inb_S544x512_S40x512_224_0)) (View.ld w (Rect.unit (s := S31x512) ![1, 0] S1x512.size inb_S31x512_S1x512_1_0)) (View.ld u (Rect.unit (s := S544x512) ![232, 0] S40x512.size inb_S544x512_S40x512_232_0)) (View.ld w (Rect.unit (s := S31x512) ![9, 0] S1x512.size inb_S31x512_S1x512_9_0))) (View.ld u (Rect.unit (s := S544x512) ![240, 0] S40x512.size inb_S544x512_S40x512_240_0)) (View.ld w (Rect.unit (s := S31x512) ![17, 0] S1x512.size inb_S31x512_S1x512_17_0)) (View.ld u (Rect.unit (s := S544x512) ![248, 0] S40x512.size inb_S544x512_S40x512_248_0)) (View.ld w (Rect.unit (s := S31x512) ![25, 0] S1x512.size inb_S31x512_S1x512_25_0))) (k0_pay113 (View.ld u (Rect.unit (s := S544x512) ![224, 0] S40x512.size inb_S544x512_S40x512_224_0)) (View.ld w (Rect.unit (s := S31x512) ![2, 0] S1x512.size inb_S31x512_S1x512_2_0)) (View.ld u (Rect.unit (s := S544x512) ![232, 0] S40x512.size inb_S544x512_S40x512_232_0)) (View.ld w (Rect.unit (s := S31x512) ![10, 0] S1x512.size inb_S31x512_S1x512_10_0)) (View.ld u (Rect.unit (s := S544x512) ![240, 0] S40x512.size inb_S544x512_S40x512_240_0)) (View.ld w (Rect.unit (s := S31x512) ![18, 0] S1x512.size inb_S31x512_S1x512_18_0))) (View.ld u (Rect.unit (s := S544x512) ![248, 0] S40x512.size inb_S544x512_S40x512_248_0)) (View.ld w (Rect.unit (s := S31x512) ![26, 0] S1x512.size inb_S31x512_S1x512_26_0))) (k0_pay115 (View.ld u (Rect.unit (s := S544x512) ![224, 0] S40x512.size inb_S544x512_S40x512_224_0)) (View.ld w (Rect.unit (s := S31x512) ![3, 0] S1x512.size inb_S31x512_S1x512_3_0)) (View.ld u (Rect.unit (s := S544x512) ![232, 0] S40x512.size inb_S544x512_S40x512_232_0)) (View.ld w (Rect.unit (s := S31x512) ![11, 0] S1x512.size inb_S31x512_S1x512_11_0)) (View.ld u (Rect.unit (s := S544x512) ![240, 0] S40x512.size inb_S544x512_S40x512_240_0)) (View.ld w (Rect.unit (s := S31x512) ![19, 0] S1x512.size inb_S31x512_S1x512_19_0))) (View.ld u (Rect.unit (s := S544x512) ![248, 0] S40x512.size inb_S544x512_S40x512_248_0)) (View.ld w (Rect.unit (s := S31x512) ![27, 0] S1x512.size inb_S31x512_S1x512_27_0))) (k0_pay117 (View.ld u (Rect.unit (s := S544x512) ![224, 0] S40x512.size inb_S544x512_S40x512_224_0)) (View.ld w (Rect.unit (s := S31x512) ![4, 0] S1x512.size inb_S31x512_S1x512_4_0)) (View.ld u (Rect.unit (s := S544x512) ![232, 0] S40x512.size inb_S544x512_S40x512_232_0)) (View.ld w (Rect.unit (s := S31x512) ![12, 0] S1x512.size inb_S31x512_S1x512_12_0)) (View.ld u (Rect.unit (s := S544x512) ![240, 0] S40x512.size inb_S544x512_S40x512_240_0)) (View.ld w (Rect.unit (s := S31x512) ![20, 0] S1x512.size inb_S31x512_S1x512_20_0))) (View.ld u (Rect.unit (s := S544x512) ![248, 0] S40x512.size inb_S544x512_S40x512_248_0)) (View.ld w (Rect.unit (s := S31x512) ![28, 0] S1x512.size inb_S31x512_S1x512_28_0))) (k0_pay119 (View.ld u (Rect.unit (s := S544x512) ![224, 0] S40x512.size inb_S544x512_S40x512_224_0)) (View.ld w (Rect.unit (s := S31x512) ![5, 0] S1x512.size inb_S31x512_S1x512_5_0)) (View.ld u (Rect.unit (s := S544x512) ![232, 0] S40x512.size inb_S544x512_S40x512_232_0)) (View.ld w (Rect.unit (s := S31x512) ![13, 0] S1x512.size inb_S31x512_S1x512_13_0)) (View.ld u (Rect.unit (s := S544x512) ![240, 0] S40x512.size inb_S544x512_S40x512_240_0)) (View.ld w (Rect.unit (s := S31x512) ![21, 0] S1x512.size inb_S31x512_S1x512_21_0))) (View.ld u (Rect.unit (s := S544x512) ![248, 0] S40x512.size inb_S544x512_S40x512_248_0)) (View.ld w (Rect.unit (s := S31x512) ![29, 0] S1x512.size inb_S31x512_S1x512_29_0)))

/-- Rows 256 to 287 of the convolution of a block. -/
def blk8 (u : Vec F S544x512 .f32) (w : Vec F S31x512 .f32) (b : Vec F S1x512 .f32) : FVec F S32x512 .f32 :=
  (k0_pay133 (k0_pay131 (k0_pay129 (k0_pay127 (k0_pay125 (k0_pay124 (k0_pay123 (k0_pay121 b) (k0_pay122 (View.ld u (Rect.unit (s := S544x512) ![264, 0] S32x512.size inb_S544x512_S32x512_264_0)) (View.ld w (Rect.unit (s := S31x512) ![6, 0] S1x512.size inb_S31x512_S1x512_6_0)) (View.ld u (Rect.unit (s := S544x512) ![272, 0] S32x512.size inb_S544x512_S32x512_272_0)) (View.ld w (Rect.unit (s := S31x512) ![14, 0] S1x512.size inb_S31x512_S1x512_14_0)) (View.ld u (Rect.unit (s := S544x512) ![280, 0] S32x512.size inb_S544x512_S32x512_280_0)) (View.ld w (Rect.unit (s := S31x512) ![22, 0] S1x512.size inb_S31x512_S1x512_22_0))) (View.ld u (Rect.unit (s := S544x512) ![288, 0] S32x512.size inb_S544x512_S32x512_288_0)) (View.ld w (Rect.unit (s := S31x512) ![30, 0] S1x512.size inb_S31x512_S1x512_30_0)) (View.ld u (Rect.unit (s := S544x512) ![264, 0] S40x512.size inb_S544x512_S40x512_264_0)) (View.ld w (Rect.unit (s := S31x512) ![7, 0] S1x512.size inb_S31x512_S1x512_7_0)) (View.ld u (Rect.unit (s := S544x512) ![272, 0] S40x512.size inb_S544x512_S40x512_272_0)) (View.ld w (Rect.unit (s := S31x512) ![15, 0] S1x512.size inb_S31x512_S1x512_15_0)) (View.ld u (Rect.unit (s := S544x512) ![280, 0] S40x512.size inb_S544x512_S40x512_280_0)) (View.ld w (Rect.unit (s := S31x512) ![23, 0] S1x512.size inb_S31x512_S1x512_23_0))) (View.ld u (Rect.unit (s := S544x512) ![256, 0] S40x512.size inb_S544x512_S40x512_256_0)) (View.ld w (Rect.unit (s := S31x512) ![0, 0] S1x512.size inb_S31x512_S1x512_0_0)) (View.ld u (Rect.unit (s := S544x512) ![264, 0] S40x512.size inb_S544x512_S40x512_264_0)) (View.ld w (Rect.unit (s := S31x512) ![8, 0] S1x512.size inb_S31x512_S1x512_8_0)) (View.ld u (Rect.unit (s := S544x512) ![272, 0] S40x512.size inb_S544x512_S40x512_272_0)) (View.ld w (Rect.unit (s := S31x512) ![16, 0] S1x512.size inb_S31x512_S1x512_16_0)) (View.ld u (Rect.unit (s := S544x512) ![280, 0] S40x512.size inb_S544x512_S40x512_280_0)) (View.ld w (Rect.unit (s := S31x512) ![24, 0] S1x512.size inb_S31x512_S1x512_24_0))) (View.ld u (Rect.unit (s := S544x512) ![256, 0] S40x512.size inb_S544x512_S40x512_256_0)) (View.ld w (Rect.unit (s := S31x512) ![1, 0] S1x512.size inb_S31x512_S1x512_1_0)) (View.ld u (Rect.unit (s := S544x512) ![264, 0] S40x512.size inb_S544x512_S40x512_264_0)) (View.ld w (Rect.unit (s := S31x512) ![9, 0] S1x512.size inb_S31x512_S1x512_9_0)) (View.ld u (Rect.unit (s := S544x512) ![272, 0] S40x512.size inb_S544x512_S40x512_272_0)) (View.ld w (Rect.unit (s := S31x512) ![17, 0] S1x512.size inb_S31x512_S1x512_17_0)) (View.ld u (Rect.unit (s := S544x512) ![280, 0] S40x512.size inb_S544x512_S40x512_280_0)) (View.ld w (Rect.unit (s := S31x512) ![25, 0] S1x512.size inb_S31x512_S1x512_25_0))) (k0_pay126 (View.ld u (Rect.unit (s := S544x512) ![256, 0] S40x512.size inb_S544x512_S40x512_256_0)) (View.ld w (Rect.unit (s := S31x512) ![2, 0] S1x512.size inb_S31x512_S1x512_2_0))) (View.ld u (Rect.unit (s := S544x512) ![264, 0] S40x512.size inb_S544x512_S40x512_264_0)) (View.ld w (Rect.unit (s := S31x512) ![10, 0] S1x512.size inb_S31x512_S1x512_10_0)) (View.ld u (Rect.unit (s := S544x512) ![272, 0] S40x512.size inb_S544x512_S40x512_272_0)) (View.ld w (Rect.unit (s := S31x512) ![18, 0] S1x512.size inb_S31x512_S1x512_18_0)) (View.ld u (Rect.unit (s := S544x512) ![280, 0] S40x512.size inb_S544x512_S40x512_280_0)) (View.ld w (Rect.unit (s := S31x512) ![26, 0] S1x512.size inb_S31x512_S1x512_26_0))) (k0_pay128 (View.ld u (Rect.unit (s := S544x512) ![256, 0] S40x512.size inb_S544x512_S40x512_256_0)) (View.ld w (Rect.unit (s := S31x512) ![3, 0] S1x512.size inb_S31x512_S1x512_3_0))) (View.ld u (Rect.unit (s := S544x512) ![264, 0] S40x512.size inb_S544x512_S40x512_264_0)) (View.ld w (Rect.unit (s := S31x512) ![11, 0] S1x512.size inb_S31x512_S1x512_11_0)) (View.ld u (Rect.unit (s := S544x512) ![272, 0] S40x512.size inb_S544x512_S40x512_272_0)) (View.ld w (Rect.unit (s := S31x512) ![19, 0] S1x512.size inb_S31x512_S1x512_19_0)) (View.ld u (Rect.unit (s := S544x512) ![280, 0] S40x512.size inb_S544x512_S40x512_280_0)) (View.ld w (Rect.unit (s := S31x512) ![27, 0] S1x512.size inb_S31x512_S1x512_27_0))) (k0_pay130 (View.ld u (Rect.unit (s := S544x512) ![256, 0] S40x512.size inb_S544x512_S40x512_256_0)) (View.ld w (Rect.unit (s := S31x512) ![4, 0] S1x512.size inb_S31x512_S1x512_4_0))) (View.ld u (Rect.unit (s := S544x512) ![264, 0] S40x512.size inb_S544x512_S40x512_264_0)) (View.ld w (Rect.unit (s := S31x512) ![12, 0] S1x512.size inb_S31x512_S1x512_12_0)) (View.ld u (Rect.unit (s := S544x512) ![272, 0] S40x512.size inb_S544x512_S40x512_272_0)) (View.ld w (Rect.unit (s := S31x512) ![20, 0] S1x512.size inb_S31x512_S1x512_20_0)) (View.ld u (Rect.unit (s := S544x512) ![280, 0] S40x512.size inb_S544x512_S40x512_280_0)) (View.ld w (Rect.unit (s := S31x512) ![28, 0] S1x512.size inb_S31x512_S1x512_28_0))) (k0_pay132 (View.ld u (Rect.unit (s := S544x512) ![256, 0] S40x512.size inb_S544x512_S40x512_256_0)) (View.ld w (Rect.unit (s := S31x512) ![5, 0] S1x512.size inb_S31x512_S1x512_5_0))) (View.ld u (Rect.unit (s := S544x512) ![264, 0] S40x512.size inb_S544x512_S40x512_264_0)) (View.ld w (Rect.unit (s := S31x512) ![13, 0] S1x512.size inb_S31x512_S1x512_13_0)) (View.ld u (Rect.unit (s := S544x512) ![272, 0] S40x512.size inb_S544x512_S40x512_272_0)) (View.ld w (Rect.unit (s := S31x512) ![21, 0] S1x512.size inb_S31x512_S1x512_21_0)) (View.ld u (Rect.unit (s := S544x512) ![280, 0] S40x512.size inb_S544x512_S40x512_280_0)) (View.ld w (Rect.unit (s := S31x512) ![29, 0] S1x512.size inb_S31x512_S1x512_29_0)))

/-- Rows 288 to 319 of the convolution of a block. -/
def blk9 (u : Vec F S544x512 .f32) (w : Vec F S31x512 .f32) (b : Vec F S1x512 .f32) : FVec F S32x512 .f32 :=
  (k0_pay151 (k0_pay149 (k0_pay146 (k0_pay144 (k0_pay142 (k0_pay140 (k0_pay138 (k0_pay136 (k0_pay134 b) (k0_pay135 (View.ld u (Rect.unit (s := S544x512) ![296, 0] S32x512.size inb_S544x512_S32x512_296_0)) (View.ld w (Rect.unit (s := S31x512) ![6, 0] S1x512.size inb_S31x512_S1x512_6_0))) (View.ld u (Rect.unit (s := S544x512) ![304, 0] S32x512.size inb_S544x512_S32x512_304_0)) (View.ld w (Rect.unit (s := S31x512) ![14, 0] S1x512.size inb_S31x512_S1x512_14_0)) (View.ld u (Rect.unit (s := S544x512) ![312, 0] S32x512.size inb_S544x512_S32x512_312_0)) (View.ld w (Rect.unit (s := S31x512) ![22, 0] S1x512.size inb_S31x512_S1x512_22_0)) (View.ld u (Rect.unit (s := S544x512) ![320, 0] S32x512.size inb_S544x512_S32x512_320_0)) (View.ld w (Rect.unit (s := S31x512) ![30, 0] S1x512.size inb_S31x512_S1x512_30_0))) (k0_pay137 (View.ld u (Rect.unit (s := S544x512) ![296, 0] S40x512.size inb_S544x512_S40x512_296_0)) (View.ld w (Rect.unit (s := S31x512) ![7, 0] S1x512.size inb_S31x512_S1x512_7_0))) (View.ld u (Rect.unit (s := S544x512) ![304, 0] S40x512.size inb_S544x512_S40x512_304_0)) (View.ld w (Rect.unit (s := S31x512) ![15, 0] S1x512.size inb_S31x512_S1x512_15_0)) (View.ld u (Rect.unit (s := S544x512) ![312, 0] S40x512.size inb_S544x512_S40x512_312_0)) (View.ld w (Rect.unit (s := S31x512) ![23, 0] S1x512.size inb_S31x512_S1x512_23_0))) (k0_pay139 (View.ld u (Rect.unit (s := S544x512) ![288, 0] S40x512.size inb_S544x512_S40x512_288_0)) (View.ld w (Rect.unit (s := S31x512) ![0, 0] S1x512.size inb_S31x512_S1x512_0_0)) (View.ld u (Rect.unit (s := S544x512) ![296, 0] S40x512.size inb_S544x512_S40x512_296_0)) (View.ld w (Rect.unit (s := S31x512) ![8, 0] S1x512.size inb_S31x512_S1x512_8_0)) (View.ld u (Rect.unit (s := S544x512) ![304, 0] S40x512.size inb_S544x512_S40x512_304_0)) (View.ld w (Rect.unit (s := S31x512) ![16, 0] S1x512.size inb_S31x512_S1x512_16_0))) (View.ld u (Rect.unit (s := S544x512) ![312, 0] S40x512.size inb_S544x512_S40x512_312_0)) (View.ld w (Rect.unit (s := S31x512) ![24, 0] S1x512.size inb_S31x512_S1x512_24_0))) (k0_pay141 (View.ld u (Rect.unit (s := S544x512) ![288, 0] S40x512.size inb_S544x512_S40x512_288_0)) (View.ld w (Rect.unit (s := S31x512) ![1, 0] S1x512.size inb_S31x512_S1x512_1_0)) (View.ld u (Rect.unit (s := S544x512) ![296, 0] S40x512.size inb_S544x512_S40x512_296_0)) (View.ld w (Rect.unit (s := S31x512) ![9, 0] S1x512.size inb_S31x512_S1x512_9_0)) (View.ld u (Rect.unit (s := S544x512) ![304, 0] S40x512.size inb_S544x512_S40x512_304_0)) (View.ld w (Rect.unit (s := S31x512) ![17, 0] S1x512.size inb_S31x512_S1x512_17_0))) (View.ld u (Rect.unit (s := S544x512) ![312, 0] S40x512.size inb_S544x512_S40x512_312_0)) (View.ld w (Rect.unit (s := S31x512) ![25, 0] S1x512.size inb_S31x512_S1x512_25_0))) (k0_pay143 (View.ld u (Rect.unit (s := S544x512) ![288, 0] S40x512.size inb_S544x512_S40x512_288_0)) (View.ld w (Rect.unit (s := S31x512) ![2, 0] S1x512.size inb_S31x512_S1x512_2_0)) (View.ld u (Rect.unit (s := S544x512) ![296, 0] S40x512.size inb_S544x512_S40x512_296_0)) (View.ld w (Rect.unit (s := S31x512) ![10, 0] S1x512.size inb_S31x512_S1x512_10_0)) (View.ld u (Rect.unit (s := S544x512) ![304, 0] S40x512.size inb_S544x512_S40x512_304_0)) (View.ld w (Rect.unit (s := S31x512) ![18, 0] S1x512.size inb_S31x512_S1x512_18_0))) (View.ld u (Rect.unit (s := S544x512) ![312, 0] S40x512.size inb_S544x512_S40x512_312_0)) (View.ld w (Rect.unit (s := S31x512) ![26, 0] S1x512.size inb_S31x512_S1x512_26_0))) (k0_pay145 (View.ld u (Rect.unit (s := S544x512) ![288, 0] S40x512.size inb_S544x512_S40x512_288_0)) (View.ld w (Rect.unit (s := S31x512) ![3, 0] S1x512.size inb_S31x512_S1x512_3_0)) (View.ld u (Rect.unit (s := S544x512) ![296, 0] S40x512.size inb_S544x512_S40x512_296_0)) (View.ld w (Rect.unit (s := S31x512) ![11, 0] S1x512.size inb_S31x512_S1x512_11_0)) (View.ld u (Rect.unit (s := S544x512) ![304, 0] S40x512.size inb_S544x512_S40x512_304_0)) (View.ld w (Rect.unit (s := S31x512) ![19, 0] S1x512.size inb_S31x512_S1x512_19_0))) (View.ld u (Rect.unit (s := S544x512) ![312, 0] S40x512.size inb_S544x512_S40x512_312_0)) (View.ld w (Rect.unit (s := S31x512) ![27, 0] S1x512.size inb_S31x512_S1x512_27_0))) (k0_pay147 (View.ld u (Rect.unit (s := S544x512) ![288, 0] S40x512.size inb_S544x512_S40x512_288_0)) (View.ld w (Rect.unit (s := S31x512) ![4, 0] S1x512.size inb_S31x512_S1x512_4_0)) (View.ld u (Rect.unit (s := S544x512) ![296, 0] S40x512.size inb_S544x512_S40x512_296_0)) (View.ld w (Rect.unit (s := S31x512) ![12, 0] S1x512.size inb_S31x512_S1x512_12_0)) (View.ld u (Rect.unit (s := S544x512) ![304, 0] S40x512.size inb_S544x512_S40x512_304_0)) (View.ld w (Rect.unit (s := S31x512) ![20, 0] S1x512.size inb_S31x512_S1x512_20_0))) (View.ld u (Rect.unit (s := S544x512) ![312, 0] S40x512.size inb_S544x512_S40x512_312_0)) (k0_pay148 (View.ld w (Rect.unit (s := S31x512) ![28, 0] S1x512.size inb_S31x512_S1x512_28_0)))) (k0_pay150 (View.ld u (Rect.unit (s := S544x512) ![288, 0] S40x512.size inb_S544x512_S40x512_288_0)) (View.ld w (Rect.unit (s := S31x512) ![5, 0] S1x512.size inb_S31x512_S1x512_5_0)) (View.ld u (Rect.unit (s := S544x512) ![296, 0] S40x512.size inb_S544x512_S40x512_296_0)) (View.ld w (Rect.unit (s := S31x512) ![13, 0] S1x512.size inb_S31x512_S1x512_13_0)) (View.ld u (Rect.unit (s := S544x512) ![304, 0] S40x512.size inb_S544x512_S40x512_304_0)) (View.ld w (Rect.unit (s := S31x512) ![21, 0] S1x512.size inb_S31x512_S1x512_21_0)) (View.ld u (Rect.unit (s := S544x512) ![312, 0] S40x512.size inb_S544x512_S40x512_312_0)) (View.ld w (Rect.unit (s := S31x512) ![29, 0] S1x512.size inb_S31x512_S1x512_29_0))))

/-- Rows 320 to 351 of the convolution of a block. -/
def blk10 (u : Vec F S544x512 .f32) (w : Vec F S31x512 .f32) (b : Vec F S1x512 .f32) : FVec F S32x512 .f32 :=
  (k0_pay168 (k0_pay166 (k0_pay163 (k0_pay161 (k0_pay159 (k0_pay157 (k0_pay155 (k0_pay152 b) (k0_pay153 (View.ld u (Rect.unit (s := S544x512) ![328, 0] S32x512.size inb_S544x512_S32x512_328_0)) (View.ld w (Rect.unit (s := S31x512) ![6, 0] S1x512.size inb_S31x512_S1x512_6_0)) (View.ld u (Rect.unit (s := S544x512) ![336, 0] S32x512.size inb_S544x512_S32x512_336_0)) (View.ld w (Rect.unit (s := S31x512) ![14, 0] S1x512.size inb_S31x512_S1x512_14_0)) (View.ld u (Rect.unit (s := S544x512) ![344, 0] S32x512.size inb_S544x512_S32x512_344_0)) (View.ld w (Rect.unit (s := S31x512) ![22, 0] S1x512.size inb_S31x512_S1x512_22_0))) (View.ld u (Rect.unit (s := S544x512) ![352, 0] S32x512.size inb_S544x512_S32x512_352_0)) (k0_pay154 (View.ld w (Rect.unit (s := S31x512) ![30, 0] S1x512.size inb_S31x512_S1x512_30_0))) (View.ld u (Rect.unit (s := S544x512) ![328, 0] S40x512.size inb_S544x512_S40x512_328_0)) (View.ld w (Rect.unit (s := S31x512) ![7, 0] S1x512.size inb_S31x512_S1x512_7_0)) (View.ld u (Rect.unit (s := S544x512) ![336, 0] S40x512.size inb_S544x512_S40x512_336_0)) (View.ld w (Rect.unit (s := S31x512) ![15, 0] S1x512.size inb_S31x512_S1x512_15_0)) (View.ld u (Rect.unit (s := S544x512) ![344, 0] S40x512.size inb_S544x512_S40x512_344_0)) (View.ld w (Rect.unit (s := S31x512) ![23, 0] S1x512.size inb_S31x512_S1x512_23_0))) (k0_pay156 (View.ld u (Rect.unit (s := S544x512) ![320, 0] S40x512.size inb_S544x512_S40x512_320_0)) (View.ld w (Rect.unit (s := S31x512) ![0, 0] S1x512.size inb_S31x512_S1x512_0_0))) (View.ld u (Rect.unit (s := S544x512) ![328, 0] S40x512.size inb_S544x512_S40x512_328_0)) (View.ld w (Rect.unit (s := S31x512) ![8, 0] S1x512.size inb_S31x512_S1x512_8_0)) (View.ld u (Rect.unit (s := S544x512) ![336, 0] S40x512.size inb_S544x512_S40x512_336_0)) (View.ld w (Rect.unit (s := S31x512) ![16, 0] S1x512.size inb_S31x512_S1x512_16_0)) (View.ld u (Rect.unit (s := S544x512) ![344, 0] S40x512.size inb_S544x512_S40x512_344_0)) (View.ld w (Rect.unit (s := S31x512) ![24, 0] S1x512.size inb_S31x512_S1x512_24_0))) (k0_pay158 (View.ld u (Rect.unit (s := S544x512) ![320, 0] S40x512.size inb_S544x512_S40x512_320_0)) (View.ld w (Rect.unit (s := S31x512) ![1, 0] S1x512.size inb_S31x512_S1x512_1_0))) (View.ld u (Rect.unit (s := S544x512) ![328, 0] S40x512.size inb_S544x512_S40x512_328_0)) (View.ld w (Rect.unit (s := S31x512) ![9, 0] S1x512.size inb_S31x512_S1x512_9_0)) (View.ld u (Rect.unit (s := S544x512) ![336, 0] S40x512.size inb_S544x512_S40x512_336_0)) (View.ld w (Rect.unit (s := S31x512) ![17, 0] S1x512.size inb_S31x512_S1x512_17_0)) (View.ld u (Rect.unit (s := S544x512) ![344, 0] S40x512.size inb_S544x512_S40x512_344_0)) (View.ld w (Rect.unit (s := S31x512) ![25, 0] S1x512.size inb_S31x512_S1x512_25_0))) (k0_pay160 (View.ld u (Rect.unit (s := S544x512) ![320, 0] S40x512.size inb_S544x512_S40x512_320_0)) (View.ld w (Rect.unit (s := S31x512) ![2, 0] S1x512.size inb_S31x512_S1x512_2_0))) (View.ld u (Rect.unit (s := S544x512) ![328, 0] S40x512.size inb_S544x512_S40x512_328_0)) (View.ld w (Rect.unit (s := S31x512) ![10, 0] S1x512.size inb_S31x512_S1x512_10_0)) (View.ld u (Rect.unit (s := S544x512) ![336, 0] S40x512.size inb_S544x512_S40x512_336_0)) (View.ld w (Rect.unit (s := S31x512) ![18, 0] S1x512.size inb_S31x512_S1x512_18_0)) (View.ld u (Rect.unit (s := S544x512) ![344, 0] S40x512.size inb_S544x512_S40x512_344_0)) (View.ld w (Rect.unit (s := S31x512) ![26, 0] S1x512.size inb_S31x512_S1x512_26_0))) (k0_pay162 (View.ld u (Rect.unit (s := S544x512) ![320, 0] S40x512.size inb_S544x512_S40x512_320_0)) (View.ld w (Rect.unit (s := S31x512) ![3, 0] S1x512.size inb_S31x512_S1x512_3_0))) (View.ld u (Rect.unit (s := S544x512) ![328, 0] S40x512.size inb_S544x512_S40x512_328_0)) (View.ld w (Rect.unit (s := S31x512) ![11, 0] S1x512.size inb_S31x512_S1x512_11_0)) (View.ld u (Rect.unit (s := S544x512) ![336, 0] S40x512.size inb_S544x512_S40x512_336_0)) (View.ld w (Rect.unit (s := S31x512) ![19, 0] S1x512.size inb_S31x512_S1x512_19_0)) (View.ld u (Rect.unit (s := S544x512) ![344, 0] S40x512.size inb_S544x512_S40x512_344_0)) (View.ld w (Rect.unit (s := S31x512) ![27, 0] S1x512.size inb_S31x512_S1x512_27_0))) (k0_pay164 (View.ld u (Rect.unit (s := S544x512) ![320, 0] S40x512.size inb_S544x512_S40x512_320_0)) (View.ld w (Rect.unit (s := S31x512) ![4, 0] S1x512.size inb_S31x512_S1x512_4_0))) (k0_pay165 (View.ld u (Rect.unit (s := S544x512) ![328, 0] S40x512.size inb_S544x512_S40x512_328_0)) (View.ld w (Rect.unit (s := S31x512) ![12, 0] S1x512.size inb_S31x512_S1x512_12_0))) (View.ld u (Rect.unit (s := S544x512) ![336, 0] S40x512.size inb_S544x512_S40x512_336_0)) (View.ld w (Rect.unit (s := S31x512) ![20, 0] S1x512.size inb_S31x512_S1x512_20_0)) (View.ld u (Rect.unit (s := S544x512) ![344, 0] S40x512.size inb_S544x512_S40x512_344_0)) (View.ld w (Rect.unit (s := S31x512) ![28, 0] S1x512.size inb_S31x512_S1x512_28_0))) (k0_pay167 (View.ld u (Rect.unit (s := S544x512) ![320, 0] S40x512.size inb_S544x512_S40x512_320_0)) (View.ld w (Rect.unit (s := S31x512) ![5, 0] S1x512.size inb_S31x512_S1x512_5_0)) (View.ld u (Rect.unit (s := S544x512) ![328, 0] S40x512.size inb_S544x512_S40x512_328_0)) (View.ld w (Rect.unit (s := S31x512) ![13, 0] S1x512.size inb_S31x512_S1x512_13_0))) (View.ld u (Rect.unit (s := S544x512) ![336, 0] S40x512.size inb_S544x512_S40x512_336_0)) (View.ld w (Rect.unit (s := S31x512) ![21, 0] S1x512.size inb_S31x512_S1x512_21_0)) (View.ld u (Rect.unit (s := S544x512) ![344, 0] S40x512.size inb_S544x512_S40x512_344_0)) (View.ld w (Rect.unit (s := S31x512) ![29, 0] S1x512.size inb_S31x512_S1x512_29_0)))

/-- Rows 352 to 383 of the convolution of a block. -/
def blk11 (u : Vec F S544x512 .f32) (w : Vec F S31x512 .f32) (b : Vec F S1x512 .f32) : FVec F S32x512 .f32 :=
  (k0_pay184 (k0_pay183 (k0_pay181 (k0_pay178 (k0_pay176 (k0_pay174 (k0_pay172 (k0_pay169 b) (k0_pay170 (View.ld u (Rect.unit (s := S544x512) ![360, 0] S32x512.size inb_S544x512_S32x512_360_0)) (View.ld w (Rect.unit (s := S31x512) ![6, 0] S1x512.size inb_S31x512_S1x512_6_0))) (k0_pay171 (View.ld u (Rect.unit (s := S544x512) ![368, 0] S32x512.size inb_S544x512_S32x512_368_0)) (View.ld w (Rect.unit (s := S31x512) ![14, 0] S1x512.size inb_S31x512_S1x512_14_0))) (View.ld u (Rect.unit (s := S544x512) ![376, 0] S32x512.size inb_S544x512_S32x512_376_0)) (View.ld w (Rect.unit (s := S31x512) ![22, 0] S1x512.size inb_S31x512_S1x512_22_0)) (View.ld u (Rect.unit (s := S544x512) ![384, 0] S32x512.size inb_S544x512_S32x512_384_0)) (View.ld w (Rect.unit (s := S31x512) ![30, 0] S1x512.size inb_S31x512_S1x512_30_0))) (k0_pay173 (View.ld u (Rect.unit (s := S544x512) ![360, 0] S40x512.size inb_S544x512_S40x512_360_0)) (View.ld w (Rect.unit (s := S31x512) ![7, 0] S1x512.size inb_S31x512_S1x512_7_0)) (View.ld u (Rect.unit (s := S544x512) ![368, 0] S40x512.size inb_S544x512_S40x512_368_0)) (View.ld w (Rect.unit (s := S31x512) ![15, 0] S1x512.size inb_S31x512_S1x512_15_0))) (View.ld u (Rect.unit (s := S544x512) ![376, 0] S40x512.size inb_S544x512_S40x512_376_0)) (View.ld w (Rect.unit (s := S31x512) ![23, 0] S1x512.size inb_S31x512_S1x512_23_0))) (k0_pay175 (View.ld u (Rect.unit (s := S544x512) ![352, 0] S40x512.size inb_S544x512_S40x512_352_0)) (View.ld w (Rect.unit (s := S31x512) ![0, 0] S1x512.size inb_S31x512_S1x512_0_0)) (View.ld u (Rect.unit (s := S544x512) ![360, 0] S40x512.size inb_S544x512_S40x512_360_0)) (View.ld w (Rect.unit (s := S31x512) ![8, 0] S1x512.size inb_S31x512_S1x512_8_0)) (View.ld u (Rect.unit (s := S544x512) ![368, 0] S40x512.size inb_S544x512_S40x512_368_0)) (View.ld w (Rect.unit (s := S31x512) ![16, 0] S1x512.size inb_S31x512_S1x512_16_0))) (View.ld u (Rect.unit (s := S544x512) ![376, 0] S40x512.size inb_S544x512_S40x512_376_0)) (View.ld w (Rect.unit (s := S31x512) ![24, 0] S1x512.size inb_S31x512_S1x512_24_0))) (k0_pay177 (View.ld u (Rect.unit (s := S544x512) ![352, 0] S40x512.size inb_S544x512_S40x512_352_0)) (View.ld w (Rect.unit (s := S31x512) ![1, 0] S1x512.size inb_S31x512_S1x512_1_0)) (View.ld u (Rect.unit (s := S544x512) ![360, 0] S40x512.size inb_S544x512_S40x512_360_0)) (View.ld w (Rect.unit (s := S31x512) ![9, 0] S1x512.size inb_S31x512_S1x512_9_0)) (View.ld u (Rect.unit (s := S544x512) ![368, 0] S40x512.size inb_S544x512_S40x512_368_0)) (View.ld w (Rect.unit (s := S31x512) ![17, 0] S1x512.size inb_S31x512_S1x512_17_0))) (View.ld u (Rect.unit (s := S544x512) ![376, 0] S40x512.size inb_S544x512_S40x512_376_0)) (View.ld w (Rect.unit (s := S31x512) ![25, 0] S1x512.size inb_S31x512_S1x512_25_0))) (k0_pay179 (View.ld u (Rect.unit (s := S544x512) ![352, 0] S40x512.size inb_S544x512_S40x512_352_0)) (View.ld w (Rect.unit (s := S31x512) ![2, 0] S1x512.size inb_S31x512_S1x512_2_0)) (View.ld u (Rect.unit (s := S544x512) ![360, 0] S40x512.size inb_S544x512_S40x512_360_0)) (View.ld w (Rect.unit (s := S31x512) ![10, 0] S1x512.size inb_S31x512_S1x512_10_0)) (View.ld u (Rect.unit (s := S544x512) ![368, 0] S40x512.size inb_S544x512_S40x512_368_0)) (View.ld w (Rect.unit (s := S31x512) ![18, 0] S1x512.size inb_S31x512_S1x512_18_0))) (View.ld u (Rect.unit (s := S544x512) ![376, 0] S40x512.size inb_S544x512_S40x512_376_0)) (k0_pay180 (View.ld w (Rect.unit (s := S31x512) ![26, 0] S1x512.size inb_S31x512_S1x512_26_0)))) (k0_pay182 (View.ld u (Rect.unit (s := S544x512) ![352, 0] S40x512.size inb_S544x512_S40x512_352_0)) (View.ld w (Rect.unit (s := S31x512) ![3, 0] S1x512.size inb_S31x512_S1x512_3_0)) (View.ld u (Rect.unit (s := S544x512) ![360, 0] S40x512.size inb_S544x512_S40x512_360_0)) (View.ld w (Rect.unit (s := S31x512) ![11, 0] S1x512.size inb_S31x512_S1x512_11_0)) (View.ld u (Rect.unit (s := S544x512) ![368, 0] S40x512.size inb_S544x512_S40x512_368_0)) (View.ld w (Rect.unit (s := S31x512) ![19, 0] S1x512.size inb_S31x512_S1x512_19_0)) (View.ld u (Rect.unit (s := S544x512) ![376, 0] S40x512.size inb_S544x512_S40x512_376_0)) (View.ld w (Rect.unit (s := S31x512) ![27, 0] S1x512.size inb_S31x512_S1x512_27_0))) (View.ld u (Rect.unit (s := S544x512) ![352, 0] S40x512.size inb_S544x512_S40x512_352_0)) (View.ld w (Rect.unit (s := S31x512) ![4, 0] S1x512.size inb_S31x512_S1x512_4_0)) (View.ld u (Rect.unit (s := S544x512) ![360, 0] S40x512.size inb_S544x512_S40x512_360_0)) (View.ld w (Rect.unit (s := S31x512) ![12, 0] S1x512.size inb_S31x512_S1x512_12_0)) (View.ld u (Rect.unit (s := S544x512) ![368, 0] S40x512.size inb_S544x512_S40x512_368_0)) (View.ld w (Rect.unit (s := S31x512) ![20, 0] S1x512.size inb_S31x512_S1x512_20_0)) (View.ld u (Rect.unit (s := S544x512) ![376, 0] S40x512.size inb_S544x512_S40x512_376_0)) (View.ld w (Rect.unit (s := S31x512) ![28, 0] S1x512.size inb_S31x512_S1x512_28_0))) (View.ld u (Rect.unit (s := S544x512) ![352, 0] S40x512.size inb_S544x512_S40x512_352_0)) (View.ld w (Rect.unit (s := S31x512) ![5, 0] S1x512.size inb_S31x512_S1x512_5_0)) (View.ld u (Rect.unit (s := S544x512) ![360, 0] S40x512.size inb_S544x512_S40x512_360_0)) (View.ld w (Rect.unit (s := S31x512) ![13, 0] S1x512.size inb_S31x512_S1x512_13_0)) (View.ld u (Rect.unit (s := S544x512) ![368, 0] S40x512.size inb_S544x512_S40x512_368_0)) (View.ld w (Rect.unit (s := S31x512) ![21, 0] S1x512.size inb_S31x512_S1x512_21_0)) (View.ld u (Rect.unit (s := S544x512) ![376, 0] S40x512.size inb_S544x512_S40x512_376_0)) (View.ld w (Rect.unit (s := S31x512) ![29, 0] S1x512.size inb_S31x512_S1x512_29_0)))

/-- Rows 384 to 415 of the convolution of a block. -/
def blk12 (u : Vec F S544x512 .f32) (w : Vec F S31x512 .f32) (b : Vec F S1x512 .f32) : FVec F S32x512 .f32 :=
  (k0_pay200 (k0_pay198 (k0_pay196 (k0_pay194 (k0_pay191 (k0_pay189 (k0_pay187 (k0_pay186 (k0_pay185 b) (View.ld u (Rect.unit (s := S544x512) ![392, 0] S32x512.size inb_S544x512_S32x512_392_0)) (View.ld w (Rect.unit (s := S31x512) ![6, 0] S1x512.size inb_S31x512_S1x512_6_0)) (View.ld u (Rect.unit (s := S544x512) ![400, 0] S32x512.size inb_S544x512_S32x512_400_0)) (View.ld w (Rect.unit (s := S31x512) ![14, 0] S1x512.size inb_S31x512_S1x512_14_0)) (View.ld u (Rect.unit (s := S544x512) ![408, 0] S32x512.size inb_S544x512_S32x512_408_0)) (View.ld w (Rect.unit (s := S31x512) ![22, 0] S1x512.size inb_S31x512_S1x512_22_0)) (View.ld u (Rect.unit (s := S544x512) ![416, 0] S32x512.size inb_S544x512_S32x512_416_0)) (View.ld w (Rect.unit (s := S31x512) ![30, 0] S1x512.size inb_S31x512_S1x512_30_0))) (View.ld u (Rect.unit (s := S544x512) ![392, 0] S40x512.size inb_S544x512_S40x512_392_0)) (View.ld w (Rect.unit (s := S31x512) ![7, 0] S1x512.size inb_S31x512_S1x512_7_0)) (View.ld u (Rect.unit (s := S544x512) ![400, 0] S40x512.size inb_S544x512_S40x512_400_0)) (View.ld w (Rect.unit (s := S31x512) ![15, 0] S1x512.size inb_S31x512_S1x512_15_0)) (View.ld u (Rect.unit (s := S544x512) ![408, 0] S40x512.size inb_S544x512_S40x512_408_0)) (View.ld w (Rect.unit (s := S31x512) ![23, 0] S1x512.size inb_S31x512_S1x512_23_0))) (k0_pay188 (View.ld u (Rect.unit (s := S544x512) ![384, 0] S40x512.size inb_S544x512_S40x512_384_0)) (View.ld w (Rect.unit (s := S31x512) ![0, 0] S1x512.size inb_S31x512_S1x512_0_0))) (View.ld u (Rect.unit (s := S544x512) ![392, 0] S40x512.size inb_S544x512_S40x512_392_0)) (View.ld w (Rect.unit (s := S31x512) ![8, 0] S1x512.size inb_S31x512_S1x512_8_0)) (View.ld u (Rect.unit (s := S544x512) ![400, 0] S40x512.size inb_S544x512_S40x512_400_0)) (View.ld w (Rect.unit (s := S31x512) ![16, 0] S1x512.size inb_S31x512_S1x512_16_0)) (View.ld u (Rect.unit (s := S544x512) ![408, 0] S40x512.size inb_S544x512_S40x512_408_0)) (View.ld w (Rect.unit (s := S31x512) ![24, 0] S1x512.size inb_S31x512_S1x512_24_0))) (k0_pay190 (View.ld u (Rect.unit (s := S544x512) ![384, 0] S40x512.size inb_S544x512_S40x512_384_0)) (View.ld w (Rect.unit (s := S31x512) ![1, 0] S1x512.size inb_S31x512_S1x512_1_0))) (View.ld u (Rect.unit (s := S544x512) ![392, 0] S40x512.size inb_S544x512_S40x512_392_0)) (View.ld w (Rect.unit (s := S31x512) ![9, 0] S1x512.size inb_S31x512_S1x512_9_0)) (View.ld u (Rect.unit (s := S544x512) ![400, 0] S40x512.size inb_S544x512_S40x512_400_0)) (View.ld w (Rect.unit (s := S31x512) ![17, 0] S1x512.size inb_S31x512_S1x512_17_0)) (View.ld u (Rect.unit (s := S544x512) ![408, 0] S40x512.size inb_S544x512_S40x512_408_0)) (View.ld w (Rect.unit (s := S31x512) ![25, 0] S1x512.size inb_S31x512_S1x512_25_0))) (k0_pay192 (View.ld u (Rect.unit (s := S544x512) ![384, 0] S40x512.size inb_S544x512_S40x512_384_0)) (View.ld w (Rect.unit (s := S31x512) ![2, 0] S1x512.size inb_S31x512_S1x512_2_0))) (k0_pay193 (View.ld u (Rect.unit (s := S544x512) ![392, 0] S40x512.size inb_S544x512_S40x512_392_0)) (View.ld w (Rect.unit (s := S31x512) ![10, 0] S1x512.size inb_S31x512_S1x512_10_0))) (View.ld u (Rect.unit (s := S544x512) ![400, 0] S40x512.size inb_S544x512_S40x512_400_0)) (View.ld w (Rect.unit (s := S31x512) ![18, 0] S1x512.size inb_S31x512_S1x512_18_0)) (View.ld u (Rect.unit (s := S544x512) ![408, 0] S40x512.size inb_S544x512_S40x512_408_0)) (View.ld w (Rect.unit (s := S31x512) ![26, 0] S1x512.size inb_S31x512_S1x512_26_0))) (k0_pay195 (View.ld u (Rect.unit (s := S544x512) ![384, 0] S40x512.size inb_S544x512_S40x512_384_0)) (View.ld w (Rect.unit (s := S31x512) ![3, 0] S1x512.size inb_S31x512_S1x512_3_0)) (View.ld u (Rect.unit (s := S544x512) ![392, 0] S40x512.size inb_S544x512_S40x512_392_0)) (View.ld w (Rect.unit (s := S31x512) ![11, 0] S1x512.size inb_S31x512_S1x512_11_0))) (View.ld u (Rect.unit (s := S544x512) ![400, 0] S40x512.size inb_S544x512_S40x512_400_0)) (View.ld w (Rect.unit (s := S31x512) ![19, 0] S1x512.size inb_S31x512_S1x512_19_0)) (View.ld u (Rect.unit (s := S544x512) ![408, 0] S40x512.size inb_S544x512_S40x512_408_0)) (View.ld w (Rect.unit (s := S31x512) ![27, 0] S1x512.size inb_S31x512_S1x512_27_0))) (k0_pay197 (View.ld u (Rect.unit (s := S544x512) ![384, 0] S40x512.size inb_S544x512_S40x512_384_0)) (View.ld w (Rect.unit (s := S31x512) ![4, 0] S1x512.size inb_S31x512_S1x512_4_0)) (View.ld u (Rect.unit (s := S544x512) ![392, 0] S40x512.size inb_S544x512_S40x512_392_0)) (View.ld w (Rect.unit (s := S31x512) ![12, 0] S1x512.size inb_S31x512_S1x512_12_0))) (View.ld u (Rect.unit (s := S544x512) ![400, 0] S40x512.size inb_S544x512_S40x512_400_0)) (View.ld w (Rect.unit (s := S31x512) ![20, 0] S1x512.size inb_S31x512_S1x512_20_0)) (View.ld u (Rect.unit (s := S544x512) ![408, 0] S40x512.size inb_S544x512_S40x512_408_0)) (View.ld w (Rect.unit (s := S31x512) ![28, 0] S1x512.size inb_S31x512_S1x512_28_0))) (k0_pay199 (View.ld u (Rect.unit (s := S544x512) ![384, 0] S40x512.size inb_S544x512_S40x512_384_0)) (View.ld w (Rect.unit (s := S31x512) ![5, 0] S1x512.size inb_S31x512_S1x512_5_0)) (View.ld u (Rect.unit (s := S544x512) ![392, 0] S40x512.size inb_S544x512_S40x512_392_0)) (View.ld w (Rect.unit (s := S31x512) ![13, 0] S1x512.size inb_S31x512_S1x512_13_0))) (View.ld u (Rect.unit (s := S544x512) ![400, 0] S40x512.size inb_S544x512_S40x512_400_0)) (View.ld w (Rect.unit (s := S31x512) ![21, 0] S1x512.size inb_S31x512_S1x512_21_0)) (View.ld u (Rect.unit (s := S544x512) ![408, 0] S40x512.size inb_S544x512_S40x512_408_0)) (View.ld w (Rect.unit (s := S31x512) ![29, 0] S1x512.size inb_S31x512_S1x512_29_0)))

/-- Rows 416 to 447 of the convolution of a block. -/
def blk13 (u : Vec F S544x512 .f32) (w : Vec F S31x512 .f32) (b : Vec F S1x512 .f32) : FVec F S32x512 .f32 :=
  (k0_pay213 (k0_pay212 (k0_pay211 (k0_pay210 (k0_pay208 (k0_pay205 (k0_pay203 (k0_pay201 b) (k0_pay202 (View.ld u (Rect.unit (s := S544x512) ![424, 0] S32x512.size inb_S544x512_S32x512_424_0)) (View.ld w (Rect.unit (s := S31x512) ![6, 0] S1x512.size inb_S31x512_S1x512_6_0)) (View.ld u (Rect.unit (s := S544x512) ![432, 0] S32x512.size inb_S544x512_S32x512_432_0)) (View.ld w (Rect.unit (s := S31x512) ![14, 0] S1x512.size inb_S31x512_S1x512_14_0))) (View.ld u (Rect.unit (s := S544x512) ![440, 0] S32x512.size inb_S544x512_S32x512_440_0)) (View.ld w (Rect.unit (s := S31x512) ![22, 0] S1x512.size inb_S31x512_S1x512_22_0)) (View.ld u (Rect.unit (s := S544x512) ![448, 0] S32x512.size inb_S544x512_S32x512_448_0)) (View.ld w (Rect.unit (s := S31x512) ![30, 0] S1x512.size inb_S31x512_S1x512_30_0))) (k0_pay204 (View.ld u (Rect.unit (s := S544x512) ![424, 0] S40x512.size inb_S544x512_S40x512_424_0)) (View.ld w (Rect.unit (s := S31x512) ![7, 0] S1x512.size inb_S31x512_S1x512_7_0)) (View.ld u (Rect.unit (s := S544x512) ![432, 0] S40x512.size inb_S544x512_S40x512_432_0)) (View.ld w (Rect.unit (s := S31x512) ![15, 0] S1x512.size inb_S31x512_S1x512_15_0))) (View.ld u (Rect.unit (s := S544x512) ![440, 0] S40x512.size inb_S544x512_S40x512_440_0)) (View.ld w (Rect.unit (s := S31x512) ![23, 0] S1x512.size inb_S31x512_S1x512_23_0))) (k0_pay206 (View.ld u (Rect.unit (s := S544x512) ![416, 0] S40x512.size inb_S544x512_S40x512_416_0)) (View.ld w (Rect.unit (s := S31x512) ![0, 0] S1x512.size inb_S31x512_S1x512_0_0)) (View.ld u (Rect.unit (s := S544x512) ![424, 0] S40x512.size inb_S544x512_S40x512_424_0)) (View.ld w (Rect.unit (s := S31x512) ![8, 0] S1x512.size inb_S31x512_S1x512_8_0)) (View.ld u (Rect.unit (s := S544x512) ![432, 0] S40x512.size inb_S544x512_S40x512_432_0)) (View.ld w (Rect.unit (s := S31x512) ![16, 0] S1x512.size inb_S31x512_S1x512_16_0))) (View.ld u (Rect.unit (s := S544x512) ![440, 0] S40x512.size inb_S544x512_S40x512_440_0)) (k0_pay207 (View.ld w (Rect.unit (s := S31x512) ![24, 0] S1x512.size inb_S31x512_S1x512_24_0)))) (k0_pay209 (View.ld u (Rect.unit (s := S544x512) ![416, 0] S40x512.size inb_S544x512_S40x512_416_0)) (View.ld w (Rect.unit (s := S31x512) ![1, 0] S1x512.size inb_S31x512_S1x512_1_0)) (View.ld u (Rect.unit (s := S544x512) ![424, 0] S40x512.size inb_S544x512_S40x512_424_0)) (View.ld w (Rect.unit (s := S31x512) ![9, 0] S1x512.size inb_S31x512_S1x512_9_0)) (View.ld u (Rect.unit (s := S544x512) ![432, 0] S40x512.size inb_S544x512_S40x512_432_0)) (View.ld w (Rect.unit (s := S31x512) ![17, 0] S1x512.size inb_S31x512_S1x512_17_0)) (View.ld u (Rect.unit (s := S544x512) ![440, 0] S40x512.size inb_S544x512_S40x512_440_0)) (View.ld w (Rect.unit (s := S31x512) ![25, 0] S1x512.size inb_S31x512_S1x512_25_0))) (View.ld u (Rect.unit (s := S544x512) ![416, 0] S40x512.size inb_S544x512_S40x512_416_0)) (View.ld w (Rect.unit (s := S31x512) ![2, 0] S1x512.size inb_S31x512_S1x512_2_0)) (View.ld u (Rect.unit (s := S544x512) ![424, 0] S40x512.size inb_S544x512_S40x512_424_0)) (View.ld w (Rect.unit (s := S31x512) ![10, 0] S1x512.size inb_S31x512_S1x512_10_0)) (View.ld u (Rect.unit (s := S544x512) ![432, 0] S40x512.size inb_S544x512_S40x512_432_0)) (View.ld w (Rect.unit (s := S31x512) ![18, 0] S1x512.size inb_S31x512_S1x512_18_0)) (View.ld u (Rect.unit (s := S544x512) ![440, 0] S40x512.size inb_S544x512_S40x512_440_0)) (View.ld w (Rect.unit (s := S31x512) ![26, 0] S1x512.size inb_S31x512_S1x512_26_0))) (View.ld u (Rect.unit (s := S544x512) ![416, 0] S40x512.size inb_S544x512_S40x512_416_0)) (View.ld w (Rect.unit (s := S31x512) ![3, 0] S1x512.size inb_S31x512_S1x512_3_0)) (View.ld u (Rect.unit (s := S544x512) ![424, 0] S40x512.size inb_S544x512_S40x512_424_0)) (View.ld w (Rect.unit (s := S31x512) ![11, 0] S1x512.size inb_S31x512_S1x512_11_0)) (View.ld u (Rect.unit (s := S544x512) ![432, 0] S40x512.size inb_S544x512_S40x512_432_0)) (View.ld w (Rect.unit (s := S31x512) ![19, 0] S1x512.size inb_S31x512_S1x512_19_0)) (View.ld u (Rect.unit (s := S544x512) ![440, 0] S40x512.size inb_S544x512_S40x512_440_0)) (View.ld w (Rect.unit (s := S31x512) ![27, 0] S1x512.size inb_S31x512_S1x512_27_0))) (View.ld u (Rect.unit (s := S544x512) ![416, 0] S40x512.size inb_S544x512_S40x512_416_0)) (View.ld w (Rect.unit (s := S31x512) ![4, 0] S1x512.size inb_S31x512_S1x512_4_0)) (View.ld u (Rect.unit (s := S544x512) ![424, 0] S40x512.size inb_S544x512_S40x512_424_0)) (View.ld w (Rect.unit (s := S31x512) ![12, 0] S1x512.size inb_S31x512_S1x512_12_0)) (View.ld u (Rect.unit (s := S544x512) ![432, 0] S40x512.size inb_S544x512_S40x512_432_0)) (View.ld w (Rect.unit (s := S31x512) ![20, 0] S1x512.size inb_S31x512_S1x512_20_0)) (View.ld u (Rect.unit (s := S544x512) ![440, 0] S40x512.size inb_S544x512_S40x512_440_0)) (View.ld w (Rect.unit (s := S31x512) ![28, 0] S1x512.size inb_S31x512_S1x512_28_0))) (View.ld u (Rect.unit (s := S544x512) ![416, 0] S40x512.size inb_S544x512_S40x512_416_0)) (View.ld w (Rect.unit (s := S31x512) ![5, 0] S1x512.size inb_S31x512_S1x512_5_0)) (View.ld u (Rect.unit (s := S544x512) ![424, 0] S40x512.size inb_S544x512_S40x512_424_0)) (View.ld w (Rect.unit (s := S31x512) ![13, 0] S1x512.size inb_S31x512_S1x512_13_0)) (View.ld u (Rect.unit (s := S544x512) ![432, 0] S40x512.size inb_S544x512_S40x512_432_0)) (View.ld w (Rect.unit (s := S31x512) ![21, 0] S1x512.size inb_S31x512_S1x512_21_0)) (View.ld u (Rect.unit (s := S544x512) ![440, 0] S40x512.size inb_S544x512_S40x512_440_0)) (View.ld w (Rect.unit (s := S31x512) ![29, 0] S1x512.size inb_S31x512_S1x512_29_0)))

/-- Rows 448 to 479 of the convolution of a block. -/
def blk14 (u : Vec F S544x512 .f32) (w : Vec F S31x512 .f32) (b : Vec F S1x512 .f32) : FVec F S32x512 .f32 :=
  (k0_pay229 (k0_pay227 (k0_pay225 (k0_pay223 (k0_pay221 (k0_pay219 (k0_pay216 (k0_pay215 (k0_pay214 b) (View.ld u (Rect.unit (s := S544x512) ![456, 0] S32x512.size inb_S544x512_S32x512_456_0)) (View.ld w (Rect.unit (s := S31x512) ![6, 0] S1x512.size inb_S31x512_S1x512_6_0)) (View.ld u (Rect.unit (s := S544x512) ![464, 0] S32x512.size inb_S544x512_S32x512_464_0)) (View.ld w (Rect.unit (s := S31x512) ![14, 0] S1x512.size inb_S31x512_S1x512_14_0)) (View.ld u (Rect.unit (s := S544x512) ![472, 0] S32x512.size inb_S544x512_S32x512_472_0)) (View.ld w (Rect.unit (s := S31x512) ![22, 0] S1x512.size inb_S31x512_S1x512_22_0)) (View.ld u (Rect.unit (s := S544x512) ![480, 0] S32x512.size inb_S544x512_S32x512_480_0)) (View.ld w (Rect.unit (s := S31x512) ![30, 0] S1x512.size inb_S31x512_S1x512_30_0))) (View.ld u (Rect.unit (s := S544x512) ![456, 0] S40x512.size inb_S544x512_S40x512_456_0)) (View.ld w (Rect.unit (s := S31x512) ![7, 0] S1x512.size inb_S31x512_S1x512_7_0)) (View.ld u (Rect.unit (s := S544x512) ![464, 0] S40x512.size inb_S544x512_S40x512_464_0)) (View.ld w (Rect.unit (s := S31x512) ![15, 0] S1x512.size inb_S31x512_S1x512_15_0)) (View.ld u (Rect.unit (s := S544x512) ![472, 0] S40x512.size inb_S544x512_S40x512_472_0)) (View.ld w (Rect.unit (s := S31x512) ![23, 0] S1x512.size inb_S31x512_S1x512_23_0))) (k0_pay217 (View.ld u (Rect.unit (s := S544x512) ![448, 0] S40x512.size inb_S544x512_S40x512_448_0)) (View.ld w (Rect.unit (s := S31x512) ![0, 0] S1x512.size inb_S31x512_S1x512_0_0))) (k0_pay218 (View.ld u (Rect.unit (s := S544x512) ![456, 0] S40x512.size inb_S544x512_S40x512_456_0)) (View.ld w (Rect.unit (s := S31x512) ![8, 0] S1x512.size inb_S31x512_S1x512_8_0))) (View.ld u (Rect.unit (s := S544x512) ![464, 0] S40x512.size inb_S544x512_S40x512_464_0)) (View.ld w (Rect.unit (s := S31x512) ![16, 0] S1x512.size inb_S31x512_S1x512_16_0)) (View.ld u (Rect.unit (s := S544x512) ![472, 0] S40x512.size inb_S544x512_S40x512_472_0)) (View.ld w (Rect.unit (s := S31x512) ![24, 0] S1x512.size inb_S31x512_S1x512_24_0))) (k0_pay220 (View.ld u (Rect.unit (s := S544x512) ![448, 0] S40x512.size inb_S544x512_S40x512_448_0)) (View.ld w (Rect.unit (s := S31x512) ![1, 0] S1x512.size inb_S31x512_S1x512_1_0)) (View.ld u (Rect.unit (s := S544x512) ![456, 0] S40x512.size inb_S544x512_S40x512_456_0)) (View.ld w (Rect.unit (s := S31x512) ![9, 0] S1x512.size inb_S31x512_S1x512_9_0))) (View.ld u (Rect.unit (s := S544x512) ![464, 0] S40x512.size inb_S544x512_S40x512_464_0)) (View.ld w (Rect.unit (s := S31x512) ![17, 0] S1x512.size inb_S31x512_S1x512_17_0)) (View.ld u (Rect.unit (s := S544x512) ![472, 0] S40x512.size inb_S544x512_S40x512_472_0)) (View.ld w (Rect.unit (s := S31x512) ![25, 0] S1x512.size inb_S31x512_S1x512_25_0))) (k0_pay222 (View.ld u (Rect.unit (s := S544x512) ![448, 0] S40x512.size inb_S544x512_S40x512_448_0)) (View.ld w (Rect.unit (s := S31x512) ![2, 0] S1x512.size inb_S31x512_S1x512_2_0)) (View.ld u (Rect.unit (s := S544x512) ![456, 0] S40x512.size inb_S544x512_S40x512_456_0)) (View.ld w (Rect.unit (s := S31x512) ![10, 0] S1x512.size inb_S31x512_S1x512_10_0))) (View.ld u (Rect.unit (s := S544x512) ![464, 0] S40x512.size inb_S544x512_S40x512_464_0)) (View.ld w (Rect.unit (s := S31x512) ![18, 0] S1x512.size inb_S31x512_S1x512_18_0)) (View.ld u (Rect.unit (s := S544x512) ![472, 0] S40x512.size inb_S544x512_S40x512_472_0)) (View.ld w (Rect.unit (s := S31x512) ![26, 0] S1x512.size inb_S31x512_S1x512_26_0))) (k0_pay224 (View.ld u (Rect.unit (s := S544x512) ![448, 0] S40x512.size inb_S544x512_S40x512_448_0)) (View.ld w (Rect.unit (s := S31x512) ![3, 0] S1x512.size inb_S31x512_S1x512_3_0)) (View.ld u (Rect.unit (s := S544x512) ![456, 0] S40x512.size inb_S544x512_S40x512_456_0)) (View.ld w (Rect.unit (s := S31x512) ![11, 0] S1x512.size inb_S31x512_S1x512_11_0))) (View.ld u (Rect.unit (s := S544x512) ![464, 0] S40x512.size inb_S544x512_S40x512_464_0)) (View.ld w (Rect.unit (s := S31x512) ![19, 0] S1x512.size inb_S31x512_S1x512_19_0)) (View.ld u (Rect.unit (s := S544x512) ![472, 0] S40x512.size inb_S544x512_S40x512_472_0)) (View.ld w (Rect.unit (s := S31x512) ![27, 0] S1x512.size inb_S31x512_S1x512_27_0))) (k0_pay226 (View.ld u (Rect.unit (s := S544x512) ![448, 0] S40x512.size inb_S544x512_S40x512_448_0)) (View.ld w (Rect.unit (s := S31x512) ![4, 0] S1x512.size inb_S31x512_S1x512_4_0)) (View.ld u (Rect.unit (s := S544x512) ![456, 0] S40x512.size inb_S544x512_S40x512_456_0)) (View.ld w (Rect.unit (s := S31x512) ![12, 0] S1x512.size inb_S31x512_S1x512_12_0))) (View.ld u (Rect.unit (s := S544x512) ![464, 0] S40x512.size inb_S544x512_S40x512_464_0)) (View.ld w (Rect.unit (s := S31x512) ![20, 0] S1x512.size inb_S31x512_S1x512_20_0)) (View.ld u (Rect.unit (s := S544x512) ![472, 0] S40x512.size inb_S544x512_S40x512_472_0)) (View.ld w (Rect.unit (s := S31x512) ![28, 0] S1x512.size inb_S31x512_S1x512_28_0))) (k0_pay228 (View.ld u (Rect.unit (s := S544x512) ![448, 0] S40x512.size inb_S544x512_S40x512_448_0)) (View.ld w (Rect.unit (s := S31x512) ![5, 0] S1x512.size inb_S31x512_S1x512_5_0)) (View.ld u (Rect.unit (s := S544x512) ![456, 0] S40x512.size inb_S544x512_S40x512_456_0)) (View.ld w (Rect.unit (s := S31x512) ![13, 0] S1x512.size inb_S31x512_S1x512_13_0)) (View.ld u (Rect.unit (s := S544x512) ![464, 0] S40x512.size inb_S544x512_S40x512_464_0)) (View.ld w (Rect.unit (s := S31x512) ![21, 0] S1x512.size inb_S31x512_S1x512_21_0))) (View.ld u (Rect.unit (s := S544x512) ![472, 0] S40x512.size inb_S544x512_S40x512_472_0)) (View.ld w (Rect.unit (s := S31x512) ![29, 0] S1x512.size inb_S31x512_S1x512_29_0)))

/-- Rows 480 to 511 of the convolution of a block. -/
def blk15 (u : Vec F S544x512 .f32) (w : Vec F S31x512 .f32) (b : Vec F S1x512 .f32) : FVec F S32x512 .f32 :=
  (k0_pay240 (k0_pay238 (k0_pay237 (k0_pay236 (k0_pay235 (k0_pay234 (k0_pay232 (k0_pay230 b) (k0_pay231 (View.ld u (Rect.unit (s := S544x512) ![488, 0] S32x512.size inb_S544x512_S32x512_488_0)) (View.ld w (Rect.unit (s := S31x512) ![6, 0] S1x512.size inb_S31x512_S1x512_6_0)) (View.ld u (Rect.unit (s := S544x512) ![496, 0] S32x512.size inb_S544x512_S32x512_496_0)) (View.ld w (Rect.unit (s := S31x512) ![14, 0] S1x512.size inb_S31x512_S1x512_14_0))) (View.ld u (Rect.unit (s := S544x512) ![504, 0] S32x512.size inb_S544x512_S32x512_504_0)) (View.ld w (Rect.unit (s := S31x512) ![22, 0] S1x512.size inb_S31x512_S1x512_22_0)) (View.ld u (Rect.unit (s := S544x512) ![512, 0] S32x512.size inb_S544x512_S32x512_512_0)) (View.ld w (Rect.unit (s := S31x512) ![30, 0] S1x512.size inb_S31x512_S1x512_30_0))) (k0_pay233 (View.ld u (Rect.unit (s := S544x512) ![488, 0] S40x512.size inb_S544x512_S40x512_488_0)) (View.ld w (Rect.unit (s := S31x512) ![7, 0] S1x512.size inb_S31x512_S1x512_7_0)) (View.ld u (Rect.unit (s := S544x512) ![496, 0] S40x512.size inb_S544x512_S40x512_496_0)) (View.ld w (Rect.unit (s := S31x512) ![15, 0] S1x512.size inb_S31x512_S1x512_15_0)) (View.ld u (Rect.unit (s := S544x512) ![504, 0] S40x512.size inb_S544x512_S40x512_504_0)) (View.ld w (Rect.unit (s := S31x512) ![23, 0] S1x512.size inb_S31x512_S1x512_23_0))) (View.ld u (Rect.unit (s := S544x512) ![480, 0] S40x512.size inb_S544x512_S40x512_480_0)) (View.ld w (Rect.unit (s := S31x512) ![0, 0] S1x512.size inb_S31x512_S1x512_0_0)) (View.ld u (Rect.unit (s := S544x512) ![488, 0] S40x512.size inb_S544x512_S40x512_488_0)) (View.ld w (Rect.unit (s := S31x512) ![8, 0] S1x512.size inb_S31x512_S1x512_8_0)) (View.ld u (Rect.unit (s := S544x512) ![496, 0] S40x512.size inb_S544x512_S40x512_496_0)) (View.ld w (Rect.unit (s := S31x512) ![16, 0] S1x512.size inb_S31x512_S1x512_16_0)) (View.ld u (Rect.unit (s := S544x512) ![504, 0] S40x512.size inb_S544x512_S40x512_504_0)) (View.ld w (Rect.unit (s := S31x512) ![24, 0] S1x512.size inb_S31x512_S1x512_24_0))) (View.ld u (Rect.unit (s := S544x512) ![480, 0] S40x512.size inb_S544x512_S40x512_480_0)) (View.ld w (Rect.unit (s := S31x512) ![1, 0] S1x512.size inb_S31x512_S1x512_1_0)) (View.ld u (Rect.unit (s := S544x512) ![488, 0] S40x512.size inb_S544x512_S40x512_488_0)) (View.ld w (Rect.unit (s := S31x512) ![9, 0] S1x512.size inb_S31x512_S1x512_9_0)) (View.ld u (Rect.unit (s := S544x512) ![496, 0] S40x512.size inb_S544x512_S40x512_496_0)) (View.ld w (Rect.unit (s := S31x512) ![17, 0] S1x512.size inb_S31x512_S1x512_17_0)) (View.ld u (Rect.unit (s := S544x512) ![504, 0] S40x512.size inb_S544x512_S40x512_504_0)) (View.ld w (Rect.unit (s := S31x512) ![25, 0] S1x512.size inb_S31x512_S1x512_25_0))) (View.ld u (Rect.unit (s := S544x512) ![480, 0] S40x512.size inb_S544x512_S40x512_480_0)) (View.ld w (Rect.unit (s := S31x512) ![2, 0] S1x512.size inb_S31x512_S1x512_2_0)) (View.ld u (Rect.unit (s := S544x512) ![488, 0] S40x512.size inb_S544x512_S40x512_488_0)) (View.ld w (Rect.unit (s := S31x512) ![10, 0] S1x512.size inb_S31x512_S1x512_10_0)) (View.ld u (Rect.unit (s := S544x512) ![496, 0] S40x512.size inb_S544x512_S40x512_496_0)) (View.ld w (Rect.unit (s := S31x512) ![18, 0] S1x512.size inb_S31x512_S1x512_18_0)) (View.ld u (Rect.unit (s := S544x512) ![504, 0] S40x512.size inb_S544x512_S40x512_504_0)) (View.ld w (Rect.unit (s := S31x512) ![26, 0] S1x512.size inb_S31x512_S1x512_26_0))) (View.ld u (Rect.unit (s := S544x512) ![480, 0] S40x512.size inb_S544x512_S40x512_480_0)) (View.ld w (Rect.unit (s := S31x512) ![3, 0] S1x512.size inb_S31x512_S1x512_3_0)) (View.ld u (Rect.unit (s := S544x512) ![488, 0] S40x512.size inb_S544x512_S40x512_488_0)) (View.ld w (Rect.unit (s := S31x512) ![11, 0] S1x512.size inb_S31x512_S1x512_11_0)) (View.ld u (Rect.unit (s := S544x512) ![496, 0] S40x512.size inb_S544x512_S40x512_496_0)) (View.ld w (Rect.unit (s := S31x512) ![19, 0] S1x512.size inb_S31x512_S1x512_19_0)) (View.ld u (Rect.unit (s := S544x512) ![504, 0] S40x512.size inb_S544x512_S40x512_504_0)) (View.ld w (Rect.unit (s := S31x512) ![27, 0] S1x512.size inb_S31x512_S1x512_27_0))) (View.ld u (Rect.unit (s := S544x512) ![480, 0] S40x512.size inb_S544x512_S40x512_480_0)) (View.ld w (Rect.unit (s := S31x512) ![4, 0] S1x512.size inb_S31x512_S1x512_4_0)) (View.ld u (Rect.unit (s := S544x512) ![488, 0] S40x512.size inb_S544x512_S40x512_488_0)) (View.ld w (Rect.unit (s := S31x512) ![12, 0] S1x512.size inb_S31x512_S1x512_12_0)) (View.ld u (Rect.unit (s := S544x512) ![496, 0] S40x512.size inb_S544x512_S40x512_496_0)) (View.ld w (Rect.unit (s := S31x512) ![20, 0] S1x512.size inb_S31x512_S1x512_20_0)) (View.ld u (Rect.unit (s := S544x512) ![504, 0] S40x512.size inb_S544x512_S40x512_504_0)) (View.ld w (Rect.unit (s := S31x512) ![28, 0] S1x512.size inb_S31x512_S1x512_28_0))) (k0_pay239 (View.ld u (Rect.unit (s := S544x512) ![480, 0] S40x512.size inb_S544x512_S40x512_480_0)) (View.ld w (Rect.unit (s := S31x512) ![5, 0] S1x512.size inb_S31x512_S1x512_5_0))) (View.ld u (Rect.unit (s := S544x512) ![488, 0] S40x512.size inb_S544x512_S40x512_488_0)) (View.ld w (Rect.unit (s := S31x512) ![13, 0] S1x512.size inb_S31x512_S1x512_13_0)) (View.ld u (Rect.unit (s := S544x512) ![496, 0] S40x512.size inb_S544x512_S40x512_496_0)) (View.ld w (Rect.unit (s := S31x512) ![21, 0] S1x512.size inb_S31x512_S1x512_21_0)) (View.ld u (Rect.unit (s := S544x512) ![504, 0] S40x512.size inb_S544x512_S40x512_504_0)) (View.ld w (Rect.unit (s := S31x512) ![29, 0] S1x512.size inb_S31x512_S1x512_29_0)))

/-- Attention head 0 of a block, gated. -/
def head0 (q g : Vec F S1x512x512 .f32) (k v : Vec F S256x512 .f32) : FVec F S512x128 .bf16 :=
  (k0_pay247 (k0_pay246 (View.ld q (Rect.unit (s := S1x512x512) ![0, 0, 0] S1x512x128.size inb_S1x512x512_S1x512x128_0_0_0)) (View.ld k (Rect.unit (s := S256x512) ![0, 0] S256x128.size inb_S256x512_S256x128_0_0))) (View.ld v (Rect.unit (s := S256x512) ![0, 0] S256x128.size inb_S256x512_S256x128_0_0)) (View.ld g (Rect.unit (s := S1x512x512) ![0, 0, 0] S1x512x128.size inb_S1x512x512_S1x512x128_0_0_0)))

/-- Attention head 1 of a block, gated. -/
def head1 (q g : Vec F S1x512x512 .f32) (k v : Vec F S256x512 .f32) : FVec F S512x128 .bf16 :=
  (k0_pay249 (k0_pay248 (View.ld q (Rect.unit (s := S1x512x512) ![0, 0, 128] S1x512x128.size inb_S1x512x512_S1x512x128_0_0_128)) (View.ld k (Rect.unit (s := S256x512) ![0, 128] S256x128.size inb_S256x512_S256x128_0_128))) (View.ld v (Rect.unit (s := S256x512) ![0, 128] S256x128.size inb_S256x512_S256x128_0_128)) (View.ld g (Rect.unit (s := S1x512x512) ![0, 0, 128] S1x512x128.size inb_S1x512x512_S1x512x128_0_0_128)))

/-- Attention head 2 of a block, gated. -/
def head2 (q g : Vec F S1x512x512 .f32) (k v : Vec F S256x512 .f32) : FVec F S512x128 .bf16 :=
  (k0_pay251 (k0_pay250 (View.ld q (Rect.unit (s := S1x512x512) ![0, 0, 256] S1x512x128.size inb_S1x512x512_S1x512x128_0_0_256)) (View.ld k (Rect.unit (s := S256x512) ![0, 256] S256x128.size inb_S256x512_S256x128_0_256))) (View.ld v (Rect.unit (s := S256x512) ![0, 256] S256x128.size inb_S256x512_S256x128_0_256)) (View.ld g (Rect.unit (s := S1x512x512) ![0, 0, 256] S1x512x128.size inb_S1x512x512_S1x512x128_0_0_256)))

/-- Attention head 3 of a block, gated. -/
def head3 (q g : Vec F S1x512x512 .f32) (k v : Vec F S256x512 .f32) : FVec F S512x128 .bf16 :=
  (k0_pay253 (k0_pay252 (View.ld q (Rect.unit (s := S1x512x512) ![0, 0, 384] S1x512x128.size inb_S1x512x512_S1x512x128_0_0_384)) (View.ld k (Rect.unit (s := S256x512) ![0, 384] S256x128.size inb_S256x512_S256x128_0_384))) (View.ld v (Rect.unit (s := S256x512) ![0, 384] S256x128.size inb_S256x512_S256x128_0_384)) (View.ld g (Rect.unit (s := S1x512x512) ![0, 0, 384] S1x512x128.size inb_S1x512x512_S1x512x128_0_0_384)))

/-- The convolution of a block, normalised, activated, multiplied and gated. -/
def conved (u : Vec F S544x512 .f32) (w : Vec F S31x512 .f32) (b lg lb : Vec F S1x512 .f32) (p : Vec F S1x512x512 .bf16) (g : Vec F S1x512x512 .f32) : FVec F S512x512 .bf16 :=
  k0_pay245 (k0_pay243 (blk0 u w b) (blk1 u w b) (blk2 u w b) (blk3 u w b) (blk4 u w b) (blk5 u w b) (blk6 u w b) (blk7 u w b) (blk8 u w b) (blk9 u w b) (blk10 u w b) (blk11 u w b) (blk12 u w b) (blk13 u w b) (blk14 u w b) (blk15 u w b) lg lb) p g

/-- The gated row that goes into the output matrix: the attention, the convolution, the four memory heads. -/
def mixed (a ga : Vec F S1x512x1024 .f32) (u : Vec F S544x512 .f32) (w : Vec F S31x512 .f32) (b lg lb : Vec F S1x512 .f32) (p : Vec F S1x512x512 .bf16)
    (g q gm : Vec F S1x512x512 .f32) (k v : Vec F S256x512 .f32) : Vec F S512x2048 .bf16 :=
  View.canon (Val := Elt F) (s := S512x2048) (e := .bf16) [⟨Rect.unit (s := S512x2048) ![0, 1920] S512x128.size inb_S512x2048_S512x128_0_1920, head3 q gm k v⟩,
    ⟨Rect.unit (s := S512x2048) ![0, 1792] S512x128.size inb_S512x2048_S512x128_0_1792, head2 q gm k v⟩,
    ⟨Rect.unit (s := S512x2048) ![0, 1664] S512x128.size inb_S512x2048_S512x128_0_1664, head1 q gm k v⟩,
    ⟨Rect.unit (s := S512x2048) ![0, 1536] S512x128.size inb_S512x2048_S512x128_0_1536, head0 q gm k v⟩,
    ⟨Rect.unit (s := S512x2048) ![0, 1024] S512x512.size inb_S512x2048_S512x512_0_1024, conved u w b lg lb p g⟩,
    ⟨Rect.unit (s := S512x2048) ![0, 0] S512x1024.size inb_S512x2048_S512x1024_0_0, k0_pay244 a ga⟩]

/-- The output block. -/
def outOf (m : Vec F S512x2048 .bf16) (wo : Vec F S1x2048x2048 .bf16) (gp : Vec F S1x2048 .f32) (x : Vec F S1x512x2048 .f32) : FVec F S1x512x2048 .f32 :=
  k0_pay1 (k0_pay254 m wo) (k0_pay255 m wo) gp x

end Cert.MixIdeal.Hand

end
-- ==== Proof.MixConv.lean ====
module

public import proofs.«01_k».proof.Proof.MixModel
public import Idealize.ShloMosaic.Lib.Pointwise
public import Idealize.ShloMosaic.Lib.Pipeline.Value

/-!
The convolution of a block, entry by entry: thirty-one products and the bias.
-/

@[expose] public section

set_option maxRecDepth 16384

noncomputable section

namespace Cert.MixIdeal.Hand

open Cert.MixIdeal Cert.MixIdeal.Gen
open Idealize.ShloMosaic Idealize.ShloMosaic.TcCoe
open Idealize.SL.Sem
open scoped BigOperators

/-- A column of the extended inputs by its row number. -/
def colOf (u : Vec Ideal S544x512 .f32) (k : Fin 512) (n : ℕ) : EReal := if h : n < 544 then u (ix2 (n0 := 544) (n1 := 512) ⟨n, h⟩ k) else 0

/-- A column of the taps by its row number. -/
def tapOf (w : Vec Ideal S31x512 .f32) (k : Fin 512) (n : ℕ) : EReal := if h : n < 31 then w (ix2 (n0 := 31) (n1 := 512) ⟨n, h⟩ k) else 0

theorem col_eq (u : Vec Ideal S544x512 .f32) (k : Fin 512) (n : ℕ) (h : n < 544) : (u (ix2 (n0 := 544) (n1 := 512) ⟨n, h⟩ k) : EReal) = colOf u k n := by
  unfold colOf; rw [dif_pos h]

theorem tap_eq (w : Vec Ideal S31x512 .f32) (k : Fin 512) (n : Fin 31) : (w (ix2 (n0 := 31) (n1 := 512) n k) : EReal) = tapOf w k n.val := by
  unfold tapOf; rw [dif_pos n.isLt]

/-- Thirty-one products and the bias. -/
def cv (U W : ℕ → EReal) (b : EReal) (n : ℕ) : EReal := (∑ t ∈ Finset.range 31, U (t + n) * W t) + b

/-- Piece 0: the rows from 0. -/
theorem blk0_apply (u : Vec Ideal S544x512 .f32) (w : Vec Ideal S31x512 .f32) (b : Vec Ideal S1x512 .f32) (r : Fin 32) (k : Fin 512) :
    (blk0 u w b (ix2 r k) : EReal) = cv (colOf u k) (tapOf w k) (b (ix2 0 k)) (2 + r.val) := by
  unfold blk0 cv
  pointwise [k0_pay4, k0_pay5, k0_pay6, k0_pay7, k0_pay8, k0_pay9, k0_pay10, k0_pay11, k0_pay12, k0_pay13, k0_pay14, k0_pay15, k0_pay16, k0_pay17, k0_pay18, k0_pay19]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 1: the rows from 32. -/
theorem blk1_apply (u : Vec Ideal S544x512 .f32) (w : Vec Ideal S31x512 .f32) (b : Vec Ideal S1x512 .f32) (r : Fin 32) (k : Fin 512) :
    (blk1 u w b (ix2 r k) : EReal) = cv (colOf u k) (tapOf w k) (b (ix2 0 k)) (34 + r.val) := by
  unfold blk1 cv
  pointwise [k0_pay20, k0_pay21, k0_pay22, k0_pay23, k0_pay24, k0_pay25, k0_pay26, k0_pay27, k0_pay28, k0_pay29, k0_pay30, k0_pay31, k0_pay32, k0_pay33, k0_pay34]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 2: the rows from 64. -/
theorem blk2_apply (u : Vec Ideal S544x512 .f32) (w : Vec Ideal S31x512 .f32) (b : Vec Ideal S1x512 .f32) (r : Fin 32) (k : Fin 512) :
    (blk2 u w b (ix2 r k) : EReal) = cv (colOf u k) (tapOf w k) (b (ix2 0 k)) (66 + r.val) := by
  unfold blk2 cv
  pointwise [k0_pay35, k0_pay36, k0_pay37, k0_pay38, k0_pay39, k0_pay40, k0_pay41, k0_pay42, k0_pay43, k0_pay44, k0_pay45, k0_pay46, k0_pay47, k0_pay48]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 3: the rows from 96. -/
theorem blk3_apply (u : Vec Ideal S544x512 .f32) (w : Vec Ideal S31x512 .f32) (b : Vec Ideal S1x512 .f32) (r : Fin 32) (k : Fin 512) :
    (blk3 u w b (ix2 r k) : EReal) = cv (colOf u k) (tapOf w k) (b (ix2 0 k)) (98 + r.val) := by
  unfold blk3 cv
  pointwise [k0_pay49, k0_pay50, k0_pay51, k0_pay52, k0_pay53, k0_pay54, k0_pay55, k0_pay56, k0_pay57, k0_pay58, k0_pay59, k0_pay60, k0_pay61, k0_pay62, k0_pay63, k0_pay64]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 4: the rows from 128. -/
theorem blk4_apply (u : Vec Ideal S544x512 .f32) (w : Vec Ideal S31x512 .f32) (b : Vec Ideal S1x512 .f32) (r : Fin 32) (k : Fin 512) :
    (blk4 u w b (ix2 r k) : EReal) = cv (colOf u k) (tapOf w k) (b (ix2 0 k)) (130 + r.val) := by
  unfold blk4 cv
  pointwise [k0_pay65, k0_pay66, k0_pay67, k0_pay68, k0_pay69, k0_pay70, k0_pay71, k0_pay72, k0_pay73, k0_pay74, k0_pay75, k0_pay76]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 5: the rows from 160. -/
theorem blk5_apply (u : Vec Ideal S544x512 .f32) (w : Vec Ideal S31x512 .f32) (b : Vec Ideal S1x512 .f32) (r : Fin 32) (k : Fin 512) :
    (blk5 u w b (ix2 r k) : EReal) = cv (colOf u k) (tapOf w k) (b (ix2 0 k)) (162 + r.val) := by
  unfold blk5 cv
  pointwise [k0_pay77, k0_pay78, k0_pay79, k0_pay80, k0_pay81, k0_pay82, k0_pay83, k0_pay84, k0_pay85, k0_pay86, k0_pay87, k0_pay88, k0_pay89, k0_pay90, k0_pay91, k0_pay92]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 6: the rows from 192. -/
theorem blk6_apply (u : Vec Ideal S544x512 .f32) (w : Vec Ideal S31x512 .f32) (b : Vec Ideal S1x512 .f32) (r : Fin 32) (k : Fin 512) :
    (blk6 u w b (ix2 r k) : EReal) = cv (colOf u k) (tapOf w k) (b (ix2 0 k)) (194 + r.val) := by
  unfold blk6 cv
  pointwise [k0_pay93, k0_pay94, k0_pay95, k0_pay96, k0_pay97, k0_pay98, k0_pay99, k0_pay100, k0_pay101, k0_pay102, k0_pay103]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 7: the rows from 224. -/
theorem blk7_apply (u : Vec Ideal S544x512 .f32) (w : Vec Ideal S31x512 .f32) (b : Vec Ideal S1x512 .f32) (r : Fin 32) (k : Fin 512) :
    (blk7 u w b (ix2 r k) : EReal) = cv (colOf u k) (tapOf w k) (b (ix2 0 k)) (226 + r.val) := by
  unfold blk7 cv
  pointwise [k0_pay104, k0_pay105, k0_pay106, k0_pay107, k0_pay108, k0_pay109, k0_pay110, k0_pay111, k0_pay112, k0_pay113, k0_pay114, k0_pay115, k0_pay116, k0_pay117, k0_pay118, k0_pay119, k0_pay120]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 8: the rows from 256. -/
theorem blk8_apply (u : Vec Ideal S544x512 .f32) (w : Vec Ideal S31x512 .f32) (b : Vec Ideal S1x512 .f32) (r : Fin 32) (k : Fin 512) :
    (blk8 u w b (ix2 r k) : EReal) = cv (colOf u k) (tapOf w k) (b (ix2 0 k)) (258 + r.val) := by
  unfold blk8 cv
  pointwise [k0_pay121, k0_pay122, k0_pay123, k0_pay124, k0_pay125, k0_pay126, k0_pay127, k0_pay128, k0_pay129, k0_pay130, k0_pay131, k0_pay132, k0_pay133]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 9: the rows from 288. -/
theorem blk9_apply (u : Vec Ideal S544x512 .f32) (w : Vec Ideal S31x512 .f32) (b : Vec Ideal S1x512 .f32) (r : Fin 32) (k : Fin 512) :
    (blk9 u w b (ix2 r k) : EReal) = cv (colOf u k) (tapOf w k) (b (ix2 0 k)) (290 + r.val) := by
  unfold blk9 cv
  pointwise [k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 10: the rows from 320. -/
theorem blk10_apply (u : Vec Ideal S544x512 .f32) (w : Vec Ideal S31x512 .f32) (b : Vec Ideal S1x512 .f32) (r : Fin 32) (k : Fin 512) :
    (blk10 u w b (ix2 r k) : EReal) = cv (colOf u k) (tapOf w k) (b (ix2 0 k)) (322 + r.val) := by
  unfold blk10 cv
  pointwise [k0_pay152, k0_pay153, k0_pay154, k0_pay155, k0_pay156, k0_pay157, k0_pay158, k0_pay159, k0_pay160, k0_pay161, k0_pay162, k0_pay163, k0_pay164, k0_pay165, k0_pay166, k0_pay167, k0_pay168]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 11: the rows from 352. -/
theorem blk11_apply (u : Vec Ideal S544x512 .f32) (w : Vec Ideal S31x512 .f32) (b : Vec Ideal S1x512 .f32) (r : Fin 32) (k : Fin 512) :
    (blk11 u w b (ix2 r k) : EReal) = cv (colOf u k) (tapOf w k) (b (ix2 0 k)) (354 + r.val) := by
  unfold blk11 cv
  pointwise [k0_pay169, k0_pay170, k0_pay171, k0_pay172, k0_pay173, k0_pay174, k0_pay175, k0_pay176, k0_pay177, k0_pay178, k0_pay179, k0_pay180, k0_pay181, k0_pay182, k0_pay183, k0_pay184]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 12: the rows from 384. -/
theorem blk12_apply (u : Vec Ideal S544x512 .f32) (w : Vec Ideal S31x512 .f32) (b : Vec Ideal S1x512 .f32) (r : Fin 32) (k : Fin 512) :
    (blk12 u w b (ix2 r k) : EReal) = cv (colOf u k) (tapOf w k) (b (ix2 0 k)) (386 + r.val) := by
  unfold blk12 cv
  pointwise [k0_pay185, k0_pay186, k0_pay187, k0_pay188, k0_pay189, k0_pay190, k0_pay191, k0_pay192, k0_pay193, k0_pay194, k0_pay195, k0_pay196, k0_pay197, k0_pay198, k0_pay199, k0_pay200]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 13: the rows from 416. -/
theorem blk13_apply (u : Vec Ideal S544x512 .f32) (w : Vec Ideal S31x512 .f32) (b : Vec Ideal S1x512 .f32) (r : Fin 32) (k : Fin 512) :
    (blk13 u w b (ix2 r k) : EReal) = cv (colOf u k) (tapOf w k) (b (ix2 0 k)) (418 + r.val) := by
  unfold blk13 cv
  pointwise [k0_pay201, k0_pay202, k0_pay203, k0_pay204, k0_pay205, k0_pay206, k0_pay207, k0_pay208, k0_pay209, k0_pay210, k0_pay211, k0_pay212, k0_pay213]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 14: the rows from 448. -/
theorem blk14_apply (u : Vec Ideal S544x512 .f32) (w : Vec Ideal S31x512 .f32) (b : Vec Ideal S1x512 .f32) (r : Fin 32) (k : Fin 512) :
    (blk14 u w b (ix2 r k) : EReal) = cv (colOf u k) (tapOf w k) (b (ix2 0 k)) (450 + r.val) := by
  unfold blk14 cv
  pointwise [k0_pay214, k0_pay215, k0_pay216, k0_pay217, k0_pay218, k0_pay219, k0_pay220, k0_pay221, k0_pay222, k0_pay223, k0_pay224, k0_pay225, k0_pay226, k0_pay227, k0_pay228, k0_pay229]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- Piece 15: the rows from 480. -/
theorem blk15_apply (u : Vec Ideal S544x512 .f32) (w : Vec Ideal S31x512 .f32) (b : Vec Ideal S1x512 .f32) (r : Fin 32) (k : Fin 512) :
    (blk15 u w b (ix2 r k) : EReal) = cv (colOf u k) (tapOf w k) (b (ix2 0 k)) (482 + r.val) := by
  unfold blk15 cv
  pointwise [k0_pay230, k0_pay231, k0_pay232, k0_pay233, k0_pay234, k0_pay235, k0_pay236, k0_pay237, k0_pay238, k0_pay239, k0_pay240]
  simp only [col_eq, tap_eq, Finset.sum_range_succ, Finset.sum_range_zero, zero_add]
  simp only [← Nat.add_assoc, Nat.reduceAdd, Nat.zero_add]
  obtain ⟨cr, hcr⟩ : ∃ cr : ℕ → EReal, ∀ n, colOf u k (n + r.val) = cr n := ⟨_, fun _ => rfl⟩
  simp only [hcr]
  ac_rfl

/-- The sixteen pieces. -/
def pieces (u : Vec Ideal S544x512 .f32) (w : Vec Ideal S31x512 .f32) (b : Vec Ideal S1x512 .f32) : Fin 16 → S32x512.Idx → EReal :=
  ![blk0 u w b, blk1 u w b, blk2 u w b, blk3 u w b, blk4 u w b, blk5 u w b, blk6 u w b, blk7 u w b, blk8 u w b, blk9 u w b, blk10 u w b, blk11 u w b, blk12 u w b, blk13 u w b, blk14 u w b, blk15 u w b]

theorem pieces_apply (u : Vec Ideal S544x512 .f32) (w : Vec Ideal S31x512 .f32) (b : Vec Ideal S1x512 .f32) (n : Fin 16) (r : Fin 32) (k : Fin 512) :
    pieces u w b n (ix2 r k) = cv (colOf u k) (tapOf w k) (b (ix2 0 k)) (32 * n.val + 2 + r.val) := by
  fin_cases n
  · exact blk0_apply u w b r k
  · exact blk1_apply u w b r k
  · exact blk2_apply u w b r k
  · exact blk3_apply u w b r k
  · exact blk4_apply u w b r k
  · exact blk5_apply u w b r k
  · exact blk6_apply u w b r k
  · exact blk7_apply u w b r k
  · exact blk8_apply u w b r k
  · exact blk9_apply u w b r k
  · exact blk10_apply u w b r k
  · exact blk11_apply u w b r k
  · exact blk12_apply u w b r k
  · exact blk13_apply u w b r k
  · exact blk14_apply u w b r k
  · exact blk15_apply u w b r k

/-- The convolution of a block. -/
def cblock (u : Vec Ideal S544x512 .f32) (w : Vec Ideal S31x512 .f32) (b : Vec Ideal S1x512 .f32) : FVec Ideal S512x512 .f32 := fun j =>
  cv (colOf u (j 1)) (tapOf w (j 1)) (b (ix2 0 (j 1))) (2 + (j 0).val)

theorem concat_eq (u : Vec Ideal S544x512 .f32) (w : Vec Ideal S31x512 .f32) (b : Vec Ideal S1x512 .f32) :
    (concatenate S512x512 0 [⟨S32x512, blk0 u w b⟩, ⟨S32x512, blk1 u w b⟩, ⟨S32x512, blk2 u w b⟩, ⟨S32x512, blk3 u w b⟩, ⟨S32x512, blk4 u w b⟩, ⟨S32x512, blk5 u w b⟩, ⟨S32x512, blk6 u w b⟩, ⟨S32x512, blk7 u w b⟩, ⟨S32x512, blk8 u w b⟩, ⟨S32x512, blk9 u w b⟩, ⟨S32x512, blk10 u w b⟩, ⟨S32x512, blk11 u w b⟩, ⟨S32x512, blk12 u w b⟩, ⟨S32x512, blk13 u w b⟩, ⟨S32x512, blk14 u w b⟩, ⟨S32x512, blk15 u w b⟩] concatenates_S32x512_S32x512_S32x512_S32x512_S32x512_S32x512_S32x512_S32x512_S32x512_S32x512_S32x512_S32x512_S32x512_S32x512_S32x512_S32x512_S512x512_d0 : FVec Ideal S512x512 .f32) = cblock u w b := by
  funext j
  have h0 : (j 0).val < 512 := (j 0).isLt
  refine (concatenate_ofFn_apply (t := S512x512) (s₁ := S32x512) 0 (pieces u w b) _ rfl 32 rfl j ⟨(j 0).val / 32, by omega⟩ rfl
    (ix2 (n0 := 32) (n1 := 512) ⟨(j 0).val % 32, by omega⟩ (j 1)) rfl ?_).trans ?_
  · intro a ha
    match a with
    | ⟨0, _⟩ => exact absurd rfl ha
    | ⟨1, _⟩ => rfl
  · refine (pieces_apply u w b _ _ _).trans ?_
    unfold cblock
    congr 1
    show 32 * ((j 0).val / 32) + 2 + (j 0).val % 32 = _
    omega

/-- The rows of a block normalised, scaled and activated. -/
def normd {F : FTy → Type} [FloatOps F] (x : FVec F S512x512 .f32) (v3695 v3699 : Vec F S1x512 .f32) : FVec F S512x512 .bf16 :=
  have v3677 : FVec F S512 .f32 := multiReduction .add [1] S512 x 0x00000000#32 reduces_S512x512_S512 (.inl rfl) rfl
  have v3678 : FVec F S512x1 .f32 := shapeCast S512x1 v3677 shapeCasts_S512_S512x1
  have cst_3441 : F .f32 := Scalar.ofBits .f32 0x44000000#32
  have v3679 : FVec F S512x1 .f32 := broadcast S512x1 cst_3441
  have v3680 : FVec F S512x1 .f32 := divf v3678 v3679
  have v3681 : FVec F S512x512 .f32 := broadcastTo S512x512 v3680 broadcasts_S512x1_S512x512
  have v3682 : FVec F S512x512 .f32 := subf x v3681
  have v3683 : FVec F S512x512 .f32 := mulf v3682 v3682
  have v3684 : FVec F S512 .f32 := multiReduction .add [1] S512 v3683 0x00000000#32 reduces_S512x512_S512 (.inl rfl) rfl
  have v3685 : FVec F S512x1 .f32 := shapeCast S512x1 v3684 shapeCasts_S512_S512x1
  have cst_3443 : F .f32 := Scalar.ofBits .f32 0x44000000#32
  have v3686 : FVec F S512x1 .f32 := broadcast S512x1 cst_3443
  have v3687 : FVec F S512x1 .f32 := divf v3685 v3686
  have v3688 : FVec F S512x512 .f32 := broadcastTo S512x512 v3680 broadcasts_S512x1_S512x512
  have v3689 : FVec F S512x512 .f32 := subf x v3688
  have cst_3444 : F .f32 := Scalar.ofBits .f32 0x358637BD#32
  have v3690 : FVec F S512x1 .f32 := broadcast S512x1 cst_3444
  have v3691 : FVec F S512x1 .f32 := addf v3687 v3690
  have v3692 : FVec F S512x1 .f32 := rsqrt v3691
  have v3693 : FVec F S512x512 .f32 := broadcastTo S512x512 v3692 broadcasts_S512x1_S512x512
  have v3694 : FVec F S512x512 .f32 := mulf v3689 v3693
  have v3696 : FVec F S1x512 .f32 := shapeCast S1x512 v3695 shapeCasts_S1x512_S1x512
  have v3697 : FVec F S512x512 .f32 := broadcastTo S512x512 v3696 broadcasts_S1x512_S512x512
  have v3698 : FVec F S512x512 .f32 := mulf v3694 v3697
  have v3700 : FVec F S1x512 .f32 := shapeCast S1x512 v3699 shapeCasts_S1x512_S1x512
  have v3701 : FVec F S512x512 .f32 := broadcastTo S512x512 v3700 broadcasts_S1x512_S512x512
  have v3702 : FVec F S512x512 .f32 := addf v3698 v3701
  have v3703 : FVec F S512x512 .f32 := logistic v3702
  have v3704 : FVec F S512x512 .f32 := mulf v3702 v3703
  have v3705 : FVec F S512x512 .bf16 := truncf .bf16 v3704 bitsLt_bf16_f32
  v3705

theorem conved_eq (u : Vec Ideal S544x512 .f32) (w : Vec Ideal S31x512 .f32) (b lg lb : Vec Ideal S1x512 .f32) (p : Vec Ideal S1x512x512 .bf16) (g : Vec Ideal S1x512x512 .f32) :
    conved u w b lg lb p g = k0_pay245 (normd (cblock u w b) lg lb) p g := by
  rw [← concat_eq]; rfl

end Cert.MixIdeal.Hand

end
-- ==== Proof.MixBase.lean ====
module

public import proofs.«01_k».proof.Proof.Gen.MixIdeal.Frame
public import proofs.«01_k».proof.Proof.Gen.MixIdeal.Skeleton
public import proofs.«01_k».proof.Proof.Gen.MixIdeal.Points
public import Idealize.ShloMosaic.Lib.Pipeline.Value

/-!
The mixer's body: the terms and lemmas its two runs share.
-/

@[expose] public section

set_option maxRecDepth 65536

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first row block: the halo is loaded. -/
abbrev first (i : grid0.Coords) : Prop :=
  (Scalar.cmpi .ne (Scalar.extui (Scalar.cmpi .eq (BitVec.ofNat 32 (i 1).val) 0#32)) 0#32) = 1#1

/-- One store through the whole rectangle leaves its payload, whatever was there. -/
theorem read_store {sp : Space} {S : Shape} {e : EltTy} (v : View sig .tc sp S e) (f : v.ty.Contents (Elt F)) {off : Fin S.rank → ℕ}
    (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ fun y => ⟨_, List.mem_singleton_self _, View.mem_set_unit_zero hz inb y⟩]
  exact View.canon_unit_zero hz inb w

theorem zero2 : (![0, 0] : Fin 2 → ℕ) = fun _ => 0 := by funext a; fin_cases a <;> rfl
theorem zero3 : (![0, 0, 0] : Fin 3 → ℕ) = fun _ => 0 := by funext a; fin_cases a <;> rfl

end Cert.MixIdeal.Hand

end
-- ==== Proof.MixRunLater.lean ====
module

public import proofs.«01_k».proof.Proof.Gen.MixIdeal.Frame
public import proofs.«01_k».proof.Proof.Gen.MixIdeal.Skeleton
public import proofs.«01_k».proof.Proof.Gen.MixIdeal.Points
public import Idealize.ShloMosaic.Lib.Pipeline.Value
public import proofs.«01_k».proof.Proof.MixBase

/-!
The body at a later row block of a sequence: the first rows of the scratch are those the block before left.
-/

@[expose] public section

set_option maxRecDepth 65536

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The run at a later row block: the output block, the state and the scratch it leaves. -/
def runLater (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : ¬first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (xs : Vec F S1x544x512 .f32) :
    Σ' (o : List (View.Piece (Elt F) S1x512x2048 .f32)) (q : List (View.Piece (Elt F) S1x30x512 .f32)), { s : Vec F S1x544x512 .f32 // ∀ (E : Set ℕ) (K : PUnit → sProp 𝕄),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ ((Memref.whole cc0_scratch0 : Memref sig .tc .vmem S1x544x512 .f32).view.loc (c : Thread nD τ) ↦{fullShare} xs) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ f, arg20.view.loc (c : Thread nD τ) ↦[arg20.view.set]{fullShare} arg20.view.writes (Elt F) f o) ∗ (∃ f, arg21.view.loc (c : Thread nD τ) ↦[arg21.view.set]{fullShare} arg21.view.writes (Elt F) f q) ∗ ((Memref.whole cc0_scratch0 : Memref sig .tc .vmem S1x544x512 .f32).view.loc (c : Thread nD τ) ↦{fullShare} s) ∗ (∃ d, owns (c : Thread nD τ) arg23 fullShare d)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole cc0_scratch0) (Memref.isWhole_whole cc0_scratch0) arg23 harg23) K } := by
  refine ⟨?_, ?_, ?_, fun E K => ?run⟩
  case run =>
  rw [cc0_mix_eq_skeleton]; unfold cc0_mix_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, H22, ⟨%d23, %f23, -, H23⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  sl_exec (disch := first | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]; · iexists _; iexact H20
  isplitl [H21]; · iexists _; iexact H21
  isplitl [H22]
  · iexact H22
  · iexists _; iexists _; isplitr
    swap; · iexact H23
    ipureintro; rfl

end Cert.MixIdeal.Hand

end
-- ==== Proof.MixRunFirst.lean ====
module

public import proofs.«01_k».proof.Proof.Gen.MixIdeal.Frame
public import proofs.«01_k».proof.Proof.Gen.MixIdeal.Skeleton
public import proofs.«01_k».proof.Proof.Gen.MixIdeal.Points
public import Idealize.ShloMosaic.Lib.Pipeline.Value
public import proofs.«01_k».proof.Proof.MixBase

/-!
The body at the first row block of a sequence: the first rows of the scratch take the given halo.
-/

@[expose] public section

set_option maxRecDepth 65536

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The run at the first row block: the output block, the state and the scratch it leaves. -/
def runFirst (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (xs : Vec F S1x544x512 .f32) :
    Σ' (o : List (View.Piece (Elt F) S1x512x2048 .f32)) (q : List (View.Piece (Elt F) S1x30x512 .f32)), { s : Vec F S1x544x512 .f32 // ∀ (E : Set ℕ) (K : PUnit → sProp 𝕄),
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ ((Memref.whole cc0_scratch0 : Memref sig .tc .vmem S1x544x512 .f32).view.loc (c : Thread nD τ) ↦{fullShare} xs) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ f, arg20.view.loc (c : Thread nD τ) ↦[arg20.view.set]{fullShare} arg20.view.writes (Elt F) f o) ∗ (∃ f, arg21.view.loc (c : Thread nD τ) ↦[arg21.view.set]{fullShare} arg21.view.writes (Elt F) f q) ∗ ((Memref.whole cc0_scratch0 : Memref sig .tc .vmem S1x544x512 .f32).view.loc (c : Thread nD τ) ↦{fullShare} s) ∗ (∃ d, owns (c : Thread nD τ) arg23 fullShare d)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole cc0_scratch0) (Memref.isWhole_whole cc0_scratch0) arg23 harg23) K } := by
  refine ⟨?_, ?_, ?_, fun E K => ?run⟩
  case run =>
  rw [cc0_mix_eq_skeleton]; unfold cc0_mix_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, H22, ⟨%d23, %f23, -, H23⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  sl_exec (disch := first | sl_exact h1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]; · iexists _; iexact H20
  isplitl [H21]; · iexists _; iexact H21
  isplitl [H22]
  · iexact H22
  · iexists _; iexists _; isplitr
    swap; · iexact H23
    ipureintro; rfl

end Cert.MixIdeal.Hand

end
-- ==== Proof.MixVal.lean ====
module

public import proofs.«01_k».proof.Proof.Gen.MixIdeal.Frame
public import proofs.«01_k».proof.Proof.Gen.MixIdeal.Skeleton
public import proofs.«01_k».proof.Proof.Gen.MixIdeal.Points
public import Idealize.ShloMosaic.Lib.Pipeline.Value
public import proofs.«01_k».proof.Proof.MixModel
public import Idealize.ShloMosaic.Lib.Pointwise
public import Idealize.ShloMosaic.Lib.WritesUnit
public import proofs.«01_k».proof.Proof.MixRunLater
public import proofs.«01_k».proof.Proof.MixRunFirst

/-!
The output block of a run as a function of the blocks it is given, and the rows it leaves for the next one.
-/

@[expose] public section

set_option maxRecDepth 65536

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch's rows. -/
abbrev rows : Memref sig .tc .vmem S544x512 .f32 :=
  ((Memref.whole cc0_scratch0).slice (Rect.unit ![0, 0, 0] S1x544x512.size inb_S1x544x512_S1x544x512_0_0_0) (fun _ => rfl)).squeeze S544x512 squeezes_S1x544x512_S544x512

/-- The first of two leading unit axes' layers, as a matrix. -/
abbrev flat (x : Vec F S1x1x256x512 .f32) : Vec F S256x512 .f32 := fun y => x (ix4 0 0 (y 0) (y 1))

theorem read_flat (v : View sig .tc .vmem S1x1x256x512 .f32) (f : v.ty.Contents (Elt F)) (inb) (h) :
    ((v.slice (Rect.unit ![0, 0, 0, 0] ![1, 1, 256, 512] inb)).reshape S256x512 h).read (Elt F) f = flat (v.read (Elt F) f) := by
  funext y
  refine (shapeCast_apply (t := S256x512) (fun z => v.read (Elt F) f ((Rect.unit (s := S1x1x256x512) ![0, 0, 0, 0] ![1, 1, 256, 512] inb).idx z)) h y (ix4 (n0 := 1) (n1 := 1) (n2 := 256) (n3 := 512) 0 0 (y 0) (y 1))
    (by rw [Shape.rowMajor_val_four, Shape.rowMajor_val_two]; show ((0 * 1 + 0) * 256 + (y 0).val) * 512 + (y 1).val = (y 0).val * 512 + (y 1).val; omega)).trans ?_
  show v.read (Elt F) f _ = v.read (Elt F) f _
  congr 1
  funext a; apply Fin.ext
  match a with
  | ⟨0, _⟩ => rfl
  | ⟨1, _⟩ => rfl
  | ⟨2, _⟩ => show 0 + 1 * (y 0).val = (y 0).val; omega
  | ⟨3, _⟩ => show 0 + 1 * (y 1).val = (y 1).val; omega

theorem cover_six (p0 : FVec F S512x128 .bf16) (p1 : FVec F S512x128 .bf16) (p2 : FVec F S512x128 .bf16) (p3 : FVec F S512x128 .bf16) (p4 : FVec F S512x512 .bf16) (p5 : FVec F S512x1024 .bf16) (y : S512x2048.Idx) : ∃ p ∈ ([⟨Rect.unit (s := S512x2048) ![0, 1920] S512x128.size inb_S512x2048_S512x128_0_1920, p0⟩, ⟨Rect.unit (s := S512x2048) ![0, 1792] S512x128.size inb_S512x2048_S512x128_0_1792, p1⟩, ⟨Rect.unit (s := S512x2048) ![0, 1664] S512x128.size inb_S512x2048_S512x128_0_1664, p2⟩, ⟨Rect.unit (s := S512x2048) ![0, 1536] S512x128.size inb_S512x2048_S512x128_0_1536, p3⟩, ⟨Rect.unit (s := S512x2048) ![0, 1024] S512x512.size inb_S512x2048_S512x512_0_1024, p4⟩, ⟨Rect.unit (s := S512x2048) ![0, 0] S512x1024.size inb_S512x2048_S512x1024_0_0, p5⟩] : List (View.Piece (Elt F) S512x2048 .bf16)), y ∈ p.1.set := by
  have h0 : (y 0).val < 512 := (y 0).isLt
  have h1 : (y 1).val < 2048 := (y 1).isLt
  have key : ∀ (o n : ℕ) (inb), o ≤ (y 1).val → (y 1).val < o + n → y ∈ (Rect.unit (s := S512x2048) ![0, o] ![512, n] inb).set := fun o n inb ha hb =>
    Rect.mem_set_unit.mpr fun a => by
      match a with
      | ⟨0, _⟩ => exact ⟨Nat.zero_le _, by show (y 0).val < 0 + 512; omega⟩
      | ⟨1, _⟩ => exact ⟨ha, hb⟩
  by_cases c0 : 1920 ≤ (y 1).val
  · exact ⟨_, List.mem_cons_self, key 1920 128 inb_S512x2048_S512x128_0_1920 c0 (by omega)⟩
  by_cases c1 : 1792 ≤ (y 1).val
  · exact ⟨_, List.mem_cons_of_mem _ List.mem_cons_self, key 1792 128 inb_S512x2048_S512x128_0_1792 c1 (by omega)⟩
  by_cases c2 : 1664 ≤ (y 1).val
  · exact ⟨_, List.mem_cons_of_mem _ (List.mem_cons_of_mem _ List.mem_cons_self), key 1664 128 inb_S512x2048_S512x128_0_1664 c2 (by omega)⟩
  by_cases c3 : 1536 ≤ (y 1).val
  · exact ⟨_, List.mem_cons_of_mem _ (List.mem_cons_of_mem _ (List.mem_cons_of_mem _ List.mem_cons_self)), key 1536 128 inb_S512x2048_S512x128_0_1536 c3 (by omega)⟩
  by_cases c4 : 1024 ≤ (y 1).val
  · exact ⟨_, List.mem_cons_of_mem _ (List.mem_cons_of_mem _ (List.mem_cons_of_mem _ (List.mem_cons_of_mem _ List.mem_cons_self))), key 1024 512 inb_S512x2048_S512x512_0_1024 c4 (by omega)⟩
  · exact ⟨_, List.mem_cons_of_mem _ (List.mem_cons_of_mem _ (List.mem_cons_of_mem _ (List.mem_cons_of_mem _ (List.mem_cons_of_mem _ List.mem_cons_self)))), key 0 1024 inb_S512x2048_S512x1024_0_0 (Nat.zero_le _) (by omega)⟩

/-- A load of the whole row buffer after its six stores. -/
theorem readCov_six (v : View sig .tc .vmem S512x2048 .bf16) (p0 : FVec F S512x128 .bf16) (p1 : FVec F S512x128 .bf16) (p2 : FVec F S512x128 .bf16) (p3 : FVec F S512x128 .bf16) (p4 : FVec F S512x512 .bf16) (p5 : FVec F S512x1024 .bf16) (inb) :
    v.readCov (Val := Elt F) [⟨Rect.unit (s := S512x2048) ![0, 1920] S512x128.size inb_S512x2048_S512x128_0_1920, p0⟩, ⟨Rect.unit (s := S512x2048) ![0, 1792] S512x128.size inb_S512x2048_S512x128_0_1792, p1⟩, ⟨Rect.unit (s := S512x2048) ![0, 1664] S512x128.size inb_S512x2048_S512x128_0_1664, p2⟩, ⟨Rect.unit (s := S512x2048) ![0, 1536] S512x128.size inb_S512x2048_S512x128_0_1536, p3⟩, ⟨Rect.unit (s := S512x2048) ![0, 1024] S512x512.size inb_S512x2048_S512x512_0_1024, p4⟩, ⟨Rect.unit (s := S512x2048) ![0, 0] S512x1024.size inb_S512x2048_S512x1024_0_0, p5⟩] (Rect.unit (s := S512x2048) ![0, 0] ![512, 2048] inb).toLoadRect = View.canon [⟨Rect.unit (s := S512x2048) ![0, 1920] S512x128.size inb_S512x2048_S512x128_0_1920, p0⟩, ⟨Rect.unit (s := S512x2048) ![0, 1792] S512x128.size inb_S512x2048_S512x128_0_1792, p1⟩, ⟨Rect.unit (s := S512x2048) ![0, 1664] S512x128.size inb_S512x2048_S512x128_0_1664, p2⟩, ⟨Rect.unit (s := S512x2048) ![0, 1536] S512x128.size inb_S512x2048_S512x128_0_1536, p3⟩, ⟨Rect.unit (s := S512x2048) ![0, 1024] S512x512.size inb_S512x2048_S512x512_0_1024, p4⟩, ⟨Rect.unit (s := S512x2048) ![0, 0] S512x1024.size inb_S512x2048_S512x1024_0_0, p5⟩] := by
  rw [View.readCov_eq_canon_ld _ _ _ (cover_six p0 p1 p2 p3 p4 p5)]
  exact View.ld_unit_zero (S := S512x2048) zero2 _ _

/-- The extended inputs of a block: thirty-two rows of halo, then the block's own. -/
def ext (h : Fin 32 → Fin 512 → F .f32) (g : FVec F S512x512 .f32) : Vec F S544x512 .f32 := fun j =>
  if hj : (j 0).val < 32 then h ⟨(j 0).val, hj⟩ (j 1) else g (ix2 (n0 := 512) (n1 := 512) ⟨(j 0).val - 32, by have h1 : (j 0).val < 544 := (j 0).isLt; omega⟩ (j 1))

theorem read_ext (v : View sig .tc .vmem S544x512 .f32) (f : v.ty.Contents (Elt F)) (g : FVec F S512x512 .f32) (h : Fin 32 → Fin 512 → F .f32)
    (hh : ∀ (r : Fin 32) (k : Fin 512), v.read (Elt F) f (ix2 (n0 := 544) (n1 := 512) ⟨r.val, by omega⟩ k) = h r k) (inb) :
    v.read (Elt F) (v.writes (Elt F) f [⟨Rect.unit (s := S544x512) ![32, 0] ![512, 512] inb, g⟩]) = ext h g := by
  funext j
  have h1 : (j 0).val < 544 := (j 0).isLt
  unfold ext
  by_cases hj : (j 0).val < 32
  · rw [dif_pos hj]
    refine (View.read_writes_cons_rows_of_not_mem (W := 512) v f inb g [] j rfl rfl (Or.inl hj)).trans ?_
    refine Eq.trans ?_ (hh ⟨(j 0).val, hj⟩ (j 1))
    show v.read (Elt F) f _ = v.read (Elt F) f _
    congr 1
    funext a; apply Fin.ext
    match a with
    | ⟨0, _⟩ => rfl
    | ⟨1, _⟩ => rfl
  · rw [dif_neg hj]
    exact View.read_writes_cons_rows_of_mem v f inb g [] j (ix2 (n0 := 512) (n1 := 512) ⟨(j 0).val - 32, by omega⟩ (j 1)) rfl
      (by show (j 0).val = 32 + ((j 0).val - 32); omega) rfl

/-- What the last store leaves in the first rows: the block's own last thirty-two. -/
theorem read_left (v : View sig .tc .vmem S544x512 .f32) (f : v.ty.Contents (Elt F)) (g : FVec F S512x512 .f32) (inb1 inb2 inb3) (r : Fin 32) (k : Fin 512) :
    v.read (Elt F) (v.writes (Elt F) (v.writes (Elt F) f [⟨Rect.unit (s := S544x512) ![32, 0] ![512, 512] inb1, g⟩])
      [⟨Rect.unit (s := S544x512) ![0, 0] ![32, 512] inb2, k0_pay242 (View.ld (v.read (Elt F) (v.writes (Elt F) f [⟨Rect.unit (s := S544x512) ![32, 0] ![512, 512] inb1, g⟩])) (Rect.unit (s := S544x512) ![512, 0] ![32, 512] inb3))⟩])
      (ix2 (n0 := 544) (n1 := 512) ⟨r.val, by omega⟩ k) = g (ix2 (n0 := 512) (n1 := 512) ⟨480 + r.val, by omega⟩ k) := by
  refine (View.read_writes_cons_rows_of_mem v _ inb2 _ [] _ (ix2 (n0 := 32) (n1 := 512) r k) rfl (by show r.val = 0 + r.val; omega) rfl).trans ?_
  unfold k0_pay242
  refine (shapeCast_apply _ _ _ (ix2 (n0 := 32) (n1 := 512) r k) rfl).trans ?_
  exact View.read_writes_cons_rows_of_mem v f inb1 g [] _ (ix2 (n0 := 512) (n1 := 512) ⟨480 + r.val, by omega⟩ k) rfl
    (by show 512 + 1 * r.val = 32 + (480 + r.val); omega) (by show 0 + 1 * k.val = k.val; omega)

/-- The convolution's state after a block: the block's own last thirty rows. -/
def stateOf (g : FVec F S512x512 .f32) : FVec F S1x30x512 .f32 := fun j =>
  g (ix2 (n0 := 512) (n1 := 512) ⟨482 + (j 1).val, by have h1 : (j 1).val < 30 := (j 1).isLt; omega⟩ (j 2))

/-- What is read for the state from the extended inputs. -/
theorem read_state (v : View sig .tc .vmem S544x512 .f32) (f : v.ty.Contents (Elt F)) (g : FVec F S512x512 .f32) (inb1 inb3) :
    k0_pay241 (View.ld (v.read (Elt F) (v.writes (Elt F) f [⟨Rect.unit (s := S544x512) ![32, 0] ![512, 512] inb1, g⟩])) (Rect.unit (s := S544x512) ![514, 0] ![30, 512] inb3)) = stateOf g := by
  funext j
  obtain ⟨r, k, rfl⟩ : ∃ (r : Fin 30) (k : Fin 512), j = (ix3 (n0 := 1) (n1 := 30) (n2 := 512) 0 r k : S1x30x512.Idx) :=
    ⟨j 1, j 2, by funext a; fin_cases a <;> first | rfl | exact Subsingleton.elim (α := Fin 1) _ _⟩
  unfold k0_pay241
  refine (shapeCast_apply _ _ _ (ix2 (n0 := 30) (n1 := 512) r k) (by
    rw [Shape.rowMajor_val_three, Shape.rowMajor_val_two]; show r.val * 512 + k.val = (0 * 30 + r.val) * 512 + k.val; omega)).trans ?_
  exact View.read_writes_cons_rows_of_mem v f inb1 g [] _ (ix2 (n0 := 512) (n1 := 512) ⟨482 + r.val, by omega⟩ k) rfl
    (by show 514 + 1 * r.val = 32 + (482 + r.val); omega) (by show 0 + 1 * k.val = k.val; omega)

/-- The rows after the first store of a sequence: the given halo. -/
theorem read_halo (f : Vec F S1x544x512 .f32) (w : FVec F S1x32x512 .f32) (inb) (r : Fin 32) (k : Fin 512) :
    rows.view.read (Elt F) ((Memref.whole cc0_scratch0 : Memref sig .tc .vmem S1x544x512 .f32).view.writes (Elt F) f [⟨Rect.unit (s := S1x544x512) ![0, 0, 0] ![1, 32, 512] inb, w⟩])
      (ix2 (n0 := 544) (n1 := 512) ⟨r.val, by omega⟩ k) = w (ix3 (n0 := 1) (n1 := 32) (n2 := 512) 0 r k) := by
  refine (shapeCast_apply (t := S544x512) (fun z => (Memref.whole cc0_scratch0 : Memref sig .tc .vmem S1x544x512 .f32).view.read (Elt F) ((Memref.whole cc0_scratch0 : Memref sig .tc .vmem S1x544x512 .f32).view.writes (Elt F) f [⟨Rect.unit (s := S1x544x512) ![0, 0, 0] ![1, 32, 512] inb, w⟩])
      ((Rect.unit (s := S1x544x512) ![0, 0, 0] S1x544x512.size inb_S1x544x512_S1x544x512_0_0_0).idx z)) _ _ (ix3 (n0 := 1) (n1 := 544) (n2 := 512) 0 ⟨r.val, by omega⟩ k)
    (by rw [Shape.rowMajor_val_three, Shape.rowMajor_val_two]; show (0 * 544 + r.val) * 512 + k.val = r.val * 512 + k.val; omega)).trans ?_
  refine View.read_writes_cons_unit_of_mem (s := S1x544x512) (off := ![0, 0, 0]) (off' := ![0, 0, 0]) (size := ![1, 32, 512]) (Memref.whole cc0_scratch0 : Memref sig .tc .vmem S1x544x512 .f32).view f inb w [] _ (ix3 (n0 := 1) (n1 := 32) (n2 := 512) 0 r k) rfl (Fin.forall_fin_succ.mpr ⟨?_, Fin.forall_fin_two.mpr ⟨?_, ?_⟩⟩)
  · rfl
  · show 0 + 1 * r.val = 0 + r.val; omega
  · show 0 + 1 * k.val = 0 + k.val; omega

/-- The output block of a point from its halo and its blocks. -/
def blockOut (h : Fin 32 → Fin 512 → F .f32) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) : FVec F S1x512x2048 .f32 :=
  outOf (mixed x3 x4 (ext h (k0_pay3 x5 x6)) x13 x14 x15 x16 x17 x7 x8 x9 (flat x11) (flat x12)) x18 x19 x2

set_option maxHeartbeats 40000000 in
/-- The output block at a later row block. -/
theorem later_out (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : ¬first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (xs : Vec F S1x544x512 .f32) (h : Fin 32 → Fin 512 → F .f32)
    (hh : ∀ (r : Fin 32) (k : Fin 512), rows.view.read (Elt F) xs (ix2 (n0 := 544) (n1 := 512) ⟨r.val, by omega⟩ k) = h r k) :
    (runLater c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs).1 = [⟨Rect.unit ![0, 0, 0] S1x512x2048.size inb_S1x512x2048_S1x512x2048_0_0_0, blockOut h x2 x3 x4 x5 x6 x7 x8 x9 x10 x11 x12 x13 x14 x15 x16 x17 x18 x19⟩] := by
  have e : rows.view.read (Elt F) (rows.view.writes (Elt F) xs [⟨Rect.unit (s := S544x512) ![32, 0] S512x512.size inb_S544x512_S512x512_32_0, k0_pay3 x5 x6⟩]) = ext h (k0_pay3 x5 x6) := read_ext _ _ _ _ hh _
  unfold blockOut
  rw [← e]
  unfold runLater
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x1024) zero3, View.ld_unit_zero (S := S1x512x512) zero3, View.ld_unit_zero (S := S1x32x512) zero3, View.ld_unit_zero (S := S1x512) zero2, View.ld_unit_zero (S := S1x2048) zero2, View.ld_unit_zero (S := S1x2048x2048) zero3, View.ld_unit_zero (S := S512x2048) zero2, read_flat]
  refine (congrArg (fun m : Vec F S512x2048 .bf16 => ([⟨Rect.unit ![0, 0, 0] S1x512x2048.size inb_S1x512x2048_S1x512x2048_0_0_0, outOf m x18 x19 x2⟩] : List (View.Piece (Elt F) S1x512x2048 .f32))) (readCov_six arg23.view _ _ _ _ _ _ _)).trans ?_
  rfl

set_option maxHeartbeats 40000000 in
/-- The rows the run leaves for the next block. -/
theorem later_left (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : ¬first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (xs : Vec F S1x544x512 .f32) (r : Fin 32) (k : Fin 512) :
    rows.view.read (Elt F) (runLater c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs).2.2.1 (ix2 (n0 := 544) (n1 := 512) ⟨r.val, by omega⟩ k) = k0_pay3 x5 x6 (ix2 (n0 := 512) (n1 := 512) ⟨480 + r.val, by omega⟩ k) := by
  have e := read_left rows.view xs (k0_pay3 x5 x6) inb_S544x512_S512x512_32_0 inb_S544x512_S32x512_0_0 inb_S544x512_S32x512_512_0 r k
  refine Eq.trans ?_ e
  unfold runLater
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x1024) zero3, View.ld_unit_zero (S := S1x512x512) zero3, View.ld_unit_zero (S := S1x32x512) zero3, View.ld_unit_zero (S := S1x512) zero2, View.ld_unit_zero (S := S1x2048) zero2, View.ld_unit_zero (S := S1x2048x2048) zero3, View.ld_unit_zero (S := S512x2048) zero2, read_flat]
  rfl

set_option maxHeartbeats 40000000 in
/-- The state the run stores. -/
theorem later_state (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : ¬first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (xs : Vec F S1x544x512 .f32) :
    (runLater c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs).2.1 = [⟨Rect.unit ![0, 0, 0] S1x30x512.size inb_S1x30x512_S1x30x512_0_0_0, stateOf (k0_pay3 x5 x6)⟩] := by
  have e := read_state rows.view xs (k0_pay3 x5 x6) inb_S544x512_S512x512_32_0 inb_S544x512_S30x512_514_0
  refine Eq.trans ?_ (congrArg (fun w : FVec F S1x30x512 .f32 => ([⟨Rect.unit ![0, 0, 0] S1x30x512.size inb_S1x30x512_S1x30x512_0_0_0, w⟩] : List (View.Piece (Elt F) S1x30x512 .f32))) e)
  unfold runLater
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x1024) zero3, View.ld_unit_zero (S := S1x512x512) zero3, View.ld_unit_zero (S := S1x32x512) zero3, View.ld_unit_zero (S := S1x512) zero2, View.ld_unit_zero (S := S1x2048) zero2, View.ld_unit_zero (S := S1x2048x2048) zero3, View.ld_unit_zero (S := S512x2048) zero2, read_flat]
  rfl

set_option maxHeartbeats 40000000 in
/-- The output block at the first row block of a sequence. -/
theorem first_out (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (xs : Vec F S1x544x512 .f32) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs).1 = [⟨Rect.unit ![0, 0, 0] S1x512x2048.size inb_S1x512x2048_S1x512x2048_0_0_0, blockOut (fun r k => k0_pay2 x10 (ix3 (n0 := 1) (n1 := 32) (n2 := 512) 0 r k)) x2 x3 x4 x5 x6 x7 x8 x9 x10 x11 x12 x13 x14 x15 x16 x17 x18 x19⟩] := by
  have e : rows.view.read (Elt F) (rows.view.writes (Elt F) ((Memref.whole cc0_scratch0 : Memref sig .tc .vmem S1x544x512 .f32).view.writes (Elt F) xs [⟨Rect.unit (s := S1x544x512) ![0, 0, 0] S1x32x512.size inb_S1x544x512_S1x32x512_0_0_0, k0_pay2 x10⟩]) [⟨Rect.unit (s := S544x512) ![32, 0] S512x512.size inb_S544x512_S512x512_32_0, k0_pay3 x5 x6⟩]) = ext (fun r k => k0_pay2 x10 (ix3 (n0 := 1) (n1 := 32) (n2 := 512) 0 r k)) (k0_pay3 x5 x6) := read_ext _ _ _ _ (read_halo _ _ _) _
  unfold blockOut
  rw [← e]
  unfold runFirst
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x1024) zero3, View.ld_unit_zero (S := S1x512x512) zero3, View.ld_unit_zero (S := S1x32x512) zero3, View.ld_unit_zero (S := S1x512) zero2, View.ld_unit_zero (S := S1x2048) zero2, View.ld_unit_zero (S := S1x2048x2048) zero3, View.ld_unit_zero (S := S512x2048) zero2, read_flat]
  refine (congrArg (fun m : Vec F S512x2048 .bf16 => ([⟨Rect.unit ![0, 0, 0] S1x512x2048.size inb_S1x512x2048_S1x512x2048_0_0_0, outOf m x18 x19 x2⟩] : List (View.Piece (Elt F) S1x512x2048 .f32))) (readCov_six arg23.view _ _ _ _ _ _ _)).trans ?_
  rfl

set_option maxHeartbeats 40000000 in
/-- The rows the run leaves for the next block. -/
theorem first_left (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (xs : Vec F S1x544x512 .f32) (r : Fin 32) (k : Fin 512) :
    rows.view.read (Elt F) (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs).2.2.1 (ix2 (n0 := 544) (n1 := 512) ⟨r.val, by omega⟩ k) = k0_pay3 x5 x6 (ix2 (n0 := 512) (n1 := 512) ⟨480 + r.val, by omega⟩ k) := by
  have e := read_left rows.view ((Memref.whole cc0_scratch0 : Memref sig .tc .vmem S1x544x512 .f32).view.writes (Elt F) xs [⟨Rect.unit (s := S1x544x512) ![0, 0, 0] S1x32x512.size inb_S1x544x512_S1x32x512_0_0_0, k0_pay2 x10⟩]) (k0_pay3 x5 x6) inb_S544x512_S512x512_32_0 inb_S544x512_S32x512_0_0 inb_S544x512_S32x512_512_0 r k
  refine Eq.trans ?_ e
  unfold runFirst
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x1024) zero3, View.ld_unit_zero (S := S1x512x512) zero3, View.ld_unit_zero (S := S1x32x512) zero3, View.ld_unit_zero (S := S1x512) zero2, View.ld_unit_zero (S := S1x2048) zero2, View.ld_unit_zero (S := S1x2048x2048) zero3, View.ld_unit_zero (S := S512x2048) zero2, read_flat]
  rfl

set_option maxHeartbeats 40000000 in
/-- The state the run stores. -/
theorem first_state (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (xs : Vec F S1x544x512 .f32) :
    (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs).2.1 = [⟨Rect.unit ![0, 0, 0] S1x30x512.size inb_S1x30x512_S1x30x512_0_0_0, stateOf (k0_pay3 x5 x6)⟩] := by
  have e := read_state rows.view ((Memref.whole cc0_scratch0 : Memref sig .tc .vmem S1x544x512 .f32).view.writes (Elt F) xs [⟨Rect.unit (s := S1x544x512) ![0, 0, 0] S1x32x512.size inb_S1x544x512_S1x32x512_0_0_0, k0_pay2 x10⟩]) (k0_pay3 x5 x6) inb_S544x512_S512x512_32_0 inb_S544x512_S30x512_514_0
  refine Eq.trans ?_ (congrArg (fun w : FVec F S1x30x512 .f32 => ([⟨Rect.unit ![0, 0, 0] S1x30x512.size inb_S1x30x512_S1x30x512_0_0_0, w⟩] : List (View.Piece (Elt F) S1x30x512 .f32))) e)
  unfold runFirst
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S1x512x2048) zero3, View.ld_unit_zero (S := S1x512x1024) zero3, View.ld_unit_zero (S := S1x512x512) zero3, View.ld_unit_zero (S := S1x32x512) zero3, View.ld_unit_zero (S := S1x512) zero2, View.ld_unit_zero (S := S1x2048) zero2, View.ld_unit_zero (S := S1x2048x2048) zero3, View.ld_unit_zero (S := S512x2048) zero2, read_flat]
  rfl

end Cert.MixIdeal.Hand

end
-- ==== Proof.MixRows.lean ====
module

public import proofs.«01_k».proof.Proof.MixSpec
public import proofs.«01_k».proof.Proof.MixConv
public import proofs.«01_k».proof.Proof.MixVal
public import Idealize.ShloMosaic.Lib.Pointwise
public import Idealize.ShloMosaic.Lib.Pipeline.Value

/-!
The mixer's block at the ideal values, entry by entry, is the plain mixer's row.
-/

@[expose] public section

set_option maxRecDepth 16384

noncomputable section

namespace Cert.MixIdeal.Hand

open Cert.MixIdeal Cert.MixIdeal.Gen Cert.MixSpec
open Idealize.ShloMosaic Idealize.ShloMosaic.TcCoe
open Idealize.SL.Sem
open scoped BigOperators

theorem normd_apply (x : FVec Ideal S512x512 .f32) (lg lb : Vec Ideal S1x512 .f32) (r k : Fin 512) :
    (normd x lg lb (ix2 r k) : EReal) = sg (normed (fun l => x (ix2 r l)) (fun l => lg (ix2 0 l)) (fun l => lb (ix2 0 l)) k) := by
  pointwise [normd, sg, normed, mean]

/-- The convolution's piece. -/
theorem conved_apply (u : Vec Ideal S544x512 .f32) (w : Vec Ideal S31x512 .f32) (b lg lb : Vec Ideal S1x512 .f32) (p : Vec Ideal S1x512x512 .bf16) (g : Vec Ideal S1x512x512 .f32)
    (r k : Fin 512) : (conved u w b lg lb p g (ix2 r k) : EReal)
      = gatedConv (fun l => cblock u w b (ix2 r l)) (fun l => lg (ix2 0 l)) (fun l => lb (ix2 0 l)) (fun l => p (ix3 0 l k)) (g (ix3 0 r k)) := by
  rw [conved_eq]
  have h : (k0_pay245 (normd (cblock u w b) lg lb) p g (ix2 r k) : EReal) = (∑ x, (normd (cblock u w b) lg lb (ix2 r x) : EReal) * p (ix3 0 x k)) * (g (ix3 0 r k) * Ideal.logistic (g (ix3 0 r k))) := by
    generalize normd (cblock u w b) lg lb = x
    pointwise [k0_pay245]
  rw [h]
  simp only [normd_apply]
  rfl

/-- The attention's piece. -/
theorem gated_apply (a ga : Vec Ideal S1x512x1024 .f32) (r : Fin 512) (j : Fin 1024) :
    (k0_pay244 a ga (ix2 r j) : EReal) = a (ix3 0 r j) * sg (ga (ix3 0 r j)) := by
  pointwise [k0_pay244, sg]

theorem head0_apply (q g : Vec Ideal S1x512x512 .f32) (k v : Vec Ideal S256x512 .f32) (r : Fin 512) (e : Fin 128) :
    (head0 q g k v (ix2 r e) : EReal) = headRow (fun j => q (ix3 0 r j)) (fun j => g (ix3 0 r j)) (fun n j => k (ix2 n j)) (fun n j => v (ix2 n j)) ⟨e.val, by omega⟩ := by
  have hd : e.val / 128 = 0 := by omega
  unfold headRow attend top score sg
  simp only [hd, Nat.mul_zero, Nat.zero_add]
  pointwise [head0, k0_pay246, k0_pay247]

theorem head1_apply (q g : Vec Ideal S1x512x512 .f32) (k v : Vec Ideal S256x512 .f32) (r : Fin 512) (e : Fin 128) :
    (head1 q g k v (ix2 r e) : EReal) = headRow (fun j => q (ix3 0 r j)) (fun j => g (ix3 0 r j)) (fun n j => k (ix2 n j)) (fun n j => v (ix2 n j)) ⟨128 + e.val, by omega⟩ := by
  have hd : (128 + e.val) / 128 = 1 := by omega
  unfold headRow attend top score sg
  simp only [hd, Nat.reduceMul]
  pointwise [head1, k0_pay248, k0_pay249]

theorem head2_apply (q g : Vec Ideal S1x512x512 .f32) (k v : Vec Ideal S256x512 .f32) (r : Fin 512) (e : Fin 128) :
    (head2 q g k v (ix2 r e) : EReal) = headRow (fun j => q (ix3 0 r j)) (fun j => g (ix3 0 r j)) (fun n j => k (ix2 n j)) (fun n j => v (ix2 n j)) ⟨256 + e.val, by omega⟩ := by
  have hd : (256 + e.val) / 128 = 2 := by omega
  unfold headRow attend top score sg
  simp only [hd, Nat.reduceMul]
  pointwise [head2, k0_pay250, k0_pay251]

theorem head3_apply (q g : Vec Ideal S1x512x512 .f32) (k v : Vec Ideal S256x512 .f32) (r : Fin 512) (e : Fin 128) :
    (head3 q g k v (ix2 r e) : EReal) = headRow (fun j => q (ix3 0 r j)) (fun j => g (ix3 0 r j)) (fun n j => k (ix2 n j)) (fun n j => v (ix2 n j)) ⟨384 + e.val, by omega⟩ := by
  have hd : (384 + e.val) / 128 = 3 := by omega
  unfold headRow attend top score sg
  simp only [hd, Nat.reduceMul]
  pointwise [head3, k0_pay252, k0_pay253]

/-- The row of a block from its parts. -/
def blockRow (a ga : Vec Ideal S1x512x1024 .f32) (u : Vec Ideal S544x512 .f32) (w : Vec Ideal S31x512 .f32) (b lg lb : Vec Ideal S1x512 .f32) (p : Vec Ideal S1x512x512 .bf16)
    (g q gm : Vec Ideal S1x512x512 .f32) (k v : Vec Ideal S256x512 .f32) (r : Fin 512) : Fin 2048 → EReal :=
  mixRow (fun j => a (ix3 0 r j)) (fun j => ga (ix3 0 r j)) (fun l => cblock u w b (ix2 r l)) (fun l => lg (ix2 0 l)) (fun l => lb (ix2 0 l)) (fun l k => p (ix3 0 l k))
    (fun j => g (ix3 0 r j)) (fun j => q (ix3 0 r j)) (fun j => gm (ix3 0 r j)) (fun n j => k (ix2 n j)) (fun n j => v (ix2 n j))

theorem emb_cols (o n : ℕ) (ho : o + n ≤ 2048) (inb) (r : Fin 512) (e : Fin n) :
    (Rect.unit (s := S512x2048) ![0, o] (⟨2, ![512, n]⟩ : Shape).size inb).emb (ix2 (n0 := 512) (n1 := n) r e) = (ix2 (n0 := 512) (n1 := 2048) r ⟨o + e.val, by omega⟩ : S512x2048.Idx) := by
  funext a
  apply Fin.ext
  match a with
  | ⟨0, _⟩ => show 0 + 1 * r.val = r.val; omega
  | ⟨1, _⟩ => show o + 1 * e.val = o + e.val; omega

theorem mixed_apply (a ga : Vec Ideal S1x512x1024 .f32) (u : Vec Ideal S544x512 .f32) (w : Vec Ideal S31x512 .f32) (b lg lb : Vec Ideal S1x512 .f32) (p : Vec Ideal S1x512x512 .bf16)
    (g q gm : Vec Ideal S1x512x512 .f32) (k v : Vec Ideal S256x512 .f32) (r : Fin 512) (j : Fin 2048) :
    (mixed a ga u w b lg lb p g q gm k v (ix2 r j) : EReal) = blockRow a ga u w b lg lb p g q gm k v r j := by
  have late : ∀ (i : ℕ) (hi : i < 512) (r : Fin 512), blockRow a ga u w b lg lb p g q gm k v r ⟨1536 + i, by omega⟩
      = headRow (fun j => q (ix3 0 r j)) (fun j => gm (ix3 0 r j)) (fun n j => k (ix2 n j)) (fun n j => v (ix2 n j)) ⟨i, hi⟩ := fun i hi r => by
    unfold blockRow mixRow
    rw [dif_neg (by show ¬ (1536 + i < 1024); omega), dif_neg (by show ¬ (1536 + i < 1536); omega)]
    congr 1
    apply Fin.ext
    show 1536 + i - 1536 = i
    omega
  unfold mixed
  refine View.canon_apply_of_pieces (fun y : S512x2048.Idx => (blockRow a ga u w b lg lb p g q gm k v (y 0) (y 1) : EReal)) _ ?_ (ix2 r j) (cover_six (F := Ideal) _ _ _ _ _ _ _)
  simp only [List.forall_mem_cons, List.not_mem_nil, false_imp_iff, implies_true, and_true]
  have two : ∀ {n0 n1 : ℕ} (x : (⟨2, ![n0, n1]⟩ : Shape).Idx), ∃ (r : Fin n0) (e : Fin n1), x = ix2 r e := fun x => ⟨x 0, x 1, by funext a; fin_cases a <;> rfl⟩
  refine ⟨fun x => ?_, fun x => ?_, fun x => ?_, fun x => ?_, fun x => ?_, fun x => ?_⟩ <;> obtain ⟨r, e, rfl⟩ := two x
  · rw [emb_cols 1920 128 (by omega)]
    refine (head3_apply q gm k v r e).trans (Eq.trans ?_ (late (384 + e.val) (by omega) r).symm |>.trans ?_)
    · rfl
    · show blockRow a ga u w b lg lb p g q gm k v r _ = blockRow a ga u w b lg lb p g q gm k v r _
      congr 1; apply Fin.ext; show 1536 + (384 + e.val) = 1920 + e.val; omega
  · rw [emb_cols 1792 128 (by omega)]
    refine (head2_apply q gm k v r e).trans (Eq.trans ?_ (late (256 + e.val) (by omega) r).symm |>.trans ?_)
    · rfl
    · show blockRow a ga u w b lg lb p g q gm k v r _ = blockRow a ga u w b lg lb p g q gm k v r _
      congr 1; apply Fin.ext; show 1536 + (256 + e.val) = 1792 + e.val; omega
  · rw [emb_cols 1664 128 (by omega)]
    refine (head1_apply q gm k v r e).trans (Eq.trans ?_ (late (128 + e.val) (by omega) r).symm |>.trans ?_)
    · rfl
    · show blockRow a ga u w b lg lb p g q gm k v r _ = blockRow a ga u w b lg lb p g q gm k v r _
      congr 1; apply Fin.ext; show 1536 + (128 + e.val) = 1664 + e.val; omega
  · rw [emb_cols 1536 128 (by omega)]
    exact (head0_apply q gm k v r e).trans (late e.val (by omega) r).symm
  · rw [emb_cols 1024 512 (by omega)]
    refine (conved_apply u w b lg lb p g r e).trans ?_
    show _ = blockRow a ga u w b lg lb p g q gm k v r ⟨1024 + e.val, _⟩
    unfold blockRow mixRow
    have he : (⟨1024 + e.val - 1024, by omega⟩ : Fin 512) = e := Fin.ext (by show 1024 + e.val - 1024 = e.val; omega)
    rw [dif_neg (by show ¬ (1024 + e.val < 1024); omega), dif_pos (by show 1024 + e.val < 1536; omega)]
    simp only [he]
  · rw [emb_cols 0 1024 (by omega)]
    refine (gated_apply a ga r e).trans ?_
    show _ = blockRow a ga u w b lg lb p g q gm k v r ⟨0 + e.val, _⟩
    unfold blockRow mixRow
    have he : ∀ h, (⟨0 + e.val, h⟩ : Fin 1024) = e := fun h => Fin.ext (Nat.zero_add _)
    rw [dif_pos (by show 0 + e.val < 1024; omega)]
    simp only [he]

/-- The output block, entry by entry. -/
theorem out_apply (m : Vec Ideal S512x2048 .bf16) (wo : Vec Ideal S1x2048x2048 .bf16) (gp : Vec Ideal S1x2048 .f32) (x : Vec Ideal S1x512x2048 .f32) (r : Fin 512) (e : Fin 2048) :
    (outOf m wo gp x (ix3 0 r e) : EReal) = outRow (x (ix3 0 r e)) (fun j => m (ix2 r j)) (fun l j => wo (ix3 0 l j)) (gp (ix2 0 e)) e := by
  pointwise [outOf, k0_pay1, k0_pay254, k0_pay255, outRow, prod]

end Cert.MixIdeal.Hand

end
-- ==== Proof.MixBody.lean ====
module

public import proofs.«01_k».proof.Proof.Gen.MixIdeal.Frame
public import proofs.«01_k».proof.Proof.Gen.MixIdeal.Skeleton
public import proofs.«01_k».proof.Proof.Gen.MixIdeal.Points
public import Idealize.ShloMosaic.Lib.Pipeline.Value
public import proofs.«01_k».proof.Proof.MixVal

/-!
What a run of the body leaves: the output block, the convolution's state, and the scratch whose first rows are the next block's halo.
-/

@[expose] public section

set_option maxRecDepth 65536

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a later row block, given the halo rows. -/
theorem run_later (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : ¬first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (xs : Vec F S1x544x512 .f32) (h : Fin 32 → Fin 512 → F .f32) (hh : ∀ (r : Fin 32) (k : Fin 512), rows.view.read (Elt F) xs (ix2 (n0 := 544) (n1 := 512) ⟨r.val, by omega⟩ k) = h r k) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ ((Memref.whole cc0_scratch0 : Memref sig .tc .vmem S1x544x512 .f32).view.loc (c : Thread nD τ) ↦{fullShare} xs) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (blockOut h x2 x3 x4 x5 x6 x7 x8 x9 x10 x11 x12 x13 x14 x15 x16 x17 x18 x19) ∗ owns (c : Thread nD τ) arg21 fullShare (stateOf (k0_pay3 x5 x6)) ∗ (∃ s : Vec F S1x544x512 .f32, ⌜∀ (r : Fin 32) (k : Fin 512), rows.view.read (Elt F) s (ix2 (n0 := 544) (n1 := 512) ⟨r.val, by omega⟩ k) = (k0_pay3 x5 x6 (ix2 (n0 := 512) (n1 := 512) ⟨480 + r.val, by omega⟩ k))⌝ ∗ ((Memref.whole cc0_scratch0 : Memref sig .tc .vmem S1x544x512 .f32).view.loc (c : Thread nD τ) ↦{fullShare} s)) ∗ (∃ d, owns (c : Thread nD τ) arg23 fullShare d)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole cc0_scratch0) (Memref.isWhole_whole cc0_scratch0) arg23 harg23) K := by
  have ho := later_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs h hh
  have hl := later_left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs
  have hq := later_state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs
  have hr := (runLater c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs).2.2.2 E K
  generalize (runLater c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs) = R at ho hl hq hr
  obtain ⟨o, q, s, hs⟩ := R
  dsimp only at ho hl hq hr
  subst ho hq
  iintro ⟨H2, H3, H4, H5, H6, H7, H8, H9, H10, H11, H12, H13, H14, H15, H16, H17, H18, H19, H20, H21, H22, H23, Hk⟩
  iapply hr
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨H2, H3, H4, H5, H6, H7, H8, H9, H10, H11, H12, H13, H14, H15, H16, H17, H18, H19, ⟨%f, H20⟩, ⟨%g, H21⟩, H22, H23⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns
    iexists _; isplitr
    swap; · iexact H20
    ipureintro
    exact read_store _ _ zero3 _ _
  isplitl [H21]
  · unfold owns
    iexists _; isplitr
    swap; · iexact H21
    ipureintro
    exact read_store _ _ zero3 _ _
  isplitl [H22]
  · iexists _; isplitr
    swap; · iexact H22
    ipureintro
    exact hl
  iexact H23

set_option maxHeartbeats 8000000 in
/-- The body at the first row block of a sequence. -/
theorem run_first (c : Dev nD) (i : grid0.Coords) (arg2 : Memref sig .tc .vmem S1x512x2048 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x32x512 .f32) (harg10 : arg10.IsWhole) (arg11 : Memref sig .tc .vmem S1x1x256x512 .f32) (harg11 : arg11.IsWhole) (arg12 : Memref sig .tc .vmem S1x1x256x512 .f32) (harg12 : arg12.IsWhole) (arg13 : Memref sig .tc .vmem S31x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512x512 .bf16) (harg17 : arg17.IsWhole) (arg18 : Memref sig .tc .vmem S1x2048x2048 .bf16) (harg18 : arg18.IsWhole) (arg19 : Memref sig .tc .vmem S1x2048 .f32) (harg19 : arg19.IsWhole) (arg20 : Memref sig .tc .vmem S1x512x2048 .f32) (harg20 : arg20.IsWhole) (arg21 : Memref sig .tc .vmem S1x30x512 .f32) (harg21 : arg21.IsWhole) (arg23 : Memref sig .tc .vmem S512x2048 .bf16) (harg23 : arg23.IsWhole)
    (h1 : first i) (x2 : Vec F S1x512x2048 .f32) (x3 : Vec F S1x512x1024 .f32) (x4 : Vec F S1x512x1024 .f32) (x5 : Vec F S1x512x512 .f32) (x6 : Vec F S1x512x512 .f32) (x7 : Vec F S1x512x512 .f32) (x8 : Vec F S1x512x512 .f32) (x9 : Vec F S1x512x512 .f32) (x10 : Vec F S1x32x512 .f32) (x11 : Vec F S1x1x256x512 .f32) (x12 : Vec F S1x1x256x512 .f32) (x13 : Vec F S31x512 .f32) (x14 : Vec F S1x512 .f32) (x15 : Vec F S1x512 .f32) (x16 : Vec F S1x512 .f32) (x17 : Vec F S1x512x512 .bf16) (x18 : Vec F S1x2048x2048 .bf16) (x19 : Vec F S1x2048 .f32) (xs : Vec F S1x544x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (∃ d, owns (c : Thread nD τ) arg20 fullShare d) ∗ (∃ d, owns (c : Thread nD τ) arg21 fullShare d) ∗ ((Memref.whole cc0_scratch0 : Memref sig .tc .vmem S1x544x512 .f32).view.loc (c : Thread nD τ) ↦{fullShare} xs) ∗ (∃ d, owns (c : Thread nD τ) arg23 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (blockOut (fun r k => k0_pay2 x10 (ix3 (n0 := 1) (n1 := 32) (n2 := 512) 0 r k)) x2 x3 x4 x5 x6 x7 x8 x9 x10 x11 x12 x13 x14 x15 x16 x17 x18 x19) ∗ owns (c : Thread nD τ) arg21 fullShare (stateOf (k0_pay3 x5 x6)) ∗ (∃ s : Vec F S1x544x512 .f32, ⌜∀ (r : Fin 32) (k : Fin 512), rows.view.read (Elt F) s (ix2 (n0 := 544) (n1 := 512) ⟨r.val, by omega⟩ k) = (k0_pay3 x5 x6 (ix2 (n0 := 512) (n1 := 512) ⟨480 + r.val, by omega⟩ k))⌝ ∗ ((Memref.whole cc0_scratch0 : Memref sig .tc .vmem S1x544x512 .f32).view.loc (c : Thread nD τ) ↦{fullShare} s)) ∗ (∃ d, owns (c : Thread nD τ) arg23 fullShare d)) -∗ K ⟨⟩))
      ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole cc0_scratch0) (Memref.isWhole_whole cc0_scratch0) arg23 harg23) K := by
  have ho := first_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs
  have hl := first_left c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs
  have hq := first_state c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs
  have hr := (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs).2.2.2 E K
  generalize (runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 h1 x2 x3 x4 x5 x6 x7 x8 x9 x10 x11 x12 x13 x14 x15 x16 x17 x18 x19 xs) = R at ho hl hq hr
  obtain ⟨o, q, s, hs⟩ := R
  dsimp only at ho hl hq hr
  subst ho hq
  iintro ⟨H2, H3, H4, H5, H6, H7, H8, H9, H10, H11, H12, H13, H14, H15, H16, H17, H18, H19, H20, H21, H22, H23, Hk⟩
  iapply hr
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨H2, H3, H4, H5, H6, H7, H8, H9, H10, H11, H12, H13, H14, H15, H16, H17, H18, H19, ⟨%f, H20⟩, ⟨%g, H21⟩, H22, H23⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns
    iexists _; isplitr
    swap; · iexact H20
    ipureintro
    exact read_store _ _ zero3 _ _
  isplitl [H21]
  · unfold owns
    iexists _; isplitr
    swap; · iexact H21
    ipureintro
    exact read_store _ _ zero3 _ _
  isplitl [H22]
  · iexists _; isplitr
    swap; · iexact H22
    ipureintro
    exact hl
  iexact H23

end Cert.MixIdeal.Hand

end
-- ==== Proof.MixFrame.lean ====
module

public import proofs.«01_k».proof.Proof.Gen.MixIdeal.Frame
public import proofs.«01_k».proof.Proof.Gen.MixIdeal.Skeleton
public import proofs.«01_k».proof.Proof.Gen.MixIdeal.Points
public import Idealize.ShloMosaic.Lib.Pipeline.Value
public import proofs.«01_k».proof.Proof.MixBody
public import Idealize.ShloMosaic.Lib.MatmulPlain

/-!
The frame of the mixing kernel: every execution ends, the arguments are unchanged, and the arrays of the layer's
output and of the convolution's state end at what the points write into them.
-/

@[expose] public section

set_option maxRecDepth 65536

noncomputable section

namespace Cert.MixIdeal.Hand

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is claimed: none. -/
def forgotten : Fin cfg0.W → Bool := fun _ => false

/-- The first row block of a sequence: every eighth point. -/
theorem first_iff (t : Fin cfg0.N) : first (grid0.coords t) ↔ t.val % 8 = 0 := by
  have e1 : (grid0.coords t 1).val = t.val / 1 % 8 := Pipeline.Grid.coords_val t 1 (by decide) rfl
  simp only [first, e1]
  word_cmp

/-- The 32 rows before a point's row block: the start rows at the first block, later the last rows of the block before. -/
def halo (c : Dev nD) (t : Fin cfg0.N) : Fin 32 → Fin 512 → F .f32 := fun r k =>
  if t.val % 8 = 0 then k0_pay2 (iblk m c 8 t) (ix3 (n0 := 1) (n1 := 32) (n2 := 512) 0 r k)
  else k0_pay3 (iblk m c 3 ⟨t.val - 1, by omega⟩) (iblk m c 4 ⟨t.val - 1, by omega⟩) (ix2 (n0 := 512) (n1 := 512) ⟨480 + r.val, by omega⟩ k)

/-- A point's block of the result. -/
def block (c : Dev nD) (t : Fin cfg0.N) : Vec F S1x512x2048 .f32 :=
  blockOut (halo m c t) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- The scratch between points: its first 32 rows are the last rows of the block just done. -/
def kept (c : Dev nD) (t : Fin cfg0.N) : sProp 𝕄 :=
  iprop(∃ s : Vec F S1x544x512 .f32, ⌜∀ (r : Fin 32) (k : Fin 512), rows.view.read (Elt F) s (ix2 (n0 := 544) (n1 := 512) ⟨r.val, by omega⟩ k) = (k0_pay3 (iblk m c 3 t) (iblk m c 4 t) (ix2 (n0 := 512) (n1 := 512) ⟨480 + r.val, by omega⟩ k))⌝ ∗ ((Memref.whole cc0_scratch0 : Memref sig .tc .vmem S1x544x512 .f32).view.loc (c : Thread nD τ) ↦{fullShare} s))

theorem PhiA_eq (c : Dev nD) :
    (Pipeline.ΦA spec0 c : sProp 𝕄)
      = iprop(iprop((∃ s : Vec F S1x544x512 .f32, ((Memref.whole cc0_scratch0 : Memref sig .tc .vmem S1x544x512 .f32).view.loc (c : Thread nD τ) ↦{fullShare} s)) ∗ (∃ d, owns (c : Thread nD τ) (Memref.whole cc0_scratch1 : Memref sig .tc .vmem S512x2048 .bf16) fullShare d)) ∗ (∃ r, prngReg c r)) := by
  unfold Pipeline.ΦA; rw [scopedRest0_eq]; simp only [owns_whole]; try rfl

/-- What the core holds before point `n`: before the first the scratch at anything, later with the halo rows in place. -/
def PhiS (c : Dev nD) : (n : ℕ) → n ≤ cfg0.N → sProp 𝕄
  | 0, _ => Pipeline.ΦA spec0 c
  | n + 1, hn => iprop(iprop(kept m c ⟨n, hn⟩ ∗ (∃ d, owns (c : Thread nD τ) (Memref.whole cc0_scratch1 : Memref sig .tc .vmem S512x2048 .bf16) fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(kept m c ⟨n, hn⟩ ∗ (∃ d, owns (c : Thread nD τ) (Memref.whole cc0_scratch1 : Memref sig .tc .vmem S512x2048 .bf16) fullShare d)) ∗ (∃ r, prngReg c r)) := rfl
theorem PhiS_pos (c : Dev nD) (n : ℕ) (h : n ≤ cfg0.N) (hz : n ≠ 0) :
    PhiS m c n h = iprop(iprop(kept m c ⟨n - 1, by omega⟩ ∗ (∃ d, owns (c : Thread nD τ) (Memref.whole cc0_scratch1 : Memref sig .tc .vmem S512x2048 .bf16) fullShare d)) ∗ (∃ r, prngReg c r)) := by
  cases n with
  | zero => exact absurd rfl hz
  | succ n => rfl

/-- The proof data: each input at its block, the result at the point's block, the state at the block's last rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => block m c t
    | ⟨19, _⟩ => stateOf (k0_pay3 (iblk m c 3 t) (iblk m c 4 t))
    | ⟨_ + 20, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = block m c t := by dsimp only [dats]
theorem after_19 (c : Dev nD) (t : Fin cfg0.N) : (dats m 0 c).after 19 t = stateOf (k0_pay3 (iblk m c 3 t) (iblk m c 4 t)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  rw [show (dats m 0 c).Φ t.succ = PhiS m c (t.val + 1) t.isLt from rfl, PhiS_succ]
  have hN : t.val < 16 := lt_of_lt_of_eq t.isLt (show cfg0.N = 16 from N_0)
  by_cases h0 : t.val % 8 = 0
  · have hh : halo m c t = fun r k => k0_pay2 (iblk m c 8 t) (ix3 (n0 := 1) (n1 := 32) (n2 := 512) 0 r k) := by
      funext r k; unfold halo; rw [if_pos h0]
    have hb : block m c t = blockOut (fun r k => k0_pay2 (iblk m c 8 t) (ix3 (n0 := 1) (n1 := 32) (n2 := 512) 0 r k)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by
      unfold block; rw [hh]
    rw [hb]
    have hΦ : (dats m 0 c).Φ t.castSucc ⊢ iprop(iprop((∃ s : Vec F S1x544x512 .f32, ((Memref.whole cc0_scratch0 : Memref sig .tc .vmem S1x544x512 .f32).view.loc (c : Thread nD τ) ↦{fullShare} s)) ∗ (∃ d, owns (c : Thread nD τ) (Memref.whole cc0_scratch1 : Memref sig .tc .vmem S512x2048 .bf16) fullShare d)) ∗ (∃ r, prngReg c r)) := by
      by_cases hz : t.val = 0
      · rw [PhiS_castSucc m c t, PhiS_zero m c _ _ hz, PhiA_eq]
      · rw [PhiS_castSucc m c t, PhiS_pos m c _ _ hz]
        unfold kept
        iintro ⟨⟨⟨%s, %hs, HS0⟩, HS1⟩, Hg⟩
        isplitl [HS0 HS1]
        · isplitl [HS0]
          · iexists _; iexact HS0
          iexact HS1
        iexact Hg
    refine (sep_mono_left hΦ).trans ?_
    unfold kept
    iintro ⟨⟨⟨⟨%xs, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply (run_first c (grid0.coords t) _ _ _ _ _ _ _ _ _ _ _ _ _ _ _ _ _ _ _ _ _ _ _ _ _ _ _ _ _ _ _ _ _ _ _ _ _ _ _ _ _ _ ((first_iff t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [HS0]; · iexact HS0
    isplitl [HS1]; · iexact HS1
    iintro ⟨H0, H1, H2, H3, H4, H5, H6, H7, H8, H9, H10, H11, H12, H13, H14, H15, H16, H17, H18, H19, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · have hz : t.val ≠ 0 := fun h => h0 (by rw [h])
    rw [PhiS_castSucc m c t, PhiS_pos m c _ _ hz]
    have hh : halo m c t = fun r k => k0_pay3 (iblk m c 3 ⟨t.val - 1, by omega⟩) (iblk m c 4 ⟨t.val - 1, by omega⟩) (ix2 (n0 := 512) (n1 := 512) ⟨480 + r.val, by omega⟩ k) := by
      funext r k; unfold halo; rw [if_neg h0]
    unfold kept
    iintro ⟨⟨⟨⟨%xs, %hs, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    have hs' : ∀ (r : Fin 32) (k : Fin 512), rows.view.read (Elt F) xs (ix2 (n0 := 544) (n1 := 512) ⟨r.val, by omega⟩ k) = halo m c t r k := fun r k => (hs r k).trans (congrFun (congrFun hh r) k).symm
    unfold block
    iapply (run_later c (grid0.coords t) _ _ _ _ _ _ _ _ _ _ _ _ _ _ _ _ _ _ _ _ _ _ _ _ _ _ _ _ _ _ _ _ _ _ _ _ _ _ _ _ _ _ (fun h => h0 ((first_iff t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs (halo m c t) hs' Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [HS0]; · iexact HS0
    isplitl [HS1]; · iexact HS1
    iintro ⟨H0, H1, H2, H3, H4, H5, H6, H7, H8, H9, H10, H11, H12, H13, H14, H15, H16, H17, H18, H19, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The pipeline's body obligation. -/
theorem body_obligation (c : Dev nD) : BodyObligation (dats (F := F) m 0 c) (defs₀ (F := F)) Variants.none () Set.univ forgotten := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 16 := N_0
  rw [show (dats m 0 c).Φ (Fin.last cfg0.N) = PhiS m c cfg0.N (le_refl _) from rfl, PhiS_pos m c _ _ (by omega), PhiA_eq]
  unfold kept
  iintro ⟨⟨⟨%s, %hs, HS0⟩, HS1⟩, Hg⟩
  isplitl [HS0 HS1]
  · isplitl [HS0]
    · iexists _; iexact HS0
    iexact HS1
  iexact Hg

set_option backward.isDefEq.respectTransparency.types false in
set_option maxHeartbeats 3200000 in
/-- The launch: the arrays end as the proof data says, the other buffers as the call found them, every counter at zero. -/
theorem run_main_quiescent : θ_run defs (onTc (τ := τ) (main (F := F))) (s₀ m ρ)
    (fun r => (Pipeline.RDat.FramePost cfg0 (fun c => (dats m 0 c).toRForget forgotten) (V m)) r ∧ r.2.sem = fun _ => 0) :=
  Pipeline.θ_run_frame_track_forget_shared (Q' := _) cfgs (dats m) (0 : Fin 1) launch₀0 defs₀ Variants.none forgotten m ρ main
    (hbody := fun c => (body_obligation m c).loose) (hq := fun _ _ _ => rfl)
    (howed := fun _ _ => rfl) (V := V m) (hmain := hmain m Variants.none) (hA := A_eq m) (hin := hin m) (hout := hout m)

/-- The arguments end unchanged, and the arrays of the layer's output and of the convolution's state at what the points wrote. -/
theorem run_out : θ_run defs (onTc (τ := τ) (main (F := F))) ⟨m, fun _ => 0, ρ⟩ (fun r => (∀ c : Dev nD,
      r.2.mem ((c.tc : Thread nD τ).loc main_v5_0) = (dats m 0 c).arrAt 18 cfg0.N
      ∧ r.2.mem ((c.tc : Thread nD τ).loc main_v5_1) = (dats m 0 c).arrAt 19 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
    ⟨((dats m 0 c).toRForget_arrAt_iff (fgt := forgotten) (w := 18) rfl cfg0.N _).mp ((h.1 c).1 18),
      ((dats m 0 c).toRForget_arrAt_iff (fgt := forgotten) (w := 19) rfl cfg0.N _).mp ((h.1 c).1 19),
      (Pipeline.RDat.FramePost.arr_in h.1 c 0 rfl).trans ((A_eq m c 0).trans (V_main_arg0 m c)),
      (Pipeline.RDat.FramePost.arr_in h.1 c 7 rfl).trans ((A_eq m c 7).trans (V_main_arg1 m c)),
      (Pipeline.RDat.FramePost.arr_in h.1 c 1 rfl).trans ((A_eq m c 1).trans (V_main_arg2 m c)),
      (Pipeline.RDat.FramePost.arr_in h.1 c 10 rfl).trans ((A_eq m c 10).trans (V_main_arg3 m c)),
      (Pipeline.RDat.FramePost.arr_in h.1 c 11 rfl).trans ((A_eq m c 11).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      (Pipeline.RDat.FramePost.arr_in h.1 c 15 rfl).trans ((A_eq m c 15).trans (V_main_arg8 m c)),
      (Pipeline.RDat.FramePost.arr_in h.1 c 16 rfl).trans ((A_eq m c 16).trans (V_main_arg9 m c)),
      ((h.1 c).2 main_arg10 (Pipeline.mem_restRefs_of main_arg10 (by decide) (by decide))).trans (V_main_arg10 m c)⟩, h.2⟩) (run_main_quiescent m ρ)

/-- The frame. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h.1 c).2.2, h.2⟩) (run_out m ρ)

end Cert.MixIdeal.Hand

end
-- ==== Proof.MixBlocks.lean ====
module

public import proofs.«01_k».proof.Proof.MixRows
public import proofs.«01_k».proof.Proof.MixFrame
public import Idealize.ShloMosaic.Lib.Pipeline.Value
public import Idealize.ShloMosaic.Lib.StableHlo.Run
public import Idealize.ShloMosaic.Lib.Tactic
public import Idealize.ShloMosaic.Lib.Pointwise

/-!
The blocks a point of the mixer is given, entry by entry, as entries of the arrays.
-/

@[expose] public section

set_option maxRecDepth 16384

noncomputable section

open Idealize.ShloMosaic Idealize.ShloMosaic.TcCoe Idealize.SL.Sem
open Idealize.ShloMosaic.Pipeline (Dat)
open scoped BigOperators

namespace Cert.MixIdeal.Hand

open Cert.MixIdeal Cert.MixIdeal.Gen Cert.MixSpec

variable (m : (ℓ : Loc nD τ sig) → Buf (Elt Ideal) ℓ)

/-- The batch entry of a point. -/
def bOf (t : Fin cfg0.N) : Fin 2 := ⟨t.val / 8, by have h : t.val < 16 := lt_of_lt_of_eq t.isLt N_0; omega⟩
/-- A row of a point's block as a row of the sequence. -/
def sOf (t : Fin cfg0.N) (r : Fin 512) : Fin 4096 := ⟨t.val % 8 * 512 + r.val, by omega⟩

/-- The layer's input rows of a point. -/
theorem win0_apply (c : Dev nD) (t : Fin cfg0.N) (r : Fin 512) (k : Fin 2048) :
    iblk m c 0 t (ix3 (n0 := 1) (n1 := 512) (n2 := 2048) 0 r k) = V m c main_arg0 (ix3 (n0 := 2) (n1 := 4096) (n2 := 2048) (bOf t) (sOf t r) ⟨0 + k.val, by omega⟩) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg0 _ = V m c main_arg0 _
  congr 1
  funext a
  apply Fin.ext
  match a with
  | ⟨0, _⟩ => show (BitVec.ofNat 32 (grid0.coords t 0).val).toNat * 1 + 1 * 0 = t.val / 8
              rw [e0, BitVec.toNat_ofNat]; omega
  | ⟨1, _⟩ => show (BitVec.ofNat 32 (grid0.coords t 1).val).toNat * 512 + 1 * r.val = t.val % 8 * 512 + r.val
              rw [e1, BitVec.toNat_ofNat]; omega
  | ⟨2, _⟩ => show 0 * 2048 + 1 * k.val = 0 + k.val; omega

/-- The attention's rows of a point. -/
theorem win1_apply (c : Dev nD) (t : Fin cfg0.N) (r : Fin 512) (k : Fin 1024) :
    iblk m c 1 t (ix3 (n0 := 1) (n1 := 512) (n2 := 1024) 0 r k) = V m c main_arg2 (ix3 (n0 := 2) (n1 := 4096) (n2 := 1024) (bOf t) (sOf t r) ⟨0 + k.val, by omega⟩) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg2 _ = V m c main_arg2 _
  congr 1
  funext a
  apply Fin.ext
  match a with
  | ⟨0, _⟩ => show (BitVec.ofNat 32 (grid0.coords t 0).val).toNat * 1 + 1 * 0 = t.val / 8
              rw [e0, BitVec.toNat_ofNat]; omega
  | ⟨1, _⟩ => show (BitVec.ofNat 32 (grid0.coords t 1).val).toNat * 512 + 1 * r.val = t.val % 8 * 512 + r.val
              rw [e1, BitVec.toNat_ofNat]; omega
  | ⟨2, _⟩ => show 0 * 1024 + 1 * k.val = 0 + k.val; omega

/-- The attention's gates of a point. -/
theorem win2_apply (c : Dev nD) (t : Fin cfg0.N) (r : Fin 512) (k : Fin 1024) :
    X0_2 m c t (ix3 (n0 := 1) (n1 := 512) (n2 := 1024) 0 r k) = V m c main_arg1 (ix3 (n0 := 2) (n1 := 4096) (n2 := 6656) (bOf t) (sOf t r) ⟨3072 + k.val, by omega⟩) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold X0_2 Pipeline.Window.fill
  rw [dif_pos (moved0_2 t _)]
  unfold iblk
  rw [View.read_apply]
  show V m c main_arg1 _ = V m c main_arg1 _
  congr 1
  funext a
  apply Fin.ext
  match a with
  | ⟨0, _⟩ => show (BitVec.ofNat 32 (grid0.coords t 0).val).toNat * 1 + 1 * 0 = t.val / 8
              rw [e0, BitVec.toNat_ofNat]; omega
  | ⟨1, _⟩ => show (BitVec.ofNat 32 (grid0.coords t 1).val).toNat * 512 + 1 * r.val = t.val % 8 * 512 + r.val
              rw [e1, BitVec.toNat_ofNat]; omega
  | ⟨2, _⟩ => show 3 * 1024 + 1 * k.val = 3072 + k.val; omega

/-- 512 of the projected columns, rows of a point. -/
theorem win3_apply (c : Dev nD) (t : Fin cfg0.N) (r : Fin 512) (k : Fin 512) :
    iblk m c 3 t (ix3 (n0 := 1) (n1 := 512) (n2 := 512) 0 r k) = V m c main_arg1 (ix3 (n0 := 2) (n1 := 4096) (n2 := 6656) (bOf t) (sOf t r) ⟨4096 + k.val, by omega⟩) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg1 _ = V m c main_arg1 _
  congr 1
  funext a
  apply Fin.ext
  match a with
  | ⟨0, _⟩ => show (BitVec.ofNat 32 (grid0.coords t 0).val).toNat * 1 + 1 * 0 = t.val / 8
              rw [e0, BitVec.toNat_ofNat]; omega
  | ⟨1, _⟩ => show (BitVec.ofNat 32 (grid0.coords t 1).val).toNat * 512 + 1 * r.val = t.val % 8 * 512 + r.val
              rw [e1, BitVec.toNat_ofNat]; omega
  | ⟨2, _⟩ => show 8 * 512 + 1 * k.val = 4096 + k.val; omega

/-- 512 of the projected columns, rows of a point. -/
theorem win4_apply (c : Dev nD) (t : Fin cfg0.N) (r : Fin 512) (k : Fin 512) :
    iblk m c 4 t (ix3 (n0 := 1) (n1 := 512) (n2 := 512) 0 r k) = V m c main_arg1 (ix3 (n0 := 2) (n1 := 4096) (n2 := 6656) (bOf t) (sOf t r) ⟨4608 + k.val, by omega⟩) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg1 _ = V m c main_arg1 _
  congr 1
  funext a
  apply Fin.ext
  match a with
  | ⟨0, _⟩ => show (BitVec.ofNat 32 (grid0.coords t 0).val).toNat * 1 + 1 * 0 = t.val / 8
              rw [e0, BitVec.toNat_ofNat]; omega
  | ⟨1, _⟩ => show (BitVec.ofNat 32 (grid0.coords t 1).val).toNat * 512 + 1 * r.val = t.val % 8 * 512 + r.val
              rw [e1, BitVec.toNat_ofNat]; omega
  | ⟨2, _⟩ => show 9 * 512 + 1 * k.val = 4608 + k.val; omega

/-- 512 of the projected columns, rows of a point. -/
theorem win5_apply (c : Dev nD) (t : Fin cfg0.N) (r : Fin 512) (k : Fin 512) :
    iblk m c 5 t (ix3 (n0 := 1) (n1 := 512) (n2 := 512) 0 r k) = V m c main_arg1 (ix3 (n0 := 2) (n1 := 4096) (n2 := 6656) (bOf t) (sOf t r) ⟨5120 + k.val, by omega⟩) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg1 _ = V m c main_arg1 _
  congr 1
  funext a
  apply Fin.ext
  match a with
  | ⟨0, _⟩ => show (BitVec.ofNat 32 (grid0.coords t 0).val).toNat * 1 + 1 * 0 = t.val / 8
              rw [e0, BitVec.toNat_ofNat]; omega
  | ⟨1, _⟩ => show (BitVec.ofNat 32 (grid0.coords t 1).val).toNat * 512 + 1 * r.val = t.val % 8 * 512 + r.val
              rw [e1, BitVec.toNat_ofNat]; omega
  | ⟨2, _⟩ => show 10 * 512 + 1 * k.val = 5120 + k.val; omega

/-- 512 of the projected columns, rows of a point. -/
theorem win6_apply (c : Dev nD) (t : Fin cfg0.N) (r : Fin 512) (k : Fin 512) :
    iblk m c 6 t (ix3 (n0 := 1) (n1 := 512) (n2 := 512) 0 r k) = V m c main_arg1 (ix3 (n0 := 2) (n1 := 4096) (n2 := 6656) (bOf t) (sOf t r) ⟨5632 + k.val, by omega⟩) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg1 _ = V m c main_arg1 _
  congr 1
  funext a
  apply Fin.ext
  match a with
  | ⟨0, _⟩ => show (BitVec.ofNat 32 (grid0.coords t 0).val).toNat * 1 + 1 * 0 = t.val / 8
              rw [e0, BitVec.toNat_ofNat]; omega
  | ⟨1, _⟩ => show (BitVec.ofNat 32 (grid0.coords t 1).val).toNat * 512 + 1 * r.val = t.val % 8 * 512 + r.val
              rw [e1, BitVec.toNat_ofNat]; omega
  | ⟨2, _⟩ => show 11 * 512 + 1 * k.val = 5632 + k.val; omega

/-- 512 of the projected columns, rows of a point. -/
theorem win7_apply (c : Dev nD) (t : Fin cfg0.N) (r : Fin 512) (k : Fin 512) :
    iblk m c 7 t (ix3 (n0 := 1) (n1 := 512) (n2 := 512) 0 r k) = V m c main_arg1 (ix3 (n0 := 2) (n1 := 4096) (n2 := 6656) (bOf t) (sOf t r) ⟨6144 + k.val, by omega⟩) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg1 _ = V m c main_arg1 _
  congr 1
  funext a
  apply Fin.ext
  match a with
  | ⟨0, _⟩ => show (BitVec.ofNat 32 (grid0.coords t 0).val).toNat * 1 + 1 * 0 = t.val / 8
              rw [e0, BitVec.toNat_ofNat]; omega
  | ⟨1, _⟩ => show (BitVec.ofNat 32 (grid0.coords t 1).val).toNat * 512 + 1 * r.val = t.val % 8 * 512 + r.val
              rw [e1, BitVec.toNat_ofNat]; omega
  | ⟨2, _⟩ => show 12 * 512 + 1 * k.val = 6144 + k.val; omega

/-- The rows before the first block. -/
theorem win8_apply (c : Dev nD) (t : Fin cfg0.N) (r : Fin 32) (k : Fin 512) :
    iblk m c 8 t (ix3 (n0 := 1) (n1 := 32) (n2 := 512) 0 r k) = V m c main_v0 (ix3 (n0 := 2) (n1 := 32) (n2 := 512) (bOf t) r k) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_v0 _ = V m c main_v0 _
  congr 1
  funext a
  apply Fin.ext
  match a with
  | ⟨0, _⟩ => show (BitVec.ofNat 32 (grid0.coords t 0).val).toNat * 1 + 1 * 0 = t.val / 8
              rw [e0, BitVec.toNat_ofNat]; omega
  | ⟨1, _⟩ => show 0 * 32 + 1 * r.val = r.val; omega
  | ⟨2, _⟩ => show 0 * 512 + 1 * k.val = k.val; omega

/-- The memory's keys or values of a batch entry. -/
theorem win9_apply (c : Dev nD) (t : Fin cfg0.N) (r : Fin 256) (k : Fin 512) :
    iblk m c 9 t (ix4 (n0 := 1) (n1 := 1) (n2 := 256) (n3 := 512) 0 0 r k) = V m c main_arg3 (ix4 (n0 := 4) (n1 := 2) (n2 := 256) (n3 := 1024) 0 (bOf t) r ⟨0 + k.val, by omega⟩) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg3 _ = V m c main_arg3 _
  congr 1
  funext a
  apply Fin.ext
  match a with
  | ⟨0, _⟩ => show 0 * 1 + 1 * 0 = 0; omega
  | ⟨1, _⟩ => show (BitVec.ofNat 32 (grid0.coords t 0).val).toNat * 1 + 1 * 0 = t.val / 8
              rw [e0, BitVec.toNat_ofNat]; omega
  | ⟨2, _⟩ => show 0 * 256 + 1 * r.val = r.val; omega
  | ⟨3, _⟩ => show 0 * 512 + 1 * k.val = 0 + k.val; omega

/-- The memory's keys or values of a batch entry. -/
theorem win10_apply (c : Dev nD) (t : Fin cfg0.N) (r : Fin 256) (k : Fin 512) :
    iblk m c 10 t (ix4 (n0 := 1) (n1 := 1) (n2 := 256) (n3 := 512) 0 0 r k) = V m c main_arg3 (ix4 (n0 := 4) (n1 := 2) (n2 := 256) (n3 := 1024) 0 (bOf t) r ⟨512 + k.val, by omega⟩) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg3 _ = V m c main_arg3 _
  congr 1
  funext a
  apply Fin.ext
  match a with
  | ⟨0, _⟩ => show 0 * 1 + 1 * 0 = 0; omega
  | ⟨1, _⟩ => show (BitVec.ofNat 32 (grid0.coords t 0).val).toNat * 1 + 1 * 0 = t.val / 8
              rw [e0, BitVec.toNat_ofNat]; omega
  | ⟨2, _⟩ => show 0 * 256 + 1 * r.val = r.val; omega
  | ⟨3, _⟩ => show 1 * 512 + 1 * k.val = 512 + k.val; omega

/-- The taps. -/
theorem win11_apply (c : Dev nD) (t : Fin cfg0.N) (r : Fin 31) (k : Fin 512) :
    iblk m c 11 t (ix2 (n0 := 31) (n1 := 512) r k) = V m c main_arg4 (ix2 (n0 := 31) (n1 := 512) r k) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg4 _ = V m c main_arg4 _
  congr 1
  funext a
  apply Fin.ext
  match a with
  | ⟨0, _⟩ => show 0 * 31 + 1 * r.val = r.val; omega
  | ⟨1, _⟩ => show 0 * 512 + 1 * k.val = k.val; omega

/-- A row of 512. -/
theorem win12_apply (c : Dev nD) (t : Fin cfg0.N) (k : Fin 512) :
    iblk m c 12 t (ix2 (n0 := 1) (n1 := 512) 0 k) = V m c main_v1 (ix2 (n0 := 1) (n1 := 512) 0 k) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_v1 _ = V m c main_v1 _
  congr 1
  funext a
  apply Fin.ext
  match a with
  | ⟨0, _⟩ => show 0 * 1 + 1 * 0 = 0; omega
  | ⟨1, _⟩ => show 0 * 512 + 1 * k.val = k.val; omega

/-- A row of 512. -/
theorem win13_apply (c : Dev nD) (t : Fin cfg0.N) (k : Fin 512) :
    iblk m c 13 t (ix2 (n0 := 1) (n1 := 512) 0 k) = V m c main_v2 (ix2 (n0 := 1) (n1 := 512) 0 k) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_v2 _ = V m c main_v2 _
  congr 1
  funext a
  apply Fin.ext
  match a with
  | ⟨0, _⟩ => show 0 * 1 + 1 * 0 = 0; omega
  | ⟨1, _⟩ => show 0 * 512 + 1 * k.val = k.val; omega

/-- A row of 512. -/
theorem win14_apply (c : Dev nD) (t : Fin cfg0.N) (k : Fin 512) :
    iblk m c 14 t (ix2 (n0 := 1) (n1 := 512) 0 k) = V m c main_v3 (ix2 (n0 := 1) (n1 := 512) 0 k) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_v3 _ = V m c main_v3 _
  congr 1
  funext a
  apply Fin.ext
  match a with
  | ⟨0, _⟩ => show 0 * 1 + 1 * 0 = 0; omega
  | ⟨1, _⟩ => show 0 * 512 + 1 * k.val = k.val; omega

/-- The convolution's weights. -/
theorem win15_apply (c : Dev nD) (t : Fin cfg0.N) (r k : Fin 512) :
    iblk m c 15 t (ix3 (n0 := 1) (n1 := 512) (n2 := 512) 0 r k) = V m c main_arg8 (ix3 (n0 := 4) (n1 := 512) (n2 := 512) 0 r k) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg8 _ = V m c main_arg8 _
  congr 1
  funext a
  apply Fin.ext
  match a with
  | ⟨0, _⟩ => show 0 * 1 + 1 * 0 = 0; omega
  | ⟨1, _⟩ => show 0 * 512 + 1 * r.val = r.val; omega
  | ⟨2, _⟩ => show 0 * 512 + 1 * k.val = k.val; omega

/-- The output weights. -/
theorem win16_apply (c : Dev nD) (t : Fin cfg0.N) (r k : Fin 2048) :
    iblk m c 16 t (ix3 (n0 := 1) (n1 := 2048) (n2 := 2048) 0 r k) = V m c main_arg9 (ix3 (n0 := 4) (n1 := 2048) (n2 := 2048) 0 r k) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_arg9 _ = V m c main_arg9 _
  congr 1
  funext a
  apply Fin.ext
  match a with
  | ⟨0, _⟩ => show 0 * 1 + 1 * 0 = 0; omega
  | ⟨1, _⟩ => show 0 * 2048 + 1 * r.val = r.val; omega
  | ⟨2, _⟩ => show 0 * 2048 + 1 * k.val = k.val; omega

/-- A row of 2048. -/
theorem win17_apply (c : Dev nD) (t : Fin cfg0.N) (k : Fin 2048) :
    iblk m c 17 t (ix2 (n0 := 1) (n1 := 2048) 0 k) = V m c main_v4 (ix2 (n0 := 1) (n1 := 2048) 0 k) := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  unfold iblk
  rw [View.read_apply]
  show V m c main_v4 _ = V m c main_v4 _
  congr 1
  funext a
  apply Fin.ext
  match a with
  | ⟨0, _⟩ => show 0 * 1 + 1 * 0 = 0; omega
  | ⟨1, _⟩ => show 0 * 2048 + 1 * k.val = k.val; omega

theorem V_v1 (c : Dev nD) : (V m c main_v1 : S1x512.Idx → Elt Ideal .f32) = shapeCast S1x512 (m ((c : Thread nD τ).loc main_arg5) : S512.Idx → Elt Ideal .f32) shapeCasts_S512_S1x512 := by
  show StableHlo.after hostOps0 (fun b => m (c, b)) (Proc.devRef .tc main_v1) = _
  after_results <;> rfl
theorem v1_apply (c : Dev nD) (k : Fin 512) : (V m c main_v1 (ix2 (n0 := 1) (n1 := 512) 0 k) : EReal) = m ((c : Thread nD τ).loc main_arg5) (ix1 (n0 := 512) k) := by
  rw [V_v1]
  exact shapeCast_apply _ _ _ (ix1 (n0 := 512) k) (by rw [Shape.rowMajor_val_two, Shape.rowMajor_val_one]; show k.val = 0 * 512 + k.val; omega)

theorem V_v2 (c : Dev nD) : (V m c main_v2 : S1x512.Idx → Elt Ideal .f32) = shapeCast S1x512 (m ((c : Thread nD τ).loc main_arg6) : S512.Idx → Elt Ideal .f32) shapeCasts_S512_S1x512 := by
  show StableHlo.after hostOps0 (fun b => m (c, b)) (Proc.devRef .tc main_v2) = _
  after_results <;> rfl
theorem v2_apply (c : Dev nD) (k : Fin 512) : (V m c main_v2 (ix2 (n0 := 1) (n1 := 512) 0 k) : EReal) = m ((c : Thread nD τ).loc main_arg6) (ix1 (n0 := 512) k) := by
  rw [V_v2]
  exact shapeCast_apply _ _ _ (ix1 (n0 := 512) k) (by rw [Shape.rowMajor_val_two, Shape.rowMajor_val_one]; show k.val = 0 * 512 + k.val; omega)

theorem V_v3 (c : Dev nD) : (V m c main_v3 : S1x512.Idx → Elt Ideal .f32) = shapeCast S1x512 (m ((c : Thread nD τ).loc main_arg7) : S512.Idx → Elt Ideal .f32) shapeCasts_S512_S1x512 := by
  show StableHlo.after hostOps0 (fun b => m (c, b)) (Proc.devRef .tc main_v3) = _
  after_results <;> rfl
theorem v3_apply (c : Dev nD) (k : Fin 512) : (V m c main_v3 (ix2 (n0 := 1) (n1 := 512) 0 k) : EReal) = m ((c : Thread nD τ).loc main_arg7) (ix1 (n0 := 512) k) := by
  rw [V_v3]
  exact shapeCast_apply _ _ _ (ix1 (n0 := 512) k) (by rw [Shape.rowMajor_val_two, Shape.rowMajor_val_one]; show k.val = 0 * 512 + k.val; omega)

theorem V_v4 (c : Dev nD) : (V m c main_v4 : S1x2048.Idx → Elt Ideal .f32) = shapeCast S1x2048 (m ((c : Thread nD τ).loc main_arg10) : S2048.Idx → Elt Ideal .f32) shapeCasts_S2048_S1x2048 := by
  show StableHlo.after hostOps0 (fun b => m (c, b)) (Proc.devRef .tc main_v4) = _
  after_results <;> rfl
theorem v4_apply (c : Dev nD) (k : Fin 2048) : (V m c main_v4 (ix2 (n0 := 1) (n1 := 2048) 0 k) : EReal) = m ((c : Thread nD τ).loc main_arg10) (ix1 (n0 := 2048) k) := by
  rw [V_v4]
  exact shapeCast_apply _ _ _ (ix1 (n0 := 2048) k) (by rw [Shape.rowMajor_val_two, Shape.rowMajor_val_one]; show k.val = 0 * 2048 + k.val; omega)

/-- The rows before the first block are zeros. -/
theorem v0_apply (c : Dev nD) (j : S2x32x512.Idx) : V m c main_v0 j = (0 : EReal) := by
  have e : (V m c main_v0 : S2x32x512.Idx → Elt Ideal .f32) = (broadcastInDim S2x32x512 ![] bcast_S_S2x32x512 (constant S_ .f32 0x00000000#32) : FVec Ideal S2x32x512 .f32) := by
    show StableHlo.after hostOps0 (fun b => m (c, b)) (Proc.devRef .tc main_v0) = _
    after_results <;> rfl
  rw [e]
  exact Ideal.ofBits_zero_f32

end Cert.MixIdeal.Hand

end
-- ==== Proof.MixEq.lean ====
module

public import proofs.«01_k».proof.Proof.MixRows
public import proofs.«01_k».proof.Proof.MixFrame
public import proofs.«01_k».proof.Proof.MixBlocks
public import Idealize.ShloMosaic.Lib.Pipeline.Value
public import Idealize.ShloMosaic.Lib.StableHlo.Run
public import Idealize.ShloMosaic.Lib.Tactic
public import Idealize.ShloMosaic.Lib.Pointwise

/-!
What the mixer's kernel leaves in the layer's output array, the plain mixer's result, and in the array of the
convolution's state, the last thirty rows of the convolution's input.
-/

@[expose] public section

set_option maxRecDepth 16384

noncomputable section

open Idealize.ShloMosaic Idealize.ShloMosaic.TcCoe Idealize.SL.Sem
open Idealize.ShloMosaic.Pipeline (Dat)
open scoped BigOperators

namespace Cert.MixIdeal.Hand

open Cert.MixIdeal Cert.MixIdeal.Gen Cert.MixSpec

variable (m : (ℓ : Loc nD τ sig) → Buf (Elt Ideal) ℓ)

/-- The mixer's arguments as the memory holds them. -/
def args (c : Dev nD) : Args where
  x b s e := m ((c : Thread nD τ).loc main_arg0) (ix3 (n0 := 2) (n1 := 4096) (n2 := 2048) b s e)
  z b s e := m ((c : Thread nD τ).loc main_arg1) (ix3 (n0 := 2) (n1 := 4096) (n2 := 6656) b s e)
  a b s e := m ((c : Thread nD τ).loc main_arg2) (ix3 (n0 := 2) (n1 := 4096) (n2 := 1024) b s e)
  mkv b n j := m ((c : Thread nD τ).loc main_arg3) (ix4 (n0 := 4) (n1 := 2) (n2 := 256) (n3 := 1024) 0 b n j)
  wd t k := m ((c : Thread nD τ).loc main_arg4) (ix2 (n0 := 31) (n1 := 512) t k)
  bd k := m ((c : Thread nD τ).loc main_arg5) (ix1 (n0 := 512) k)
  lg k := m ((c : Thread nD τ).loc main_arg6) (ix1 (n0 := 512) k)
  lb k := m ((c : Thread nD τ).loc main_arg7) (ix1 (n0 := 512) k)
  pw l k := m ((c : Thread nD τ).loc main_arg8) (ix3 (n0 := 4) (n1 := 512) (n2 := 512) 0 l k)
  wo l k := m ((c : Thread nD τ).loc main_arg9) (ix3 (n0 := 4) (n1 := 2048) (n2 := 2048) 0 l k)
  gp k := m ((c : Thread nD τ).loc main_arg10) (ix1 (n0 := 2048) k)

/-- The gated rows: a number times the logistic of its gate. -/
theorem pay3_apply (a g : Vec Ideal S1x512x512 .f32) (r k : Fin 512) :
    (k0_pay3 a g (ix2 r k) : EReal) = a (ix3 0 r k) * Ideal.logistic (g (ix3 0 r k)) := by
  pointwise [k0_pay3]

theorem pay2_apply (x : Vec Ideal S1x32x512 .f32) (r : Fin 32) (k : Fin 512) : (k0_pay2 x (ix3 0 r k) : EReal) = x (ix3 0 r k) := by
  pointwise [k0_pay2]

/-- A gated row of a point's block is a row of the convolution's input. -/
theorem glu_apply (c : Dev nD) (t : Fin cfg0.N) (r k : Fin 512) (n : ℕ) (hn : n = t.val % 8 * 512 + r.val + 30) :
    (k0_pay3 (iblk m c 3 t) (iblk m c 4 t) (ix2 (n0 := 512) (n1 := 512) r k) : EReal) = gate (args m c) (bOf t) k n := by
  subst hn
  refine (pay3_apply _ _ r k).trans ?_
  rw [win3_apply, win4_apply, V_main_arg1]
  unfold gate
  rw [dif_pos ⟨by omega, by omega⟩]
  have hs : ∀ h, (⟨t.val % 8 * 512 + r.val + 30 - 30, h⟩ : Fin 4096) = sOf t r := fun h => Fin.ext (by show t.val % 8 * 512 + r.val + 30 - 30 = t.val % 8 * 512 + r.val; omega)
  simp only [hs]
  rfl

/-- The extended inputs of a point are rows of the convolution's input. -/
theorem ext_apply (c : Dev nD) (t : Fin cfg0.N) (k : Fin 512) (n : ℕ) (h2 : 2 ≤ n) (hn : n < 544) :
    colOf (ext (halo m c t) (k0_pay3 (iblk m c 3 t) (iblk m c 4 t))) k n = gate (args m c) (bOf t) k (t.val % 8 * 512 + n - 2) := by
  have ht : t.val < 16 := lt_of_lt_of_eq t.isLt N_0
  unfold colOf
  rw [dif_pos hn]
  unfold ext
  by_cases h : n < 32
  · rw [dif_pos (by exact h)]
    unfold halo
    by_cases h8 : t.val % 8 = 0
    · rw [if_pos h8]
      refine (pay2_apply _ ⟨n, h⟩ k).trans ?_
      rw [win8_apply, v0_apply]
      unfold gate
      rw [dif_neg (by omega)]
    · rw [if_neg h8]
      refine (glu_apply m c ⟨t.val - 1, by omega⟩ ⟨480 + n, by omega⟩ k (t.val % 8 * 512 + n - 2) ?_).trans ?_
      · show t.val % 8 * 512 + n - 2 = (t.val - 1) % 8 * 512 + (480 + n) + 30
        omega
      · congr 1
        apply Fin.ext
        show (t.val - 1) / 8 = t.val / 8
        omega
  · rw [dif_neg (by exact h)]
    refine glu_apply m c t ⟨n - 32, by omega⟩ k (t.val % 8 * 512 + n - 2) ?_
    show t.val % 8 * 512 + n - 2 = t.val % 8 * 512 + (n - 32) + 30
    omega

/-- The convolution of a point's block. -/
theorem conv_apply (c : Dev nD) (t : Fin cfg0.N) (r k : Fin 512) :
    (cblock (ext (halo m c t) (k0_pay3 (iblk m c 3 t) (iblk m c 4 t))) (iblk m c 11 t) (iblk m c 12 t) (ix2 r k) : EReal) = conv (args m c) (bOf t) (sOf t r) k := by
  show cv (colOf _ k) (tapOf _ k) _ (2 + r.val) = _
  unfold cv conv
  refine congrArg₂ (· + ·) (Finset.sum_congr rfl fun n hn => ?_) ?_
  · have hn' : n < 31 := Finset.mem_range.mp hn
    refine congrArg₂ (· * ·) ?_ ?_
    · refine (ext_apply m c t k (n + (2 + r.val)) (by omega) (by omega)).trans ?_
      congr 1
      show t.val % 8 * 512 + (n + (2 + r.val)) - 2 = n + (t.val % 8 * 512 + r.val)
      omega
    · unfold tapOf tap
      rw [dif_pos hn', dif_pos hn']
      refine (win11_apply m c t ⟨n, hn'⟩ k).trans ?_
      rw [V_main_arg4]
      rfl
  · exact (win12_apply m c t k).trans (v1_apply m c k)

/-- A point's row of the three parts is the plain mixer's row. -/
theorem row_apply (c : Dev nD) (t : Fin cfg0.N) (r : Fin 512) :
    blockRow (iblk m c 1 t) (X0_2 m c t) (ext (halo m c t) (k0_pay3 (iblk m c 3 t) (iblk m c 4 t))) (iblk m c 11 t) (iblk m c 12 t) (iblk m c 13 t) (iblk m c 14 t) (iblk m c 15 t)
      (iblk m c 5 t) (iblk m c 6 t) (iblk m c 7 t) (flat (iblk m c 9 t)) (flat (iblk m c 10 t)) r = row (args m c) (bOf t) (sOf t r) := by
  have z0 : ∀ {n N : ℕ} (k : Fin n) (h : 0 + k.val < N) (h' : k.val < N), (⟨0 + k.val, h⟩ : Fin N) = ⟨k.val, h'⟩ := fun k h h' => Fin.ext (Nat.zero_add _)
  have p1 : (fun j => (iblk m c 1 t (ix3 (n0 := 1) (n1 := 512) (n2 := 1024) 0 r j) : EReal)) = (args m c).a (bOf t) (sOf t r) := funext fun j => by
    rw [win1_apply, V_main_arg2, z0 j _ j.isLt]; rfl
  have p2 : (fun j => (X0_2 m c t (ix3 (n0 := 1) (n1 := 512) (n2 := 1024) 0 r j) : EReal)) = fun j => (args m c).z (bOf t) (sOf t r) ⟨3072 + j.val, by omega⟩ := funext fun j => by
    rw [win2_apply, V_main_arg1]; rfl
  have p3 : (fun l => (cblock (ext (halo m c t) (k0_pay3 (iblk m c 3 t) (iblk m c 4 t))) (iblk m c 11 t) (iblk m c 12 t) (ix2 (n0 := 512) (n1 := 512) r l) : EReal)) = conv (args m c) (bOf t) (sOf t r) :=
    funext fun l => conv_apply m c t r l
  have p4 : (fun l => (iblk m c 13 t (ix2 (n0 := 1) (n1 := 512) 0 l) : EReal)) = (args m c).lg := funext fun l => (win13_apply m c t l).trans (v2_apply m c l)
  have p5 : (fun l => (iblk m c 14 t (ix2 (n0 := 1) (n1 := 512) 0 l) : EReal)) = (args m c).lb := funext fun l => (win14_apply m c t l).trans (v3_apply m c l)
  have p6 : (fun l k => (iblk m c 15 t (ix3 (n0 := 1) (n1 := 512) (n2 := 512) 0 l k) : EReal)) = (args m c).pw := funext fun l => funext fun k => by
    rw [win15_apply, V_main_arg8]; rfl
  have p7 : (fun j => (iblk m c 5 t (ix3 (n0 := 1) (n1 := 512) (n2 := 512) 0 r j) : EReal)) = fun j => (args m c).z (bOf t) (sOf t r) ⟨5120 + j.val, by omega⟩ := funext fun j => by
    rw [win5_apply, V_main_arg1]; rfl
  have p8 : (fun j => (iblk m c 6 t (ix3 (n0 := 1) (n1 := 512) (n2 := 512) 0 r j) : EReal)) = fun j => (args m c).z (bOf t) (sOf t r) ⟨5632 + j.val, by omega⟩ := funext fun j => by
    rw [win6_apply, V_main_arg1]; rfl
  have p9 : (fun j => (iblk m c 7 t (ix3 (n0 := 1) (n1 := 512) (n2 := 512) 0 r j) : EReal)) = fun j => (args m c).z (bOf t) (sOf t r) ⟨6144 + j.val, by omega⟩ := funext fun j => by
    rw [win7_apply, V_main_arg1]; rfl
  have p10 : (fun (n : Fin 256) (j : Fin 512) => (flat (iblk m c 9 t) (ix2 (n0 := 256) (n1 := 512) n j) : EReal)) = fun n j => (args m c).mkv (bOf t) n ⟨j.val, by omega⟩ := funext fun n => funext fun j => by
    refine (win9_apply m c t n j).trans ?_
    rw [V_main_arg3, z0 j _ (by omega)]; rfl
  have p11 : (fun (n : Fin 256) (j : Fin 512) => (flat (iblk m c 10 t) (ix2 (n0 := 256) (n1 := 512) n j) : EReal)) = fun n j => (args m c).mkv (bOf t) n ⟨512 + j.val, by omega⟩ := funext fun n => funext fun j => by
    refine (win10_apply m c t n j).trans ?_
    rw [V_main_arg3]; rfl
  unfold blockRow row
  rw [p1, p2, p3, p4, p5, p6, p7, p8, p9, p10, p11]

/-- A point's block of the result. -/
theorem block_apply (c : Dev nD) (t : Fin cfg0.N) (r : Fin 512) (e : Fin 2048) :
    (block m c t (ix3 (n0 := 1) (n1 := 512) (n2 := 2048) 0 r e) : EReal) = out (args m c) (bOf t) (sOf t r) e := by
  unfold block blockOut
  refine (out_apply _ _ _ _ r e).trans ?_
  unfold out
  have p0 : (iblk m c 0 t (ix3 (n0 := 1) (n1 := 512) (n2 := 2048) 0 r e) : EReal) = (args m c).x (bOf t) (sOf t r) e := by
    rw [win0_apply, V_main_arg0]
    show (args m c).x (bOf t) (sOf t r) ⟨0 + e.val, _⟩ = _
    congr 1
    exact Fin.ext (Nat.zero_add _)
  have pw : (fun l j => (iblk m c 16 t (ix3 (n0 := 1) (n1 := 2048) (n2 := 2048) 0 l j) : EReal)) = (args m c).wo := funext fun l => funext fun k => by
    rw [win16_apply, V_main_arg9]; rfl
  have pg : (iblk m c 17 t (ix2 (n0 := 1) (n1 := 2048) 0 e) : EReal) = (args m c).gp e := (win17_apply m c t e).trans (v4_apply m c e)
  have pm : (fun j => (mixed (iblk m c 1 t) (X0_2 m c t) (ext (halo m c t) (k0_pay3 (iblk m c 3 t) (iblk m c 4 t))) (iblk m c 11 t) (iblk m c 12 t) (iblk m c 13 t) (iblk m c 14 t) (iblk m c 15 t)
      (iblk m c 5 t) (iblk m c 6 t) (iblk m c 7 t) (flat (iblk m c 9 t)) (flat (iblk m c 10 t)) (ix2 (n0 := 512) (n1 := 2048) r j) : EReal)) = row (args m c) (bOf t) (sOf t r) :=
    (funext fun j => mixed_apply _ _ _ _ _ _ _ _ _ _ _ _ _ r j).trans (row_apply m c t r)
  rw [p0, pw, pg, pm]

/-- What the array ends holding. -/
def result (c : Dev nD) : Buf (Elt Ideal) ((c : Thread nD τ).loc main_v5_0) := fun i : S2x4096x2048.Idx => out (args m c) (i 0) (i 1) (i 2)

/-- Each point writes back its block of that array. -/
theorem flushed_eq (c : Dev nD) (t : Fin cfg0.N) (_ : (cfg0.win 18).flush t = true) :
    (dats m 0 c).flushed 18 t = ((cfg0.win 18).blk t).view.read (Elt Ideal) (result m c) := by
  show (cfg0.win 18).cut (grid0.coords t) ((dats m 0 c).after 18 t) = _
  rw [after_18]
  funext j
  rw [View.read_apply]
  show (block m c t j : EReal) = result m c (((cfg0.win 18).blk t).view.emb j)
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  obtain ⟨r, e, rfl⟩ : ∃ (r : Fin 512) (e : Fin 2048), j = (ix3 (n0 := 1) (n1 := 512) (n2 := 2048) 0 r e : S1x512x2048.Idx) :=
    ⟨j 1, j 2, by funext a; fin_cases a <;> first | rfl | exact Subsingleton.elim (α := Fin 1) _ _⟩
  have hi : ((cfg0.win 18).blk t).view.emb (ix3 (n0 := 1) (n1 := 512) (n2 := 2048) 0 r e) = (ix3 (bOf t) (sOf t r) e : S2x4096x2048.Idx) := by
    funext a
    apply Fin.ext
    match a with
    | ⟨0, _⟩ => show (BitVec.ofNat 32 (grid0.coords t 0).val).toNat * 1 + 1 * 0 = t.val / 8
                rw [e0, BitVec.toNat_ofNat]; omega
    | ⟨1, _⟩ => show (BitVec.ofNat 32 (grid0.coords t 1).val).toNat * 512 + 1 * r.val = t.val % 8 * 512 + r.val
                rw [e1, BitVec.toNat_ofNat]; omega
    | ⟨2, _⟩ => show 0 * 2048 + 1 * e.val = e.val; omega
  rw [hi]
  exact block_apply m c t r e

/-- The blocks of all points cover the array. -/
theorem final (c : Dev nD) : (dats m 0 c).arrAt 18 cfg0.N = result m c :=
  (dats m 0 c).arrAt_eq_of_cover 18 (result m c) (flushed_eq m c) fun i =>
    have h0 : (i 0 : Nat) < 2 := (i 0).isLt
    have h1 : (i 1 : Nat) < 4096 := (i 1).isLt
    have h2 : (i 2 : Nat) < 2048 := (i 2).isLt
    have hN : cfg0.N = 16 := N_0
    ⟨⟨(i 0 : Nat) * 8 + (i 1 : Nat) / 512, by omega⟩, flush0_18 _, by
      generalize hT : (⟨(i 0 : Nat) * 8 + (i 1 : Nat) / 512, by omega⟩ : Fin cfg0.N) = t
      have hv : t.val = (i 0 : Nat) * 8 + (i 1 : Nat) / 512 := by rw [← hT]
      have e0 : (grid0.coords t 0).val = t.val / 8 % 2 := Pipeline.Grid.coords_val t 0 (by decide) rfl
      have e1 : (grid0.coords t 1).val = t.val / 1 % 8 := Pipeline.Grid.coords_val t 1 (by decide) rfl
      show i ∈ ((View.whole main_v5_0).slice (win0_18.rect t)).set
      rw [View.set_slice_whole, Rect.mem_set_unit]
      intro a
      match a with
      | ⟨0, _⟩ => show (BitVec.ofNat 32 (grid0.coords t 0).val).toNat * 1 ≤ (i 0 : Nat) ∧ (i 0 : Nat) < (BitVec.ofNat 32 (grid0.coords t 0).val).toNat * 1 + 1
                  rw [e0, BitVec.toNat_ofNat]; omega
      | ⟨1, _⟩ => show (BitVec.ofNat 32 (grid0.coords t 1).val).toNat * 512 ≤ (i 1 : Nat) ∧ (i 1 : Nat) < (BitVec.ofNat 32 (grid0.coords t 1).val).toNat * 512 + 512
                  rw [e1, BitVec.toNat_ofNat]; omega
      | ⟨2, _⟩ => show 0 * 2048 ≤ (i 2 : Nat) ∧ (i 2 : Nat) < 0 * 2048 + 2048
                  omega⟩

/-- What the array of the convolution's state ends holding: the last thirty rows of the convolution's input. -/
def state (c : Dev nD) : Buf (Elt Ideal) ((c : Thread nD τ).loc main_v5_1) := fun i : S2x30x512.Idx => gate (args m c) (i 0) (i 2) (4096 + (i 1).val)

/-- A sequence's last point writes back the sequence's block of that array. -/
theorem flushed_state (c : Dev nD) (t : Fin cfg0.N) (hf : (cfg0.win 19).flush t = true) :
    (dats m 0 c).flushed 19 t = ((cfg0.win 19).blk t).view.read (Elt Ideal) (state m c) := by
  have h7 : t.val % 8 = 7 := (flush0_19 t).mp hf
  show (cfg0.win 19).cut (grid0.coords t) ((dats m 0 c).after 19 t) = _
  rw [after_19]
  funext j
  rw [View.read_apply]
  show (stateOf (k0_pay3 (iblk m c 3 t) (iblk m c 4 t)) j : EReal) = state m c (((cfg0.win 19).blk t).view.emb j)
  have ht : t.val < 16 := Nat.lt_of_lt_of_eq t.isLt N_0
  have e0 : (grid0.coords t 0).val = t.val / 8 % 2 := Pipeline.Grid.coords_val t 0 (by decide) rfl
  obtain ⟨r, k, rfl⟩ : ∃ (r : Fin 30) (k : Fin 512), j = (ix3 (n0 := 1) (n1 := 30) (n2 := 512) 0 r k : S1x30x512.Idx) :=
    ⟨j 1, j 2, by funext a; fin_cases a <;> first | rfl | exact Subsingleton.elim (α := Fin 1) _ _⟩
  have hi : ((cfg0.win 19).blk t).view.emb (ix3 (n0 := 1) (n1 := 30) (n2 := 512) 0 r k) = (ix3 (bOf t) r k : S2x30x512.Idx) := by
    funext a
    apply Fin.ext
    match a with
    | ⟨0, _⟩ => show (BitVec.ofNat 32 (grid0.coords t 0).val).toNat * 1 + 1 * 0 = t.val / 8
                rw [e0, BitVec.toNat_ofNat]; omega
    | ⟨1, _⟩ => show 0 * 30 + 1 * r.val = r.val; omega
    | ⟨2, _⟩ => show 0 * 512 + 1 * k.val = k.val; omega
  rw [hi]
  exact glu_apply m c t ⟨482 + r.val, by omega⟩ k (4096 + r.val) (by show 4096 + r.val = t.val % 8 * 512 + (482 + r.val) + 30; omega)

/-- The two sequences' blocks cover the array. -/
theorem final_state (c : Dev nD) : (dats m 0 c).arrAt 19 cfg0.N = state m c :=
  (dats m 0 c).arrAt_eq_of_cover 19 (state m c) (flushed_state m c) fun i =>
    have h0 : (i 0 : Nat) < 2 := (i 0).isLt
    have h1 : (i 1 : Nat) < 30 := (i 1).isLt
    have h2 : (i 2 : Nat) < 512 := (i 2).isLt
    have hN : cfg0.N = 16 := N_0
    ⟨⟨(i 0 : Nat) * 8 + 7, by omega⟩, (flush0_19 _).mpr (by show ((i 0 : Nat) * 8 + 7) % 8 = 7; omega), by
      generalize hT : (⟨(i 0 : Nat) * 8 + 7, by omega⟩ : Fin cfg0.N) = t
      have hv : t.val = (i 0 : Nat) * 8 + 7 := by rw [← hT]
      have e0 : (grid0.coords t 0).val = t.val / 8 % 2 := Pipeline.Grid.coords_val t 0 (by decide) rfl
      show i ∈ ((View.whole main_v5_1).slice (win0_19.rect t)).set
      rw [View.set_slice_whole, Rect.mem_set_unit]
      intro a
      match a with
      | ⟨0, _⟩ => show (BitVec.ofNat 32 (grid0.coords t 0).val).toNat * 1 ≤ (i 0 : Nat) ∧ (i 0 : Nat) < (BitVec.ofNat 32 (grid0.coords t 0).val).toNat * 1 + 1
                  rw [e0, BitVec.toNat_ofNat]; omega
      | ⟨1, _⟩ => show 0 * 30 ≤ (i 1 : Nat) ∧ (i 1 : Nat) < 0 * 30 + 30
                  omega
      | ⟨2, _⟩ => show 0 * 512 ≤ (i 2 : Nat) ∧ (i 2 : Nat) < 0 * 512 + 512
                  omega⟩

end Cert.MixIdeal.Hand

end
-- ==== Proof.MixRef.lean ====
module

public import proofs.«01_k».proof.Proof.MixSpec
public import proofs.«01_k».proof.Proof.Gen.MixReferenceIdeal.Run
public import Idealize.ShloMosaic.Lib.Pipeline.Value
public import Idealize.ShloMosaic.Lib.Pointwise

/-!
What the mixer's reference computes at the ideal values, entry by entry: the plain mixer, where the scores are finite.
-/

@[expose] public section

set_option maxRecDepth 16384

noncomputable section

namespace Cert.MixReferenceIdeal.Value

open Cert.MixReferenceIdeal Cert.MixReferenceIdeal.Gen Cert.MixSpec
open Idealize.ShloMosaic Idealize.ShloMosaic.TcCoe
open Idealize.SL.Sem
open scoped BigOperators

variable (V0 : Valuation τ sig (Elt Ideal))

/-- The mixer's arguments as the reference finds them. -/
def args : Args where
  x b s e := V0 (Proc.devRef .tc main_arg0) (ix3 (n0 := 2) (n1 := 4096) (n2 := 2048) b s e)
  z b s e := V0 (Proc.devRef .tc main_arg1) (ix3 (n0 := 2) (n1 := 4096) (n2 := 6656) b s e)
  a b s e := V0 (Proc.devRef .tc main_arg2) (ix3 (n0 := 2) (n1 := 4096) (n2 := 1024) b s e)
  mkv b n j := V0 (Proc.devRef .tc main_arg3) (ix4 (n0 := 4) (n1 := 2) (n2 := 256) (n3 := 1024) 0 b n j)
  wd t k := V0 (Proc.devRef .tc main_arg4) (ix2 (n0 := 31) (n1 := 512) t k)
  bd k := V0 (Proc.devRef .tc main_arg5) (ix1 (n0 := 512) k)
  lg k := V0 (Proc.devRef .tc main_arg6) (ix1 (n0 := 512) k)
  lb k := V0 (Proc.devRef .tc main_arg7) (ix1 (n0 := 512) k)
  pw l k := V0 (Proc.devRef .tc main_arg8) (ix3 (n0 := 4) (n1 := 512) (n2 := 512) 0 l k)
  wo l k := V0 (Proc.devRef .tc main_arg9) (ix3 (n0 := 4) (n1 := 2048) (n2 := 2048) 0 l k)
  gp k := V0 (Proc.devRef .tc main_arg10) (ix1 (n0 := 2048) k)

/-- The convolution's input: thirty rows of zeros, then the gated rows. -/
theorem gate_ref (b : Fin 2) (n : Fin 4126) (k : Fin 512) : (res_main_v22 V0 (ix3 (n0 := 2) (n1 := 4126) (n2 := 512) b n k) : EReal) = gate (args V0) b k n.val := by
  unfold res_main_v22 gate
  by_cases h : n.val < 30
  · rw [dif_neg (by omega)]
    refine (concatenate_pair_apply_left (t := S2x4126x512) (s₁ := S2x30x512) 1 _ _ _ _ rfl (ix3 (n0 := 2) (n1 := 30) (n2 := 512) b ⟨n.val, h⟩ k) (fun a => by
      match a with
      | ⟨0, _⟩ => rfl
      | ⟨1, _⟩ => rfl
      | ⟨2, _⟩ => rfl)).trans ?_
    exact Ideal.ofBits_zero_f32
  · rw [dif_pos ⟨by omega, n.isLt⟩]
    refine (concatenate_pair_apply_right (t := S2x4126x512) (s₁ := S2x30x512) (s₂ := S2x4096x512) 1 _ _ _ _ rfl rfl (ix3 (n0 := 2) (n1 := 4096) (n2 := 512) b ⟨n.val - 30, by omega⟩ k) (fun a ha => by
      match a with
      | ⟨0, _⟩ => rfl
      | ⟨1, _⟩ => exact absurd rfl ha
      | ⟨2, _⟩ => rfl) (by show n.val - 30 + 30 = n.val; omega)).trans ?_
    unfold res_main_v0 args
    pointwise []
    simp only [← Nat.add_assoc, Nat.reduceAdd]
    rfl

/-- The convolution. -/
theorem conv_ref (b : Fin 2) (s : Fin 4096) (k : Fin 512) : (res_main_v243 V0 (ix3 (n0 := 2) (n1 := 4096) (n2 := 512) b s k) : EReal) = conv (args V0) b s k := by
  have hu : ∀ n : Fin 4126, (res_main_v22 V0 (ix3 (n0 := 2) (n1 := 4126) (n2 := 512) b n k) : EReal) = gate (args V0) b k n.val := fun n => gate_ref V0 b n k
  have hw : ∀ t : Fin 31, (V0 (Proc.devRef .tc main_arg4) (ix2 (n0 := 31) (n1 := 512) t k) : EReal) = tap (args V0) k t.val := fun t => by
    unfold tap; rw [dif_pos t.isLt]; rfl
  unfold res_main_v243 res_main_v177 res_main_v100 conv
  generalize gate (args V0) b k = G at hu ⊢
  generalize tap (args V0) k = W at hw ⊢
  generalize res_main_v22 V0 = u at hu ⊢
  pointwise []
  simp only [Finset.sum_range_succ, Finset.sum_range_zero, zero_add, hu, hw]
  rfl

/-- The normalised convolution. -/
theorem norm_ref (b : Fin 2) (s : Fin 4096) (k : Fin 512) : (res_main_v267 V0 (ix3 (n0 := 2) (n1 := 4096) (n2 := 512) b s k) : EReal) = normed (conv (args V0) b s) (args V0).lg (args V0).lb k := by
  have h : (fun l => (res_main_v243 V0 (ix3 (n0 := 2) (n1 := 4096) (n2 := 512) b s l) : EReal)) = conv (args V0) b s := funext fun l => conv_ref V0 b s l
  rw [← h]
  unfold res_main_v267 res_main_v249 res_main_v247 normed mean args
  generalize res_main_v243 V0 = x
  pointwise []

/-- The queries and the keys of a head. -/
abbrev qry (b : Fin 2) (s : Fin 4096) (h : Fin 4) : Fin 128 → EReal := fun d => (args V0).z b s ⟨5632 + (128 * h.val + d.val), by omega⟩
abbrev key (b : Fin 2) (h : Fin 4) (n : Fin 256) : Fin 128 → EReal := fun d => (args V0).mkv b n ⟨128 * h.val + d.val, by omega⟩

/-- The scores. -/
theorem score_ref (b : Fin 2) (h : Fin 4) (s : Fin 4096) (n : Fin 256) : (res_main_v275 V0 (ix4 (n0 := 2) (n1 := 4) (n2 := 4096) (n3 := 256) b h s n) : EReal) = score (qry V0 b s h) (key V0 b h n) := by
  rw [← score_eq]
  unfold res_main_v275 res_main_v8 res_main_v0 qry key args
  pointwise []
  simp only [← Nat.add_assoc, Nat.reduceAdd, Nat.mul_comm 128]

/-- The greatest of each row of scores. -/
def rowMax (x : FVec Ideal S2x4x4096x256 .f32) : FVec Ideal S2x4x4096 .f32 :=
  Host.reduce FloatOps.maximumf x (constant S_ .f32 0xFF800000#32) reducesTo_S2x4x4096x256_S2x4x4096_d3 h_S_

theorem rowMax_apply (x : FVec Ideal S2x4x4096x256 .f32) (b : Fin 2) (h : Fin 4) (s : Fin 4096) :
    rowMax x (ix3 (n0 := 2) (n1 := 4) (n2 := 4096) b h s) = (top fun k => x (ix4 b h s k) : EReal) := by
  unfold top rowMax
  rw [Host.reduce_eq_fold]
  exact reducesTo_S2x4x4096x256_S2x4x4096_d3.fold_fiber_r4_a3 (ix3 b h s) _ _ x

theorem spread_apply (w : FVec Ideal S2x4x4096x1 .f32) (b : Fin 2) (h : Fin 4) (s : Fin 4096) (n : Fin 256) :
    (broadcastInDim S2x4x4096x256 ![0, 1, 2, 3] bcast_S2x4x4096x1_S2x4x4096x256_0_1_2_3 w : FVec Ideal S2x4x4096x256 .f32) (ix4 (n0 := 2) (n1 := 4) (n2 := 4096) (n3 := 256) b h s n) = w (ix4 (n0 := 2) (n1 := 4) (n2 := 4096) (n3 := 1) b h s 0) := by
  pointwise []

theorem column_apply (w : FVec Ideal S2x4x4096 .f32) (b : Fin 2) (h : Fin 4) (s : Fin 4096) :
    (broadcastInDim S2x4x4096x1 ![0, 1, 2] bcast_S2x4x4096_S2x4x4096x1_0_1_2 w : FVec Ideal S2x4x4096x1 .f32) (ix4 (n0 := 2) (n1 := 4) (n2 := 4096) (n3 := 1) b h s 0) = w (ix3 (n0 := 2) (n1 := 4) (n2 := 4096) b h s) := by
  pointwise []

theorem bottom_apply (b : Fin 2) (h : Fin 4) (s : Fin 4096) :
    (broadcastInDim S2x4x4096 ![] bcast_S_S2x4x4096 (constant S_ .f32 0xFF800000#32) : FVec Ideal S2x4x4096 .f32) (ix3 (n0 := 2) (n1 := 4) (n2 := 4096) b h s) = (Ideal.ofBits FTy.f32 4286578688#32 : EReal) := by
  pointwise []

/-- The exponentials of the scores less the greatest of their row. -/
theorem exp_apply (x : FVec Ideal S2x4x4096x256 .f32) (b : Fin 2) (h : Fin 4) (s : Fin 4096) (n : Fin 256) :
    ((Host.exp (subf x (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant S_ .f32 0xFF800000#32)) (rowMax x))))) : FVec Ideal S2x4x4096x256 .f32) (ix4 (n0 := 2) (n1 := 4) (n2 := 4096) (n3 := 256) b h s n) : EReal)
      = Ideal.exp (x (ix4 b h s n) - top fun k => x (ix4 b h s k)) := by
  have h3 : ∀ y : FVec Ideal S2x4x4096 .f32, (maximumf (broadcastInDim S2x4x4096 ![] bcast_S_S2x4x4096 (constant S_ .f32 0xFF800000#32)) y : FVec Ideal S2x4x4096 .f32) (ix3 (n0 := 2) (n1 := 4) (n2 := 4096) b h s) = y (ix3 (n0 := 2) (n1 := 4) (n2 := 4096) b h s) := fun y =>
    (congrArg (fun w : EReal => max w (y (ix3 (n0 := 2) (n1 := 4) (n2 := 4096) b h s))) ((bottom_apply b h s).trans ninf)).trans (max_eq_right bot_le)
  rw [← rowMax_apply]
  generalize rowMax x = y at h3 ⊢
  exact congrArg (fun w => Ideal.exp (x (ix4 b h s n) - w)) ((spread_apply _ b h s n).trans ((column_apply _ b h s).trans (h3 y)))

theorem exp_ref (b : Fin 2) (h : Fin 4) (s : Fin 4096) (n : Fin 256) : (res_main_v282 V0 (ix4 (n0 := 2) (n1 := 4) (n2 := 4096) (n3 := 256) b h s n) : EReal)
    = Ideal.exp (score (qry V0 b s h) (key V0 b h n) - top fun x => score (qry V0 b s h) (key V0 b h x)) := by
  have hs : (fun n : Fin 256 => (res_main_v275 V0 (ix4 (n0 := 2) (n1 := 4) (n2 := 4096) (n3 := 256) b h s n) : EReal)) = fun n => score (qry V0 b s h) (key V0 b h n) := funext fun n => score_ref V0 b h s n
  unfold res_main_v282
  refine (exp_apply (res_main_v275 V0) b h s n).trans ?_
  rw [hs]
  exact congrArg (fun w => Ideal.exp (w - _)) (congrFun hs n)

/-- The first part of a row: the gated attention. -/
theorem piece0 (b : Fin 2) (s : Fin 4096) (i : Fin 1024) : ((mulf (V0 (Proc.devRef .tc main_arg2)) (mulf (res_main_v1 V0) (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (res_main_v1 V0)))))) : FVec Ideal S2x4096x1024 .f32) (ix3 (n0 := 2) (n1 := 4096) (n2 := 1024) b s i) : EReal)
    = (args V0).a b s i * sg ((args V0).z b s ⟨3072 + i.val, by omega⟩) := by
  unfold res_main_v1 res_main_v0 args sg
  pointwise []
  rfl

/-- The second part: the convolution. -/
theorem piece1 (b : Fin 2) (s : Fin 4096) (i : Fin 512) : ((mulf (Host.dotGeneral dot_S2x4096x512_S512x512_S2x4096x512_2_0_01_1_n_n none (mulf (res_main_v267 V0) (Host.divf (broadcastInDim S2x4096x512 ![] bcast_S_S2x4096x512 (constant S_ .f32 0x3F800000#32)) (addf (broadcastInDim S2x4096x512 ![] bcast_S_S2x4096x512 (constant S_ .f32 0x3F800000#32)) (Host.exp (Host.negf (res_main_v267 V0)))))) (extf .f32 (shapeCast _ (extractStridedSlice S1x512x512 ![0, 0, 0] (V0 (Proc.devRef .tc main_arg8)) slices_S4x512x512_S1x512x512_0_0_0) shapeCasts_S1x512x512_S512x512) bitsLt_bf16_f32)) (mulf (res_main_v4 V0) (Host.divf (broadcastInDim S2x4096x512 ![] bcast_S_S2x4096x512 (constant S_ .f32 0x3F800000#32)) (addf (broadcastInDim S2x4096x512 ![] bcast_S_S2x4096x512 (constant S_ .f32 0x3F800000#32)) (Host.exp (Host.negf (res_main_v4 V0)))))) : FVec Ideal S2x4096x512 .f32) (ix3 (n0 := 2) (n1 := 4096) (n2 := 512) b s i) : EReal)
    = gatedConv (conv (args V0) b s) (args V0).lg (args V0).lb (fun l => (args V0).pw l i) ((args V0).z b s ⟨5120 + i.val, by omega⟩) := by
  have h : ∀ l, (res_main_v267 V0 (ix3 (n0 := 2) (n1 := 4096) (n2 := 512) b s l) : EReal) = normed (conv (args V0) b s) (args V0).lg (args V0).lb l := norm_ref V0 b s
  unfold gatedConv
  simp only [← h]
  generalize res_main_v267 V0 = x
  unfold res_main_v4 res_main_v0 args sg
  pointwise []
  simp only [← Nat.add_assoc, Nat.reduceAdd]
  rfl

/-- The third part: the attention over the memory, where queries and keys are finite. -/
theorem piece2 (hq : ∀ b s (j : Fin 512), ∃ r : ℝ, (args V0).z b s ⟨5632 + j.val, by omega⟩ = r) (hk : ∀ b n (j : Fin 512), ∃ r : ℝ, (args V0).mkv b n ⟨j.val, by omega⟩ = r)
    (b : Fin 2) (s : Fin 4096) (i : Fin 512) : ((mulf (shapeCast _ (transpose S2x4096x4x128 [0, 3, 1, 2] (Host.dotGeneral dot_S2x256x4x128_S2x4x4096x256_S2x4x128x4096_1_3_3_2_02_01 (φ₁ := .f32) none (shapeCast _ (extractStridedSlice S2x256x512 ![0, 0, 512] (res_main_v8 V0) slices_S2x256x1024_S2x256x512_0_0_512) shapeCasts_S2x256x512_S2x256x4x128) (Host.divf (res_main_v282 V0) (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd (res_main_v282 V0) (constant S_ .f32 0x00000000#32) reducesTo_S2x4x4096x256_S2x4x4096_d3 h_S_))))) transposes_S2x4x128x4096_S2x4096x4x128_0_3_1_2) shapeCasts_S2x4096x4x128_S2x4096x512) (mulf (res_main_v6 V0) (Host.divf (broadcastInDim S2x4096x512 ![] bcast_S_S2x4096x512 (constant S_ .f32 0x3F800000#32)) (addf (broadcastInDim S2x4096x512 ![] bcast_S_S2x4096x512 (constant S_ .f32 0x3F800000#32)) (Host.exp (Host.negf (res_main_v6 V0)))))) : FVec Ideal S2x4096x512 .f32) (ix3 (n0 := 2) (n1 := 4096) (n2 := 512) b s i) : EReal)
    = headRow (fun j => (args V0).z b s ⟨5632 + j.val, by omega⟩) (fun j => (args V0).z b s ⟨6144 + j.val, by omega⟩) (fun n j => (args V0).mkv b n ⟨j.val, by omega⟩) (fun n j => (args V0).mkv b n ⟨512 + j.val, by omega⟩) i := by
  have he : ∀ n, (res_main_v282 V0 (ix4 (n0 := 2) (n1 := 4) (n2 := 4096) (n3 := 256) b ⟨i.val / 128, by omega⟩ s n) : EReal) = Ideal.exp (score (qry V0 b s ⟨i.val / 128, by omega⟩) (key V0 b ⟨i.val / 128, by omega⟩ n) - top fun x => score (qry V0 b s ⟨i.val / 128, by omega⟩) (key V0 b ⟨i.val / 128, by omega⟩ x)) :=
    fun n => exp_ref V0 b _ s n
  have hS : ∀ n, ∃ r : ℝ, score (qry V0 b s ⟨i.val / 128, by omega⟩) (key V0 b ⟨i.val / 128, by omega⟩ n) = r := fun n =>
    score_real _ _ (fun d => hq b s ⟨128 * (i.val / 128) + d.val, by omega⟩) (fun d => hk b n ⟨128 * (i.val / 128) + d.val, by omega⟩)
  unfold headRow
  rw [show (fun x => score (fun d => (args V0).z b s ⟨5632 + (128 * (i.val / 128) + d.val), by omega⟩) (fun d => (args V0).mkv b x ⟨128 * (i.val / 128) + d.val, by omega⟩))
    = fun n => score (qry V0 b s ⟨i.val / 128, by omega⟩) (key V0 b ⟨i.val / 128, by omega⟩ n) from rfl]
  rw [← attend_eq _ _ hS]
  simp only [← he]
  clear he hS
  generalize res_main_v282 V0 = x
  unfold res_main_v8 res_main_v6 res_main_v0 args sg
  pointwise []
  simp only [← Nat.add_assoc, Nat.reduceAdd]
  refine congrArg₂ (· * ·) (Finset.sum_congr rfl fun n _ => mul_comm _ _) rfl

/-- The row of the three parts. -/
theorem row_ref (hq : ∀ b s (j : Fin 512), ∃ r : ℝ, (args V0).z b s ⟨5632 + j.val, by omega⟩ = r) (hk : ∀ b n (j : Fin 512), ∃ r : ℝ, (args V0).mkv b n ⟨j.val, by omega⟩ = r)
    (b : Fin 2) (s : Fin 4096) (j : Fin 2048) (p0 : FVec Ideal S2x4096x1024 .f32) (p1 p2 : FVec Ideal S2x4096x512 .f32)
    (h0 : ∀ i : Fin 1024, (p0 (ix3 b s i) : EReal) = (args V0).a b s i * sg ((args V0).z b s ⟨3072 + i.val, by omega⟩))
    (h1 : ∀ i : Fin 512, (p1 (ix3 b s i) : EReal) = gatedConv (conv (args V0) b s) (args V0).lg (args V0).lb (fun l => (args V0).pw l i) ((args V0).z b s ⟨5120 + i.val, by omega⟩))
    (h2 : ∀ i : Fin 512, (p2 (ix3 b s i) : EReal) = headRow (fun j => (args V0).z b s ⟨5632 + j.val, by omega⟩) (fun j => (args V0).z b s ⟨6144 + j.val, by omega⟩) (fun n j => (args V0).mkv b n ⟨j.val, by omega⟩) (fun n j => (args V0).mkv b n ⟨512 + j.val, by omega⟩) i) :
    (concatenate S2x4096x2048 2 [⟨S2x4096x1024, p0⟩, ⟨S2x4096x512, p1⟩, ⟨S2x4096x512, p2⟩] concatenates_S2x4096x1024_S2x4096x512_S2x4096x512_S2x4096x2048_d2 (ix3 (n0 := 2) (n1 := 4096) (n2 := 2048) b s j) : EReal)
      = row (args V0) b s j := by
  unfold row mixRow
  by_cases c0 : j.val < 1024
  · rw [dif_pos c0]
    refine (concatenate_apply_piece (t := S2x4096x2048) 2 _ _ _ 0 (Nat.lt_of_lt_of_eq (by decide : 0 < 3) rfl) S2x4096x1024 p0 rfl rfl 0 rfl (ix3 (n0 := 2) (n1 := 4096) (n2 := 1024) b s ⟨j.val, c0⟩) (fun a ha => by
      match a with
      | ⟨0, _⟩ => rfl
      | ⟨1, _⟩ => rfl
      | ⟨2, _⟩ => exact absurd rfl ha) (by show 0 + j.val = j.val; omega)).trans (h0 _)
  rw [dif_neg c0]
  by_cases c1 : j.val < 1536
  · rw [dif_pos c1]
    refine (concatenate_apply_piece (t := S2x4096x2048) 2 _ _ _ 1 (Nat.lt_of_lt_of_eq (by decide : 1 < 3) rfl) S2x4096x512 p1 rfl rfl 1024 rfl (ix3 (n0 := 2) (n1 := 4096) (n2 := 512) b s ⟨j.val - 1024, by omega⟩) (fun a ha => by
      match a with
      | ⟨0, _⟩ => rfl
      | ⟨1, _⟩ => rfl
      | ⟨2, _⟩ => exact absurd rfl ha) (by show 1024 + (j.val - 1024) = j.val; omega)).trans (h1 _)
  rw [dif_neg c1]
  refine (concatenate_apply_piece (t := S2x4096x2048) 2 _ _ _ 2 (Nat.lt_of_lt_of_eq (by decide : 2 < 3) rfl) S2x4096x512 p2 rfl rfl 1536 rfl (ix3 (n0 := 2) (n1 := 4096) (n2 := 512) b s ⟨j.val - 1536, by omega⟩) (fun a ha => by
    match a with
    | ⟨0, _⟩ => rfl
    | ⟨1, _⟩ => rfl
    | ⟨2, _⟩ => exact absurd rfl ha) (by show 1536 + (j.val - 1536) = j.val; omega)).trans (h2 _)

/-- The output product. -/
theorem product_apply (x : FVec Ideal S2x4096x2048 .f32) (w : FVec Ideal S4x2048x2048 .bf16) (b : Fin 2) (s : Fin 4096) (e : Fin 2048) :
    ((Host.dotGeneral dot_S2x4096x2048_S2048x2048_S2x4096x2048_2_0_01_1_n_n none x (extf .f32 (shapeCast _ (extractStridedSlice S1x2048x2048 ![0, 0, 0] w slices_S4x2048x2048_S1x2048x2048_0_0_0) shapeCasts_S1x2048x2048_S2048x2048) bitsLt_bf16_f32) : FVec Ideal S2x4096x2048 .f32) (ix3 (n0 := 2) (n1 := 4096) (n2 := 2048) b s e) : EReal)
      = prod (fun l => x (ix3 b s l)) (fun l k => w (ix3 0 l k)) e := by
  unfold prod
  pointwise []

theorem product_ref (hq : ∀ b s (j : Fin 512), ∃ r : ℝ, (args V0).z b s ⟨5632 + j.val, by omega⟩ = r) (hk : ∀ b n (j : Fin 512), ∃ r : ℝ, (args V0).mkv b n ⟨j.val, by omega⟩ = r)
    (b : Fin 2) (s : Fin 4096) (e : Fin 2048) : (res_main_v300 V0 (ix3 (n0 := 2) (n1 := 4096) (n2 := 2048) b s e) : EReal) = prod (row (args V0) b s) (args V0).wo e := by
  unfold res_main_v300
  refine (product_apply _ (V0 (Proc.devRef .tc main_arg9)) b s e).trans ?_
  refine congrArg (fun m => prod m (args V0).wo e) (funext fun j => ?_)
  exact row_ref V0 hq hk b s j _ _ _ (piece0 V0 b s) (piece1 V0 b s) (piece2 V0 hq hk b s)

/-- The last steps: the norm of the product, its scale, and the sum with the input. -/
theorem last_apply (y x : FVec Ideal S2x4096x2048 .f32) (g : FVec Ideal S2048 .f32) (b : Fin 2) (s : Fin 4096) (e : Fin 2048) :
    ((addf x (mulf (mulf y (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf y y) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) : FVec Ideal S2x4096x2048 .f32) (ix3 (n0 := 2) (n1 := 4096) (n2 := 2048) b s e) : EReal)
      = x (ix3 b s e) + y (ix3 b s e) * Ideal.rsqrt (Ideal.div (∑ j : Fin 2048, y (ix3 b s j) * y (ix3 b s j)) (Ideal.ofBits FTy.f32 1157627904#32) + Ideal.ofBits FTy.f32 897988541#32) * g (ix1 e) := by
  pointwise []

/-- The reference's result is the plain mixer's, where queries and keys are finite. -/
theorem out_ref (hq : ∀ b s (j : Fin 512), ∃ r : ℝ, (args V0).z b s ⟨5632 + j.val, by omega⟩ = r) (hk : ∀ b n (j : Fin 512), ∃ r : ℝ, (args V0).mkv b n ⟨j.val, by omega⟩ = r)
    (b : Fin 2) (s : Fin 4096) (e : Fin 2048) :
    ((addf (V0 (Proc.devRef .tc main_arg0)) (mulf (mulf (res_main_v300 V0) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (res_main_v300 V0) (res_main_v300 V0)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (V0 (Proc.devRef .tc main_arg10))))) : FVec Ideal S2x4096x2048 .f32) (ix3 (n0 := 2) (n1 := 4096) (n2 := 2048) b s e) : EReal)
      = out (args V0) b s e := by
  refine (last_apply (res_main_v300 V0) (V0 (Proc.devRef .tc main_arg0)) (V0 (Proc.devRef .tc main_arg10)) b s e).trans ?_
  have h : (fun j => (res_main_v300 V0 (ix3 (n0 := 2) (n1 := 4096) (n2 := 2048) b s j) : EReal)) = prod (row (args V0) b s) (args V0).wo := funext fun j => product_ref V0 hq hk b s j
  unfold out outRow
  rw [← h]
  rfl

/-- The reference's convolution state: the last thirty rows of the convolution's input. -/
theorem state_ref (b : Fin 2) (r : Fin 30) (k : Fin 512) :
    (extractStridedSlice S2x30x512 ![0, 4096, 0] (res_main_v22 V0) slices_S2x4126x512_S2x30x512_0_4096_0 (ix3 (n0 := 2) (n1 := 30) (n2 := 512) b r k) : EReal)
      = gate (args V0) b k (4096 + r.val) := by
  refine (congrArg (res_main_v22 V0) (?_ : _ = ix3 (n0 := 2) (n1 := 4126) (n2 := 512) b ⟨4096 + r.val, by omega⟩ k)).trans (gate_ref V0 b ⟨4096 + r.val, by omega⟩ k)
  funext a; apply Fin.ext
  match a with
  | ⟨0, _⟩ => show 0 + b.val = b.val; omega
  | ⟨1, _⟩ => rfl
  | ⟨2, _⟩ => show 0 + k.val = k.val; omega

end Cert.MixReferenceIdeal.Value

end
-- ==== Proof.MixPre.lean ====
module

public import proofs.«01_k».proof.Proof.MixSpec
public import proofs.«01_k».proof.Proof.Gen.Pre_finite_scores
public import Idealize.ShloMosaic.Lib.Pipeline.Value
public import Idealize.ShloMosaic.Lib.Pointwise

/-!
What the precondition says: the queries and the keys of the memory attention are finite.
-/

@[expose] public section

set_option maxRecDepth 16384

noncomputable section

namespace Cert.Pre_finite_scores.Hand

open Cert.Pre_finite_scores Cert.Pre_finite_scores.Facts Cert.MixSpec
open Idealize.ShloMosaic

instance : Facts := Cert.Pre_finite_scores.Gen.facts

/-- A value below plus infinity and above minus infinity is a real number. -/
theorem real_of_bounds (w : EReal) (h1 : w < Ideal.ofBits FTy.f32 2139095040#32) (h2 : Ideal.ofBits FTy.f32 4286578688#32 < w) : ∃ r : ℝ, w = r := by
  rw [pinf] at h1; rw [ninf] at h2
  exact ⟨w.toReal, (EReal.coe_toReal h1.ne h2.ne').symm⟩

/-- The four comparisons of one entry. -/
theorem bits (x1 x2 x3 x4 : BitVec 1) (h : IntOp.andi (IntOp.andi (IntOp.andi x1 x2) x3) x4 = 1#1) : x1 = 1#1 ∧ x2 = 1#1 ∧ x3 = 1#1 ∧ x4 = 1#1 := by
  revert h; unfold IntOp.andi; revert x1 x2 x3 x4; decide

/-- The query row `256 g + n`. -/
theorem query_apply (z : FVec Ideal S2x4096x6656 .f32) (b : Fin 2) (g : Fin 16) (n : Fin 256) (j : Fin 512) :
    (shapeCast S2x16x256x512 (extractStridedSlice S2x4096x512 ![0, 0, 5632] z slices_S2x4096x6656_S2x4096x512_0_0_5632 : FVec Ideal S2x4096x512 .f32) shapeCasts_S2x4096x512_S2x16x256x512 : FVec Ideal S2x16x256x512 .f32) (ix4 (n0 := 2) (n1 := 16) (n2 := 256) (n3 := 512) b g n j)
      = z (ix3 (n0 := 2) (n1 := 4096) (n2 := 6656) b ⟨256 * g.val + n.val, by omega⟩ ⟨5632 + j.val, by omega⟩) := by
  refine (shapeCast_apply (s := S2x4096x512) (t := S2x16x256x512) _ _ _ (ix3 (n0 := 2) (n1 := 4096) (n2 := 512) b ⟨256 * g.val + n.val, by omega⟩ j) (by
    rw [Shape.rowMajor_val_three, Shape.rowMajor_val_four]
    show (b.val * 4096 + (256 * g.val + n.val)) * 512 + j.val = ((b.val * 16 + g.val) * 256 + n.val) * 512 + j.val
    omega)).trans ?_
  pointwise []

/-- The key row `n`. -/
theorem key_apply (k : FVec Ideal S4x2x256x1024 .f32) (b : Fin 2) (n : Fin 256) (j : Fin 512) :
    (broadcastInDim S2x1x256x512 ![0, 2, 3] bcast_S2x256x512_S2x1x256x512_0_2_3 (shapeCast S2x256x512 (extractStridedSlice S1x2x256x512 ![0, 0, 0, 0] k slices_S4x2x256x1024_S1x2x256x512_0_0_0_0 : FVec Ideal S1x2x256x512 .f32) shapeCasts_S1x2x256x512_S2x256x512 : FVec Ideal S2x256x512 .f32) : FVec Ideal S2x1x256x512 .f32) (ix4 (n0 := 2) (n1 := 1) (n2 := 256) (n3 := 512) b 0 n j)
      = k (ix4 (n0 := 4) (n1 := 2) (n2 := 256) (n3 := 1024) 0 b n ⟨j.val, by omega⟩) := by
  pointwise []

/-- An array of one row per batch, spread over the sixteen blocks of rows. -/
theorem spread_apply (w : IVec S2x1x256x512 1) (b : Fin 2) (g : Fin 16) (n : Fin 256) (j : Fin 512) :
    (broadcastInDim S2x16x256x512 ![0, 1, 2, 3] bcast_S2x1x256x512_S2x16x256x512_0_1_2_3 w : IVec S2x16x256x512 1) (ix4 (n0 := 2) (n1 := 16) (n2 := 256) (n3 := 512) b g n j) = w (ix4 (n0 := 2) (n1 := 1) (n2 := 256) (n3 := 512) b 0 n j) := by
  pointwise []

theorem lt_of_bit (x y : EReal) (h : Ideal.cmp .olt x y = 1#1) : x < y := by
  by_contra hn
  have e : Ideal.cmp .olt x y = BitVec.ofBool (decide (x < y)) := rfl
  rw [e, decide_eq_false hn] at h
  exact absurd h (by decide)

theorem gt_of_bit (x y : EReal) (h : Ideal.cmp .ogt x y = 1#1) : y < x := by
  by_contra hn
  have e : Ideal.cmp .ogt x y = BitVec.ofBool (decide (y < x)) := rfl
  rw [e, decide_eq_false hn] at h
  exact absurd h (by decide)

/-- Under the precondition every query and every key is a real number. -/
theorem finite (a0 : FVec Ideal S2x4096x2048 .f32) (z : FVec Ideal S2x4096x6656 .f32) (a2 : FVec Ideal S2x4096x1024 .f32) (k : FVec Ideal S4x2x256x1024 .f32)
    (a4 : FVec Ideal S31x512 .f32) (a5 a6 a7 : FVec Ideal S512 .f32) (a8 : FVec Ideal S4x512x512 .bf16) (a9 : FVec Ideal S4x2048x2048 .bf16) (a10 : FVec Ideal S2048 .f32)
    (h : fn (F := Ideal) a0 z a2 k a4 a5 a6 a7 a8 a9 a10 = fun _ => 1#1) :
    (∀ (b : Fin 2) (s : Fin 4096) (j : Fin 512), ∃ r : ℝ, (z (ix3 (n0 := 2) (n1 := 4096) (n2 := 6656) b s ⟨5632 + j.val, by omega⟩) : EReal) = r)
      ∧ ∀ (b : Fin 2) (n : Fin 256) (j : Fin 512), ∃ r : ℝ, (k (ix4 (n0 := 4) (n1 := 2) (n2 := 256) (n3 := 1024) 0 b n ⟨j.val, by omega⟩) : EReal) = r := by
  have pre := fun (b : Fin 2) (g : Fin 16) (n : Fin 256) (j : Fin 512) => bits _ _ _ _ (congrFun h (ix4 (n0 := 2) (n1 := 16) (n2 := 256) (n3 := 512) b g n j))
  constructor
  · intro b s j
    obtain ⟨p1, p2, -, -⟩ := pre b ⟨s.val / 256, by omega⟩ ⟨s.val % 256, by omega⟩ j
    have e := query_apply z b ⟨s.val / 256, by omega⟩ ⟨s.val % 256, by omega⟩ j
    rw [show (⟨256 * (s.val / 256) + s.val % 256, by omega⟩ : Fin 4096) = s from Fin.ext (by show 256 * (s.val / 256) + s.val % 256 = s.val; omega)] at e
    rw [← e]
    exact real_of_bounds _ (lt_of_bit _ _ p1) (gt_of_bit _ _ p2)
  · intro b n j
    obtain ⟨-, -, p3, p4⟩ := pre b 0 n j
    have e := key_apply k b n j
    rw [← e]
    exact real_of_bounds _ (lt_of_bit _ _ ((spread_apply _ b 0 n j).symm.trans p3)) (gt_of_bit _ _ ((spread_apply _ b 0 n j).symm.trans p4))

end Cert.Pre_finite_scores.Hand

end
-- ==== Proof.MixAlg.lean ====
module

public import proofs.«01_k».proof.Defs
public import proofs.«01_k».proof.Proof.MixEq
public import proofs.«01_k».proof.Proof.MixRef
public import proofs.«01_k».proof.Proof.MixPre
public import Idealize.ShloMosaic.Lib.Quiescent

/-!
The mixer and its reference end with equal outputs, from equal arguments with finite queries and keys.
-/

@[expose] public section

set_option maxRecDepth 16384

noncomputable section

namespace Cert.MixEquation

open Idealize.ShloMosaic Idealize.ShloMosaic.TcCoe
open Idealize.SL.Sem
open Cert.MixIdeal Cert.MixIdeal.Gen

/-- From memories that agree on the arguments, with finite queries and keys, the mixer and its reference end with
    equal outputs, and with their arguments unchanged. -/
theorem algebraic : Cert.algebraic_MixIdeal_MixReferenceIdeal_pre_finite_scores (hMixIdeal := Cert.MixIdeal.Gen.facts) (hMixReferenceIdeal := Cert.MixReferenceIdeal.Gen.facts) (hPre_finite_scores := Cert.Pre_finite_scores.Gen.facts) := by
  intro m g m' g' hpre hagree
  refine ⟨fun c => Cert.MixIdeal.Hand.result m c, fun c => Cert.MixIdeal.Hand.state m c, ?_, ?_⟩
  · exact (θ_run _ _ _).mono (fun _ h c => ⟨(h.1 c).1.trans (Cert.MixIdeal.Hand.final m c), (h.1 c).2.1.trans (Cert.MixIdeal.Hand.final_state m c), (h.1 c).2.2⟩) (Cert.MixIdeal.Hand.run_out (F := Ideal) m g)
  refine (θ_run _ _ _).mono (fun _ h c => ?_) (Cert.MixReferenceIdeal.Value.run (F := Ideal) m' g')
  obtain ⟨hz, hs, ha⟩ := h c
  obtain ⟨e0, e1, e2, e3, e4, e5, e6, e7, e8, e9, e10⟩ := hagree c
  have he : Cert.MixReferenceIdeal.Value.args (StableHlo.launchContents m' c) = Cert.MixIdeal.Hand.args m c := by
    unfold Cert.MixReferenceIdeal.Value.args Cert.MixIdeal.Hand.args
    congr 1
    · funext b s e; exact congrFun e0 _
    · funext b s e; exact congrFun e1 _
    · funext b s e; exact congrFun e2 _
    · funext b s e; exact congrFun e3 _
    · funext b s; exact congrFun e4 _
    · funext b; exact congrFun e5 _
    · funext b; exact congrFun e6 _
    · funext b; exact congrFun e7 _
    · funext b s; exact congrFun e8 _
    · funext b s; exact congrFun e9 _
    · funext b; exact congrFun e10 _
  refine ⟨hz.trans ?_, hs.trans ?_, ha⟩
  swap
  · funext i
    obtain ⟨b, r, k, rfl⟩ : ∃ (b : Fin 2) (r : Fin 30) (k : Fin 512), i = ix3 b r k := ⟨i 0, i 1, i 2, by funext a; fin_cases a <;> rfl⟩
    refine (Cert.MixReferenceIdeal.Value.state_ref (StableHlo.launchContents m' c) b r k).trans ?_
    rw [he]; rfl
  have hf := Cert.Pre_finite_scores.Hand.finite _ _ _ _ _ _ _ _ _ _ _ (hpre c)
  funext i
  obtain ⟨b, s, e, rfl⟩ : ∃ (b : Fin 2) (s : Fin 4096) (e : Fin 2048), i = ix3 b s e := ⟨i 0, i 1, i 2, by funext a; fin_cases a <;> rfl⟩
  refine (Cert.MixReferenceIdeal.Value.out_ref (StableHlo.launchContents m' c) ?_ ?_ b s e).trans ?_
  · rw [he]; exact hf.1
  · rw [he]; exact hf.2
  · rw [he]; rfl

/-- The reference leaves every counter at zero. -/
theorem reference_quiescent : Cert.quiescent_MixReferenceIdeal (hMixReferenceIdeal := Cert.MixReferenceIdeal.Gen.facts) := fun m g _ =>
  (θ_run _ _ _).mono (fun r h => ⟨fun c => (h c).2.2, sem_eq_zero_of_no_sems (by decide) r.2⟩) (Cert.MixReferenceIdeal.Value.run (F := Ideal) m g)

/-- The same where queries and keys are finite. -/
theorem reference_quiescent_finite : Cert.quiescent_MixReferenceIdeal_pre_finite_scores (hMixReferenceIdeal := Cert.MixReferenceIdeal.Gen.facts) (hPre_finite_scores := Cert.Pre_finite_scores.Gen.facts) := fun m g _ =>
  (θ_run _ _ _).mono (fun r h => ⟨fun c => (h c).2.2, sem_eq_zero_of_no_sems (by decide) r.2⟩) (Cert.MixReferenceIdeal.Value.run (F := Ideal) m g)

end Cert.MixEquation

end
-- ==== Proof.lean ====
/- The claims of the statement assembled: the frames of the attention, of the two projections and of the mixer, and the values of
   the memory projection, of the input projection and of the mixer against their references. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.MemReferenceIdeal
public import proofs.«01_k».proof.Proof.Gen.MemReferenceIdeal.Run
public import proofs.«01_k».proof.Proof.MemEq
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.ProjBitsFrame
public import proofs.«01_k».proof.Proof.ProjEq
public import proofs.«01_k».proof.Proof.Gen.Pre_finite_scores
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.MixReferenceIdeal.Run
public import proofs.«01_k».proof.Proof.MixBitsFrame
public import proofs.«01_k».proof.Proof.MixAlg
public import Idealize.ShloMosaic.Adequacy
public import Idealize.ShloMosaic.Init

@[expose] public section

noncomputable section

namespace Cert.Proof

open Idealize.ShloMosaic Idealize.SL.Sem Cert.Kernel

/-- The claims of the statement, in its order. -/
theorem claim : Cert.Claim :=
  ⟨Cert.Kernel.Gen.facts, Cert.KernelIdeal.Gen.facts, Cert.Mem.Gen.facts, Cert.MemIdeal.Gen.facts, Cert.MemReferenceIdeal.Gen.facts,
    Cert.Proj.Gen.facts, Cert.ProjIdeal.Gen.facts, Cert.ProjReferenceIdeal.Gen.facts,
    Cert.Mix.Gen.facts, Cert.MixIdeal.Gen.facts, Cert.MixReferenceIdeal.Gen.facts, Cert.Pre_finite_scores.Gen.facts,
    fun m ρ _ => Cert.Kernel.Gen.frame m ρ,
    fun m ρ _ => Cert.KernelIdeal.Gen.frame m ρ,
    fun m ρ _ => Cert.Mem.Gen.frame m ρ,
    fun m ρ _ => Cert.MemIdeal.Gen.frame m ρ,
    Cert.MemEquation.reference_quiescent,
    fun m ρ _ => Cert.Proj.Hand.frame_claim m ρ,
    fun m ρ _ => Cert.ProjIdeal.Hand.frame_claim m ρ,
    Cert.ProjEquation.reference_quiescent,
    fun m ρ _ => Cert.Mix.Hand.frame_claim m ρ,
    fun m ρ _ => Cert.MixIdeal.Hand.frame_claim m ρ,
    fun m ρ _ => Cert.MixIdeal.Hand.frame_claim m ρ,
    Cert.MixEquation.reference_quiescent,
    Cert.MixEquation.reference_quiescent_finite,
    trivial,
    trivial,
    Cert.MemEquation.algebraic,
    trivial,
    Cert.ProjEquation.algebraic,
    trivial,
    Cert.MixEquation.algebraic⟩

end Cert.Proof

end
